-- ==== Defs.lean ====
def Pre_Kernel [hPre_te_ok : Cert.Pre_te_ok.Facts] (m : (ℓ : Loc Cert.Kernel.nD Cert.Kernel.τ Cert.Kernel.sig) → Buf (Elt Bits) ℓ) : Prop :=
  ∀ c : Dev Cert.Kernel.nD,
    (Cert.Pre_te_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_te_ok : Cert.Pre_te_ok.Facts] (m : (ℓ : Loc Cert.KernelIdeal.nD Cert.KernelIdeal.τ Cert.KernelIdeal.sig) → Buf (Elt Ideal) ℓ) : Prop :=
  ∀ c : Dev Cert.KernelIdeal.nD,
    (Cert.Pre_te_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_te_ok : Cert.Pre_te_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_te_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] [hPre_te_ok : Cert.Pre_te_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_te_ok : Cert.Pre_te_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] [hPre_te_ok : Cert.Pre_te_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_te_ok : Cert.Pre_te_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13_6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v38_0)) (v1 : (c : Dev Cert.Kernel2Ideal.nD) → Buf (Elt Ideal) ((c.tc : Thread Cert.Kernel2Ideal.nD Cert.Kernel2Ideal.τ).loc Cert.Kernel2Ideal.main_v38_1)) (v2 : (c : Dev Cert.Kernel2Ideal.nD) → Buf (Elt Ideal) ((c.tc : Thread Cert.Kernel2Ideal.nD Cert.Kernel2Ideal.τ).loc Cert.Kernel2Ideal.main_v38_2)) (v3 : (c : Dev Cert.Kernel2Ideal.nD) → Buf (Elt Ideal) ((c.tc : Thread Cert.Kernel2Ideal.nD Cert.Kernel2Ideal.τ).loc Cert.Kernel2Ideal.main_v38_3)) (v4 : (c : Dev Cert.Kernel2Ideal.nD) → Buf (Elt Ideal) ((c.tc : Thread Cert.Kernel2Ideal.nD Cert.Kernel2Ideal.τ).loc Cert.Kernel2Ideal.main_v38_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v38_0) = v0 c
          ∧ r.2.mem ((c.tc : Thread Cert.Kernel2Ideal.nD Cert.Kernel2Ideal.τ).loc Cert.Kernel2Ideal.main_v38_1) = v1 c
          ∧ r.2.mem ((c.tc : Thread Cert.Kernel2Ideal.nD Cert.Kernel2Ideal.τ).loc Cert.Kernel2Ideal.main_v38_2) = v2 c
          ∧ r.2.mem ((c.tc : Thread Cert.Kernel2Ideal.nD Cert.Kernel2Ideal.τ).loc Cert.Kernel2Ideal.main_v38_3) = v3 c
          ∧ r.2.mem ((c.tc : Thread Cert.Kernel2Ideal.nD Cert.Kernel2Ideal.τ).loc Cert.Kernel2Ideal.main_v38_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v73) = v0 c
          ∧ r.2.mem ((c.tc : Thread Cert.Reference2Ideal.nD Cert.Reference2Ideal.τ).loc Cert.Reference2Ideal.main_v74) = v1 c
          ∧ r.2.mem ((c.tc : Thread Cert.Reference2Ideal.nD Cert.Reference2Ideal.τ).loc Cert.Reference2Ideal.main_v75) = v2 c
          ∧ r.2.mem ((c.tc : Thread Cert.Reference2Ideal.nD Cert.Reference2Ideal.τ).loc Cert.Reference2Ideal.main_v76) = v3 c
          ∧ r.2.mem ((c.tc : Thread Cert.Reference2Ideal.nD Cert.Reference2Ideal.τ).loc Cert.Reference2Ideal.main_v77) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v15)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v15) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v33) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v46_0)) (v1 : (c : Dev Cert.Kernel4Ideal.nD) → Buf (Elt Ideal) ((c.tc : Thread Cert.Kernel4Ideal.nD Cert.Kernel4Ideal.τ).loc Cert.Kernel4Ideal.main_v46_1)) (v2 : (c : Dev Cert.Kernel4Ideal.nD) → Buf (Elt Ideal) ((c.tc : Thread Cert.Kernel4Ideal.nD Cert.Kernel4Ideal.τ).loc Cert.Kernel4Ideal.main_v46_2)) (v3 : (c : Dev Cert.Kernel4Ideal.nD) → Buf (Elt Ideal) ((c.tc : Thread Cert.Kernel4Ideal.nD Cert.Kernel4Ideal.τ).loc Cert.Kernel4Ideal.main_v46_3)) (v4 : (c : Dev Cert.Kernel4Ideal.nD) → Buf (Elt Ideal) ((c.tc : Thread Cert.Kernel4Ideal.nD Cert.Kernel4Ideal.τ).loc Cert.Kernel4Ideal.main_v46_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v46_0) = v0 c
          ∧ r.2.mem ((c.tc : Thread Cert.Kernel4Ideal.nD Cert.Kernel4Ideal.τ).loc Cert.Kernel4Ideal.main_v46_1) = v1 c
          ∧ r.2.mem ((c.tc : Thread Cert.Kernel4Ideal.nD Cert.Kernel4Ideal.τ).loc Cert.Kernel4Ideal.main_v46_2) = v2 c
          ∧ r.2.mem ((c.tc : Thread Cert.Kernel4Ideal.nD Cert.Kernel4Ideal.τ).loc Cert.Kernel4Ideal.main_v46_3) = v3 c
          ∧ r.2.mem ((c.tc : Thread Cert.Kernel4Ideal.nD Cert.Kernel4Ideal.τ).loc Cert.Kernel4Ideal.main_v46_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v75) = v0 c
          ∧ r.2.mem ((c.tc : Thread Cert.Reference4Ideal.nD Cert.Reference4Ideal.τ).loc Cert.Reference4Ideal.main_v76) = v1 c
          ∧ r.2.mem ((c.tc : Thread Cert.Reference4Ideal.nD Cert.Reference4Ideal.τ).loc Cert.Reference4Ideal.main_v77) = v2 c
          ∧ r.2.mem ((c.tc : Thread Cert.Reference4Ideal.nD Cert.Reference4Ideal.τ).loc Cert.Reference4Ideal.main_v78) = v3 c
          ∧ r.2.mem ((c.tc : Thread Cert.Reference4Ideal.nD Cert.Reference4Ideal.τ).loc Cert.Reference4Ideal.main_v79) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v12)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v12) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v22) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v22_0)) (v1 : (c : Dev Cert.Kernel6Ideal.nD) → Buf (Elt Ideal) ((c.tc : Thread Cert.Kernel6Ideal.nD Cert.Kernel6Ideal.τ).loc Cert.Kernel6Ideal.main_v22_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v22_0) = v0 c
          ∧ r.2.mem ((c.tc : Thread Cert.Kernel6Ideal.nD Cert.Kernel6Ideal.τ).loc Cert.Kernel6Ideal.main_v22_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v32) = v0 c
          ∧ r.2.mem ((c.tc : Thread Cert.Reference6Ideal.nD Cert.Reference6Ideal.τ).loc Cert.Reference6Ideal.main_v33) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v10)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v10) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_te_ok : Cert.Pre_te_ok.Facts),
    quiescent_Kernel (hKernel := hKernel) (hPre_te_ok := hPre_te_ok)
    ∧ quiescent_KernelIdeal (hKernelIdeal := hKernelIdeal) (hPre_te_ok := hPre_te_ok)
    ∧ quiescent_ReferenceIdeal (hReferenceIdeal := hReferenceIdeal) (hPre_te_ok := hPre_te_ok)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal) (hPre_te_ok := hPre_te_ok)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_te_ok.lean ====
abbrev S168 : Shape := ⟨1, ![168]⟩
abbrev S1 : Shape := ⟨1, ![1]⟩
abbrev S43008x2048 : Shape := ⟨2, ![43008, 2048]⟩
abbrev S1x32x2048x512 : Shape := ⟨4, ![1, 32, 2048, 512]⟩
abbrev S1x32x512x2048 : Shape := ⟨4, ![1, 32, 512, 2048]⟩
abbrev S_ : Shape := ⟨0, ![]⟩

class Facts : Prop where
  bcast_S_S168 : S_.BroadcastsInDim S168 (![] : Fin 0 → Fin S168.rank)

variable [Facts]

def fn {F : FTy → Type} [FloatOps F] (main_arg0 : IVec S168 32) (main_arg1 : IVec S1 32) (main_arg2 : FVec F S43008x2048 .f32) (main_arg3 : FVec F S1x32x2048x512 .f32) (main_arg4 : FVec F S1x32x2048x512 .f32) (main_arg5 : FVec F S1x32x512x2048 .f32) : IVec S168 1 :=
  let main_c : IVec S_ 32 := constantI S_ 32 0#32
  let main_v0 : IVec S168 32 := broadcastInDim S168 ![] bcast_S_S168 main_c
  let main_v1 : IVec S168 1 := cmpi .sge main_arg0 main_v0
  let main_c_0 : IVec S_ 32 := constantI S_ 32 32#32
  let main_v2 : IVec S168 32 := broadcastInDim S168 ![] bcast_S_S168 main_c_0
  let main_v3 : IVec S168 1 := cmpi .slt main_arg0 main_v2
  let main_v4 : IVec S168 1 := andi main_v1 main_v3
  main_v4
-- ==== Kernel.lean ====
abbrev S168 : Shape := ⟨1, ![168]⟩
abbrev S1 : Shape := ⟨1, ![1]⟩
abbrev S43008x2048 : Shape := ⟨2, ![43008, 2048]⟩
abbrev S1x32x2048x512 : Shape := ⟨4, ![1, 32, 2048, 512]⟩
abbrev S1x32x512x2048 : Shape := ⟨4, ![1, 32, 512, 2048]⟩
abbrev S32x2048x512 : Shape := ⟨3, ![32, 2048, 512]⟩
abbrev S32x512x2048 : Shape := ⟨3, ![32, 512, 2048]⟩
abbrev S256x2048 : Shape := ⟨2, ![256, 2048]⟩
abbrev S1x2048x512 : Shape := ⟨3, ![1, 2048, 512]⟩
abbrev S1x512x2048 : Shape := ⟨3, ![1, 512, 2048]⟩
abbrev S2048x512 : Shape := ⟨2, ![2048, 512]⟩
abbrev S256x512 : Shape := ⟨2, ![256, 512]⟩
abbrev S512x2048 : Shape := ⟨2, ![512, 2048]⟩

abbrev nBuf : Space → Nat
  | .hbm => 8
  | .vmem => 10
  | .smem => 2
  | _ => 0

abbrev bufTy : (tb : Table) → Fin (tcTables nBuf tb) → BufTy
  | .hbm, ⟨0, _⟩ => ⟨S43008x2048, .f32⟩
  | .hbm, ⟨1, _⟩ => ⟨S1x32x2048x512, .f32⟩
  | .hbm, ⟨2, _⟩ => ⟨S1x32x2048x512, .f32⟩
  | .hbm, ⟨3, _⟩ => ⟨S1x32x512x2048, .f32⟩
  | .hbm, ⟨4, _⟩ => ⟨S32x2048x512, .f32⟩
  | .hbm, ⟨5, _⟩ => ⟨S32x2048x512, .f32⟩
  | .hbm, ⟨6, _⟩ => ⟨S32x512x2048, .f32⟩
  | .hbm, ⟨7, _⟩ => ⟨S43008x2048, .f32⟩
  | .local _ .vmem, ⟨0, _⟩ => ⟨S256x2048, .f32⟩
  | .local _ .vmem, ⟨1, _⟩ => ⟨S256x2048, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x512x2048, .f32⟩
  | .local _ .vmem, ⟨7, _⟩ => ⟨S1x512x2048, .f32⟩
  | .local _ .vmem, ⟨8, _⟩ => ⟨S256x2048, .f32⟩
  | .local _ .vmem, ⟨9, _⟩ => ⟨S256x2048, .f32⟩
  | .local _ .smem, ⟨0, _⟩ => ⟨S168, .i32⟩
  | .local _ .smem, ⟨1, _⟩ => ⟨S1, .i32⟩
  | _, _ => ⟨S43008x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![168], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S168.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S168) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S168.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S168) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S168.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S168) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S168 : Shape := ⟨1, ![168]⟩
abbrev S1 : Shape := ⟨1, ![1]⟩
abbrev S43008x2048 : Shape := ⟨2, ![43008, 2048]⟩
abbrev S1x32x2048x512 : Shape := ⟨4, ![1, 32, 2048, 512]⟩
abbrev S1x32x512x2048 : Shape := ⟨4, ![1, 32, 512, 2048]⟩
abbrev S32x2048x512 : Shape := ⟨3, ![32, 2048, 512]⟩
abbrev S32x512x2048 : Shape := ⟨3, ![32, 512, 2048]⟩
abbrev S_ : Shape := ⟨0, ![]⟩
abbrev S168x1 : Shape := ⟨2, ![168, 1]⟩
abbrev S1x32 : Shape := ⟨2, ![1, 32]⟩
abbrev S168x32 : Shape := ⟨2, ![168, 32]⟩
abbrev S168x256x32 : Shape := ⟨3, ![168, 256, 32]⟩
abbrev S43008x32 : Shape := ⟨2, ![43008, 32]⟩
abbrev S32x43008 : Shape := ⟨2, ![32, 43008]⟩
abbrev S1x2048x512 : Shape := ⟨3, ![1, 2048, 512]⟩
abbrev S2048x512 : Shape := ⟨2, ![2048, 512]⟩
abbrev S1x512x2048 : Shape := ⟨3, ![1, 512, 2048]⟩
abbrev S512x2048 : Shape := ⟨2, ![512, 2048]⟩
abbrev S1x43008 : Shape := ⟨2, ![1, 43008]⟩
abbrev S43008 : Shape := ⟨1, ![43008]⟩
abbrev S43008x512 : Shape := ⟨2, ![43008, 512]⟩
abbrev S43008x1 : Shape := ⟨2, ![43008, 1]⟩

abbrev nBuf : Space → Nat
  | .hbm => 72
  | .vmem => 0
  | .smem => 0
  | _ => 0

abbrev bufTy : (tb : Table) → Fin (tcTables nBuf tb) → BufTy
  | .hbm, ⟨0, _⟩ => ⟨S168, .i32⟩
  | .hbm, ⟨1, _⟩ => ⟨S1, .i32⟩
  | .hbm, ⟨2, _⟩ => ⟨S43008x2048, .f32⟩
  | .hbm, ⟨3, _⟩ => ⟨S1x32x2048x512, .f32⟩
  | .hbm, ⟨4, _⟩ => ⟨S1x32x2048x512, .f32⟩
  | .hbm, ⟨5, _⟩ => ⟨S1x32x512x2048, .f32⟩
  | .hbm, ⟨6, _⟩ => ⟨S32x2048x512, .f32⟩
  | .hbm, ⟨7, _⟩ => ⟨S32x2048x512, .f32⟩
  | .hbm, ⟨8, _⟩ => ⟨S32x512x2048, .f32⟩
  | .hbm, ⟨9, _⟩ => ⟨S168, .i32⟩
  | .hbm, ⟨10, _⟩ => ⟨S_, .i32⟩
  | .hbm, ⟨11, _⟩ => ⟨S168, .i32⟩
  | .hbm, ⟨12, _⟩ => ⟨S168, .i1⟩
  | .hbm, ⟨13, _⟩ => ⟨S_, .i32⟩
  | .hbm, ⟨14, _⟩ => ⟨S_, .i32⟩
  | .hbm, ⟨15, _⟩ => ⟨S168, .i32⟩
  | .hbm, ⟨16, _⟩ => ⟨S168, .i32⟩
  | .hbm, ⟨17, _⟩ => ⟨S168x1, .i32⟩
  | .hbm, ⟨18, _⟩ => ⟨S1x32, .i32⟩
  | .hbm, ⟨19, _⟩ => ⟨S168x32, .i32⟩
  | .hbm, ⟨20, _⟩ => ⟨S168x32, .i32⟩
  | .hbm, ⟨21, _⟩ => ⟨S168x32, .i1⟩
  | .hbm, ⟨22, _⟩ => ⟨S168x32, .f32⟩
  | .hbm, ⟨23, _⟩ => ⟨S168x256x32, .f32⟩
  | .hbm, ⟨24, _⟩ => ⟨S43008x32, .f32⟩
  | .hbm, ⟨25, _⟩ => ⟨S_, .f32⟩
  | .hbm, ⟨26, _⟩ => ⟨S43008x2048, .f32⟩
  | .hbm, ⟨27, _⟩ => ⟨S32x43008, .f32⟩
  | .hbm, ⟨28, _⟩ => ⟨S_, .i32⟩
  | .hbm, ⟨29, _⟩ => ⟨S32x2048x512, .f32⟩
  | .hbm, ⟨30, _⟩ => ⟨S32x2048x512, .f32⟩
  | .hbm, ⟨31, _⟩ => ⟨S32x512x2048, .f32⟩
  | .hbm, ⟨32, _⟩ => ⟨S32x43008, .f32⟩
  | .hbm, ⟨33, _⟩ => ⟨S43008x2048, .f32⟩
  | .hbm, ⟨34, _⟩ => ⟨S_, .i32⟩
  | .hbm, ⟨35, _⟩ => ⟨S43008x2048, .f32⟩
  | .hbm, ⟨36, _⟩ => ⟨S_, .i32⟩
  | .hbm, ⟨37, _⟩ => ⟨S_, .i1⟩
  | .hbm, ⟨38, _⟩ => ⟨S_, .i32⟩
  | .hbm, ⟨39, _⟩ => ⟨S_, .i32⟩
  | .hbm, ⟨40, _⟩ => ⟨S1x2048x512, .f32⟩
  | .hbm, ⟨41, _⟩ => ⟨S2048x512, .f32⟩
  | .hbm, ⟨42, _⟩ => ⟨S_, .i32⟩
  | .hbm, ⟨43, _⟩ => ⟨S_, .i32⟩
  | .hbm, ⟨44, _⟩ => ⟨S1x2048x512, .f32⟩
  | .hbm, ⟨45, _⟩ => ⟨S2048x512, .f32⟩
  | .hbm, ⟨46, _⟩ => ⟨S_, .i32⟩
  | .hbm, ⟨47, _⟩ => ⟨S_, .i32⟩
  | .hbm, ⟨48, _⟩ => ⟨S1x512x2048, .f32⟩
  | .hbm, ⟨49, _⟩ => ⟨S512x2048, .f32⟩
  | .hbm, ⟨50, _⟩ => ⟨S_, .i32⟩
  | .hbm, ⟨51, _⟩ => ⟨S1x43008, .f32⟩
  | .hbm, ⟨52, _⟩ => ⟨S43008, .f32⟩
  | .hbm, ⟨53, _⟩ => ⟨S43008x512, .f32⟩
  | .hbm, ⟨54, _⟩ => ⟨S43008x512, .f32⟩
  | .hbm, ⟨55, _⟩ => ⟨S43008x512, .f32⟩
  | .hbm, ⟨56, _⟩ => ⟨S_, .f32⟩
  | .hbm, ⟨57, _⟩ => ⟨S43008x512, .f32⟩
  | .hbm, ⟨58, _⟩ => ⟨S43008x512, .f32⟩
  | .hbm, ⟨59, _⟩ => ⟨S_, .f32⟩
  | .hbm, ⟨60, _⟩ => ⟨S43008x512, .f32⟩
  | .hbm, ⟨61, _⟩ => ⟨S43008x512, .f32⟩
  | .hbm, ⟨62, _⟩ => ⟨S43008x512, .f32⟩
  | .hbm, ⟨63, _⟩ => ⟨S43008x512, .f32⟩
  | .hbm, ⟨64, _⟩ => ⟨S43008x512, .f32⟩
  | .hbm, ⟨65, _⟩ => ⟨S43008x1, .f32⟩
  | .hbm, ⟨66, _⟩ => ⟨S43008x2048, .f32⟩
  | .hbm, ⟨67, _⟩ => ⟨S43008x2048, .f32⟩
  | .hbm, ⟨68, _⟩ => ⟨S43008x2048, .f32⟩
  | .hbm, ⟨69, _⟩ => ⟨S43008x2048, .f32⟩
  | .hbm, ⟨70, _⟩ => ⟨S_, .i32⟩
  | .hbm, ⟨71, _⟩ => ⟨S_, .i32⟩
  | _, _ => ⟨S168, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_v7 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_c_0 : Ref sig .tc := ⟨.hbm, 28, rfl⟩
abbrev main_v13_0 : Ref sig .tc := ⟨.hbm, 29, rfl⟩
abbrev main_v13_1 : Ref sig .tc := ⟨.hbm, 30, rfl⟩
abbrev main_v13_2 : Ref sig .tc := ⟨.hbm, 31, rfl⟩
abbrev main_v13_3 : Ref sig .tc := ⟨.hbm, 32, rfl⟩
abbrev main_v13_4 : Ref sig .tc := ⟨.hbm, 33, rfl⟩
abbrev main_v13_5 : Ref sig .tc := ⟨.hbm, 34, rfl⟩
abbrev main_v13_6 : Ref sig .tc := ⟨.hbm, 35, rfl⟩
abbrev main_while0c_c_7 : Ref sig .tc := ⟨.hbm, 36, rfl⟩
abbrev main_while0c_v14 : Ref sig .tc := ⟨.hbm, 37, rfl⟩
abbrev main_while0b_call2_c : Ref sig .tc := ⟨.hbm, 38, rfl⟩
abbrev main_while0b_call2_c_0 : Ref sig .tc := ⟨.hbm, 39, rfl⟩
abbrev main_while0b_call2_v0 : Ref sig .tc := ⟨.hbm, 40, rfl⟩
abbrev main_while0b_v14 : Ref sig .tc := ⟨.hbm, 41, rfl⟩
abbrev main_while0b_call3_c : Ref sig .tc := ⟨.hbm, 42, rfl⟩
abbrev main_while0b_call3_c_0 : Ref sig .tc := ⟨.hbm, 43, rfl⟩
abbrev main_while0b_call3_v0 : Ref sig .tc := ⟨.hbm, 44, rfl⟩
abbrev main_while0b_v15 : Ref sig .tc := ⟨.hbm, 45, rfl⟩
abbrev main_while0b_call4_c : Ref sig .tc := ⟨.hbm, 46, rfl⟩
abbrev main_while0b_call4_c_0 : Ref sig .tc := ⟨.hbm, 47, rfl⟩
abbrev main_while0b_call4_v0 : Ref sig .tc := ⟨.hbm, 48, rfl⟩
abbrev main_while0b_v16 : Ref sig .tc := ⟨.hbm, 49, rfl⟩
abbrev main_while0b_call5_c : Ref sig .tc := ⟨.hbm, 50, rfl⟩
abbrev main_while0b_call5_v0 : Ref sig .tc := ⟨.hbm, 51, rfl⟩
abbrev main_while0b_v17 : Ref sig .tc := ⟨.hbm, 52, rfl⟩
abbrev main_while0b_v18 : Ref sig .tc := ⟨.hbm, 53, rfl⟩
abbrev main_while0b_call6_v0 : Ref sig .tc := ⟨.hbm, 54, rfl⟩
abbrev main_while0b_call6_v1 : Ref sig .tc := ⟨.hbm, 55, rfl⟩
abbrev main_while0b_call6_cst : Ref sig .tc := ⟨.hbm, 56, rfl⟩
abbrev main_while0b_call6_v2 : Ref sig .tc := ⟨.hbm, 57, rfl⟩
abbrev main_while0b_call6_v3 : Ref sig .tc := ⟨.hbm, 58, rfl⟩
abbrev main_while0b_call6_cst_0 : Ref sig .tc := ⟨.hbm, 59, rfl⟩
abbrev main_while0b_call6_v4 : Ref sig .tc := ⟨.hbm, 60, rfl⟩
abbrev main_while0b_call6_v5 : Ref sig .tc := ⟨.hbm, 61, rfl⟩
abbrev main_while0b_v19 : Ref sig .tc := ⟨.hbm, 62, rfl⟩
abbrev main_while0b_v20 : Ref sig .tc := ⟨.hbm, 63, rfl⟩
abbrev main_while0b_v21 : Ref sig .tc := ⟨.hbm, 64, rfl⟩
abbrev main_while0b_v22 : Ref sig .tc := ⟨.hbm, 65, rfl⟩
abbrev main_while0b_v23 : Ref sig .tc := ⟨.hbm, 66, rfl⟩
abbrev main_while0b_v24 : Ref sig .tc := ⟨.hbm, 67, rfl⟩
abbrev main_while0b_v25 : Ref sig .tc := ⟨.hbm, 68, rfl⟩
abbrev main_while0b_v26 : Ref sig .tc := ⟨.hbm, 69, rfl⟩
abbrev main_while0b_c_7 : Ref sig .tc := ⟨.hbm, 70, rfl⟩
abbrev main_while0b_v27 : Ref sig .tc := ⟨.hbm, 71, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S4x4096x2048 : Shape := ⟨3, ![4, 4096, 2048]⟩
abbrev S1x2048x8848 : Shape := ⟨3, ![1, 2048, 8848]⟩
abbrev S1x512 : Shape := ⟨2, ![1, 512]⟩
abbrev S1x64 : Shape := ⟨2, ![1, 64]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S2048x8848 : Shape := ⟨2, ![2048, 8848]⟩
abbrev S2048x512 : Shape := ⟨2, ![2048, 512]⟩
abbrev S2048x64 : Shape := ⟨2, ![2048, 64]⟩
abbrev S2048x32 : Shape := ⟨2, ![2048, 32]⟩
abbrev S2048x256 : Shape := ⟨2, ![2048, 256]⟩
abbrev S2048x16 : Shape := ⟨2, ![2048, 16]⟩
abbrev S2048x48 : Shape := ⟨2, ![2048, 48]⟩
abbrev S2048x1280 : Shape := ⟨2, ![2048, 1280]⟩
abbrev S16384x2048 : Shape := ⟨2, ![16384, 2048]⟩
abbrev S512 : Shape := ⟨1, ![512]⟩
abbrev S64 : Shape := ⟨1, ![64]⟩
abbrev S16384x512 : Shape := ⟨2, ![16384, 512]⟩
abbrev S16384x64 : Shape := ⟨2, ![16384, 64]⟩
abbrev S16384x256 : Shape := ⟨2, ![16384, 256]⟩
abbrev S16384x16 : Shape := ⟨2, ![16384, 16]⟩
abbrev S512x2048 : Shape := ⟨2, ![512, 2048]⟩
abbrev S512x64 : Shape := ⟨2, ![512, 64]⟩
abbrev S512x512 : Shape := ⟨2, ![512, 512]⟩
abbrev S512x256 : Shape := ⟨2, ![512, 256]⟩
abbrev S512x16 : Shape := ⟨2, ![512, 16]⟩
abbrev S512x1280 : Shape := ⟨2, ![512, 1280]⟩
abbrev S512x1 : Shape := ⟨2, ![512, 1]⟩

abbrev nBuf : Space → Nat
  | .hbm => 56
  | .vmem => 31
  | .smem => 0
  | _ => 0

abbrev bufTy : (tb : Table) → Fin (tcTables nBuf tb) → BufTy
  | .hbm, ⟨0, _⟩ => ⟨S4x4096x2048, .f32⟩
  | .hbm, ⟨1, _⟩ => ⟨S1x2048x8848, .f32⟩
  | .hbm, ⟨2, _⟩ => ⟨S1x512, .f32⟩
  | .hbm, ⟨3, _⟩ => ⟨S1x64, .f32⟩
  | .hbm, ⟨4, _⟩ => ⟨S4096, .i32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S4096, .f32⟩
  | .hbm, ⟨14, _⟩ => ⟨S4096x1, .f32⟩
  | .hbm, ⟨15, _⟩ => ⟨S1x32, .f32⟩
  | .hbm, ⟨16, _⟩ => ⟨S4096x32, .f32⟩
  | .hbm, ⟨17, _⟩ => ⟨S4096x32, .f32⟩
  | .hbm, ⟨18, _⟩ => ⟨S4096x32, .f32⟩
  | .hbm, ⟨19, _⟩ => ⟨S4096x32, .f32⟩
  | .hbm, ⟨20, _⟩ => ⟨S4096x32, .f32⟩
  | .hbm, ⟨21, _⟩ => ⟨S4096x64, .f32⟩
  | .hbm, ⟨22, _⟩ => ⟨S4096x32, .f32⟩
  | .hbm, ⟨23, _⟩ => ⟨S4096x64, .f32⟩
  | .hbm, ⟨24, _⟩ => ⟨S2048x8848, .f32⟩
  | .hbm, ⟨25, _⟩ => ⟨S2048x512, .f32⟩
  | .hbm, ⟨26, _⟩ => ⟨S2048x64, .f32⟩
  | .hbm, ⟨27, _⟩ => ⟨S2048x64, .f32⟩
  | .hbm, ⟨28, _⟩ => ⟨S2048x32, .f32⟩
  | .hbm, ⟨29, _⟩ => ⟨S2048x32, .f32⟩
  | .hbm, ⟨30, _⟩ => ⟨S2048x64, .f32⟩
  | .hbm, ⟨31, _⟩ => ⟨S2048x256, .f32⟩
  | .hbm, ⟨32, _⟩ => ⟨S2048x256, .f32⟩
  | .hbm, ⟨33, _⟩ => ⟨S2048x64, .f32⟩
  | .hbm, ⟨34, _⟩ => ⟨S2048x16, .f32⟩
  | .hbm, ⟨35, _⟩ => ⟨S_, .f32⟩
  | .hbm, ⟨36, _⟩ => ⟨S2048x48, .f32⟩
  | .hbm, ⟨37, _⟩ => ⟨S2048x1280, .f32⟩
  | .hbm, ⟨38, _⟩ => ⟨S2048x1280, .bf16⟩
  | .hbm, ⟨39, _⟩ => ⟨S16384x2048, .f32⟩
  | .hbm, ⟨40, _⟩ => ⟨S16384x2048, .bf16⟩
  | .hbm, ⟨41, _⟩ => ⟨S512, .f32⟩
  | .hbm, ⟨42, _⟩ => ⟨S64, .f32⟩
  | .hbm, ⟨43, _⟩ => ⟨S1x512, .f32⟩
  | .hbm, ⟨44, _⟩ => ⟨S1x64, .f32⟩
  | .hbm, ⟨45, _⟩ => ⟨S16384x512, .f32⟩
  | .hbm, ⟨46, _⟩ => ⟨S16384x64, .f32⟩
  | .hbm, ⟨47, _⟩ => ⟨S16384x256, .f32⟩
  | .hbm, ⟨48, _⟩ => ⟨S16384x256, .f32⟩
  | .hbm, ⟨49, _⟩ => ⟨S16384x64, .f32⟩
  | .hbm, ⟨50, _⟩ => ⟨S16384x16, .f32⟩
  | .hbm, ⟨51, _⟩ => ⟨S16384x512, .bf16⟩
  | .hbm, ⟨52, _⟩ => ⟨S16384x64, .bf16⟩
  | .hbm, ⟨53, _⟩ => ⟨S16384x256, .bf16⟩
  | .hbm, ⟨54, _⟩ => ⟨S16384x256, .bf16⟩
  | .hbm, ⟨55, _⟩ => ⟨S16384x64, .bf16⟩
  | .local _ .vmem, ⟨0, _⟩ => ⟨S512x2048, .bf16⟩
  | .local _ .vmem, ⟨1, _⟩ => ⟨S512x2048, .bf16⟩
  | .local _ .vmem, ⟨2, _⟩ => ⟨S2048x1280, .bf16⟩
  | .local _ .vmem, ⟨3, _⟩ => ⟨S512x64, .f32⟩
  | .local _ .vmem, ⟨4, _⟩ => ⟨S512x64, .f32⟩
  | .local _ .vmem, ⟨5, _⟩ => ⟨S512x64, .f32⟩
  | .local _ .vmem, ⟨6, _⟩ => ⟨S512x64, .f32⟩
  | .local _ .vmem, ⟨7, _⟩ => ⟨S1x512, .f32⟩
  | .local _ .vmem, ⟨8, _⟩ => ⟨S1x64, .f32⟩
  | .local _ .vmem, ⟨9, _⟩ => ⟨S512x512, .f32⟩
  | .local _ .vmem, ⟨10, _⟩ => ⟨S512x512, .f32⟩
  | .local _ .vmem, ⟨11, _⟩ => ⟨S512x64, .f32⟩
  | .local _ .vmem, ⟨12, _⟩ => ⟨S512x64, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x64, .f32⟩
  | .local _ .vmem, ⟨18, _⟩ => ⟨S512x64, .f32⟩
  | .local _ .vmem, ⟨19, _⟩ => ⟨S512x16, .f32⟩
  | .local _ .vmem, ⟨20, _⟩ => ⟨S512x16, .f32⟩
  | .local _ .vmem, ⟨21, _⟩ => ⟨S512x512, .bf16⟩
  | .local _ .vmem, ⟨22, _⟩ => ⟨S512x512, .bf16⟩
  | .local _ .vmem, ⟨23, _⟩ => ⟨S512x64, .bf16⟩
  | .local _ .vmem, ⟨24, _⟩ => ⟨S512x64, .bf16⟩
  | .local _ .vmem, ⟨25, _⟩ => ⟨S512x256, .bf16⟩
  | .local _ .vmem, ⟨26, _⟩ => ⟨S512x256, .bf16⟩
  | .local _ .vmem, ⟨27, _⟩ => ⟨S512x256, .bf16⟩
  | .local _ .vmem, ⟨28, _⟩ => ⟨S512x256, .bf16⟩
  | .local _ .vmem, ⟨29, _⟩ => ⟨S512x64, .bf16⟩
  | .local _ .vmem, ⟨30, _⟩ => ⟨S512x64, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_1 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38_0 : Ref sig .tc := ⟨.hbm, 45, rfl⟩
abbrev main_v38_1 : Ref sig .tc := ⟨.hbm, 46, rfl⟩
abbrev main_v38_2 : Ref sig .tc := ⟨.hbm, 47, rfl⟩
abbrev main_v38_3 : Ref sig .tc := ⟨.hbm, 48, rfl⟩
abbrev main_v38_4 : Ref sig .tc := ⟨.hbm, 49, rfl⟩
abbrev main_v38_5 : Ref sig .tc := ⟨.hbm, 50, rfl⟩
abbrev main_v38_6 : Ref sig .tc := ⟨.hbm, 51, rfl⟩
abbrev main_v38_7 : Ref sig .tc := ⟨.hbm, 52, rfl⟩
abbrev main_v38_8 : Ref sig .tc := ⟨.hbm, 53, rfl⟩
abbrev main_v38_9 : Ref sig .tc := ⟨.hbm, 54, rfl⟩
abbrev main_v38_10 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S512x16 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S512x64 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 2 → Memref sig .tc .vmem S512x64 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![false, true]
-- ==== Reference2Ideal.lean ====
abbrev S4x4096x2048 : Shape := ⟨3, ![4, 4096, 2048]⟩
abbrev S1x2048x8848 : Shape := ⟨3, ![1, 2048, 8848]⟩
abbrev S1x512 : Shape := ⟨2, ![1, 512]⟩
abbrev S1x64 : Shape := ⟨2, ![1, 64]⟩
abbrev S4096 : Shape := ⟨1, ![4096]⟩
abbrev S2048x8848 : Shape := ⟨2, ![2048, 8848]⟩
abbrev S4x4096x8848 : Shape := ⟨3, ![4, 4096, 8848]⟩
abbrev S4x4096x1536 : Shape := ⟨3, ![4, 4096, 1536]⟩
abbrev S4x4096x512 : Shape := ⟨3, ![4, 4096, 512]⟩
abbrev S4x4096x64 : Shape := ⟨3, ![4, 4096, 64]⟩
abbrev S4x4096x1024 : Shape := ⟨3, ![4, 4096, 1024]⟩
abbrev S4x4096x256 : Shape := ⟨3, ![4, 4096, 256]⟩
abbrev S4x4096x16 : Shape := ⟨3, ![4, 4096, 16]⟩
abbrev S512 : Shape := ⟨1, ![512]⟩
abbrev S_ : Shape := ⟨0, ![]⟩
abbrev S4x4096 : Shape := ⟨2, ![4, 4096]⟩
abbrev S4x4096x1 : Shape := ⟨3, ![4, 4096, 1]⟩
abbrev S1x1x512 : Shape := ⟨3, ![1, 1, 512]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4x4096x32 : Shape := ⟨3, ![4, 4096, 32]⟩
abbrev S1x4096x32 : Shape := ⟨3, ![1, 4096, 32]⟩
abbrev S64 : Shape := ⟨1, ![64]⟩
abbrev S1x1x64 : Shape := ⟨3, ![1, 1, 64]⟩
abbrev S16384x512 : Shape := ⟨2, ![16384, 512]⟩
abbrev S16384x64 : Shape := ⟨2, ![16384, 64]⟩
abbrev S16384x256 : Shape := ⟨2, ![16384, 256]⟩

abbrev nBuf : Space → Nat
  | .hbm => 90
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S1x2048x8848, .f32⟩
  | .hbm, ⟨2, _⟩ => ⟨S1x512, .f32⟩
  | .hbm, ⟨3, _⟩ => ⟨S1x64, .f32⟩
  | .hbm, ⟨4, _⟩ => ⟨S4096, .i32⟩
  | .hbm, ⟨5, _⟩ => ⟨S2048x8848, .f32⟩
  | .hbm, ⟨6, _⟩ => ⟨S4x4096x8848, .f32⟩
  | .hbm, ⟨7, _⟩ => ⟨S4x4096x1536, .f32⟩
  | .hbm, ⟨8, _⟩ => ⟨S4x4096x512, .f32⟩
  | .hbm, ⟨9, _⟩ => ⟨S4x4096x64, .f32⟩
  | .hbm, ⟨10, _⟩ => ⟨S4x4096x1024, .f32⟩
  | .hbm, ⟨11, _⟩ => ⟨S4x4096x256, .f32⟩
  | .hbm, ⟨12, _⟩ => ⟨S4x4096x256, .f32⟩
  | .hbm, ⟨13, _⟩ => ⟨S4x4096x1024, .f32⟩
  | .hbm, ⟨14, _⟩ => ⟨S4x4096x64, .f32⟩
  | .hbm, ⟨15, _⟩ => ⟨S4x4096x16, .f32⟩
  | .hbm, ⟨16, _⟩ => ⟨S4x4096x2048, .f32⟩
  | .hbm, ⟨17, _⟩ => ⟨S4x4096x2048, .f32⟩
  | .hbm, ⟨18, _⟩ => ⟨S512, .f32⟩
  | .hbm, ⟨19, _⟩ => ⟨S4x4096x512, .f32⟩
  | .hbm, ⟨20, _⟩ => ⟨S_, .f32⟩
  | .hbm, ⟨21, _⟩ => ⟨S4x4096, .f32⟩
  | .hbm, ⟨22, _⟩ => ⟨S4x4096x1, .f32⟩
  | .hbm, ⟨23, _⟩ => ⟨S_, .f32⟩
  | .hbm, ⟨24, _⟩ => ⟨S4x4096x1, .f32⟩
  | .hbm, ⟨25, _⟩ => ⟨S4x4096x1, .f32⟩
  | .hbm, ⟨26, _⟩ => ⟨S_, .f32⟩
  | .hbm, ⟨27, _⟩ => ⟨S4x4096x1, .f32⟩
  | .hbm, ⟨28, _⟩ => ⟨S4x4096x1, .f32⟩
  | .hbm, ⟨29, _⟩ => ⟨S4x4096x1, .f32⟩
  | .hbm, ⟨30, _⟩ => ⟨S4x4096x512, .f32⟩
  | .hbm, ⟨31, _⟩ => ⟨S4x4096x512, .f32⟩
  | .hbm, ⟨32, _⟩ => ⟨S1x1x512, .f32⟩
  | .hbm, ⟨33, _⟩ => ⟨S4x4096x512, .f32⟩
  | .hbm, ⟨34, _⟩ => ⟨S4x4096x512, .f32⟩
  | .hbm, ⟨35, _⟩ => ⟨S32, .f32⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S_, .f32⟩
  | .hbm, ⟨41, _⟩ => ⟨S32, .f32⟩
  | .hbm, ⟨42, _⟩ => ⟨S32, .f32⟩
  | .hbm, ⟨43, _⟩ => ⟨S4096, .f32⟩
  | .hbm, ⟨44, _⟩ => ⟨S4096x1, .f32⟩
  | .hbm, ⟨45, _⟩ => ⟨S1x32, .f32⟩
  | .hbm, ⟨46, _⟩ => ⟨S4096x32, .f32⟩
  | .hbm, ⟨47, _⟩ => ⟨S4096x32, .f32⟩
  | .hbm, ⟨48, _⟩ => ⟨S4096x32, .f32⟩
  | .hbm, ⟨49, _⟩ => ⟨S4096x32, .f32⟩
  | .hbm, ⟨50, _⟩ => ⟨S4096x32, .f32⟩
  | .hbm, ⟨51, _⟩ => ⟨S4x4096x32, .f32⟩
  | .hbm, ⟨52, _⟩ => ⟨S4x4096x32, .f32⟩
  | .hbm, ⟨53, _⟩ => ⟨S1x4096x32, .f32⟩
  | .hbm, ⟨54, _⟩ => ⟨S4x4096x32, .f32⟩
  | .hbm, ⟨55, _⟩ => ⟨S4x4096x32, .f32⟩
  | .hbm, ⟨56, _⟩ => ⟨S1x4096x32, .f32⟩
  | .hbm, ⟨57, _⟩ => ⟨S4x4096x32, .f32⟩
  | .hbm, ⟨58, _⟩ => ⟨S4x4096x32, .f32⟩
  | .hbm, ⟨59, _⟩ => ⟨S4x4096x32, .f32⟩
  | .hbm, ⟨60, _⟩ => ⟨S1x4096x32, .f32⟩
  | .hbm, ⟨61, _⟩ => ⟨S4x4096x32, .f32⟩
  | .hbm, ⟨62, _⟩ => ⟨S4x4096x32, .f32⟩
  | .hbm, ⟨63, _⟩ => ⟨S1x4096x32, .f32⟩
  | .hbm, ⟨64, _⟩ => ⟨S4x4096x32, .f32⟩
  | .hbm, ⟨65, _⟩ => ⟨S4x4096x32, .f32⟩
  | .hbm, ⟨66, _⟩ => ⟨S4x4096x32, .f32⟩
  | .hbm, ⟨67, _⟩ => ⟨S4x4096x64, .f32⟩
  | .hbm, ⟨68, _⟩ => ⟨S64, .f32⟩
  | .hbm, ⟨69, _⟩ => ⟨S4x4096x64, .f32⟩
  | .hbm, ⟨70, _⟩ => ⟨S_, .f32⟩
  | .hbm, ⟨71, _⟩ => ⟨S4x4096, .f32⟩
  | .hbm, ⟨72, _⟩ => ⟨S4x4096x1, .f32⟩
  | .hbm, ⟨73, _⟩ => ⟨S_, .f32⟩
  | .hbm, ⟨74, _⟩ => ⟨S4x4096x1, .f32⟩
  | .hbm, ⟨75, _⟩ => ⟨S4x4096x1, .f32⟩
  | .hbm, ⟨76, _⟩ => ⟨S_, .f32⟩
  | .hbm, ⟨77, _⟩ => ⟨S4x4096x1, .f32⟩
  | .hbm, ⟨78, _⟩ => ⟨S4x4096x1, .f32⟩
  | .hbm, ⟨79, _⟩ => ⟨S4x4096x1, .f32⟩
  | .hbm, ⟨80, _⟩ => ⟨S4x4096x64, .f32⟩
  | .hbm, ⟨81, _⟩ => ⟨S4x4096x64, .f32⟩
  | .hbm, ⟨82, _⟩ => ⟨S1x1x64, .f32⟩
  | .hbm, ⟨83, _⟩ => ⟨S4x4096x64, .f32⟩
  | .hbm, ⟨84, _⟩ => ⟨S4x4096x64, .f32⟩
  | .hbm, ⟨85, _⟩ => ⟨S16384x512, .f32⟩
  | .hbm, ⟨86, _⟩ => ⟨S16384x64, .f32⟩
  | .hbm, ⟨87, _⟩ => ⟨S16384x256, .f32⟩
  | .hbm, ⟨88, _⟩ => ⟨S16384x256, .f32⟩
  | .hbm, ⟨89, _⟩ => ⟨S16384x64, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_2 : Ref sig .tc := ⟨.hbm, 37, rfl⟩
abbrev main_v30 : Ref sig .tc := ⟨.hbm, 38, rfl⟩
abbrev main_v31 : Ref sig .tc := ⟨.hbm, 39, rfl⟩
abbrev main_cst_3 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_cst_4 : Ref sig .tc := ⟨.hbm, 70, rfl⟩
abbrev main_v61 : Ref sig .tc := ⟨.hbm, 71, rfl⟩
abbrev main_v62 : Ref sig .tc := ⟨.hbm, 72, rfl⟩
abbrev main_cst_5 : Ref sig .tc := ⟨.hbm, 73, rfl⟩
abbrev main_v63 : Ref sig .tc := ⟨.hbm, 74, rfl⟩
abbrev main_v64 : Ref sig .tc := ⟨.hbm, 75, rfl⟩
abbrev main_cst_6 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩

abbrev nD : Nat := 1
abbrev τ : Topo := Topo.v7x

variable {F : FTy → Type} [FloatOps F]
-- ==== Kernel3.lean ====
abbrev S4x4096x2048 : Shape := ⟨3, ![4, 4096, 2048]⟩
abbrev S4x4096x1024 : Shape := ⟨3, ![4, 4096, 1024]⟩
abbrev S1x2048x8848 : Shape := ⟨3, ![1, 2048, 8848]⟩
abbrev S1x1024x2048 : Shape := ⟨3, ![1, 1024, 2048]⟩
abbrev S2048x8848 : Shape := ⟨2, ![2048, 8848]⟩
abbrev S2048x2048 : Shape := ⟨2, ![2048, 2048]⟩
abbrev S1024x2048 : Shape := ⟨2, ![1024, 2048]⟩
abbrev S16384x2048 : Shape := ⟨2, ![16384, 2048]⟩
abbrev S16384x1024 : Shape := ⟨2, ![16384, 1024]⟩
abbrev S512x2048 : Shape := ⟨2, ![512, 2048]⟩
abbrev S512x1024 : Shape := ⟨2, ![512, 1024]⟩
abbrev S2048x512 : Shape := ⟨2, ![2048, 512]⟩
abbrev S1024x512 : Shape := ⟨2, ![1024, 512]⟩
abbrev S512x512 : Shape := ⟨2, ![512, 512]⟩

abbrev nBuf : Space → Nat
  | .hbm => 22
  | .vmem => 16
  | .smem => 0
  | _ => 0

abbrev bufTy : (tb : Table) → Fin (tcTables nBuf tb) → BufTy
  | .hbm, ⟨0, _⟩ => ⟨S4x4096x2048, .f32⟩
  | .hbm, ⟨1, _⟩ => ⟨S4x4096x1024, .f32⟩
  | .hbm, ⟨2, _⟩ => ⟨S4x4096x1024, .f32⟩
  | .hbm, ⟨3, _⟩ => ⟨S1x2048x8848, .f32⟩
  | .hbm, ⟨4, _⟩ => ⟨S1x1024x2048, .f32⟩
  | .hbm, ⟨5, _⟩ => ⟨S1x1024x2048, .f32⟩
  | .hbm, ⟨6, _⟩ => ⟨S2048x8848, .f32⟩
  | .hbm, ⟨7, _⟩ => ⟨S2048x2048, .f32⟩
  | .hbm, ⟨8, _⟩ => ⟨S2048x2048, .bf16⟩
  | .hbm, ⟨9, _⟩ => ⟨S2048x2048, .f32⟩
  | .hbm, ⟨10, _⟩ => ⟨S2048x2048, .bf16⟩
  | .hbm, ⟨11, _⟩ => ⟨S1024x2048, .f32⟩
  | .hbm, ⟨12, _⟩ => ⟨S1024x2048, .bf16⟩
  | .hbm, ⟨13, _⟩ => ⟨S1024x2048, .f32⟩
  | .hbm, ⟨14, _⟩ => ⟨S1024x2048, .bf16⟩
  | .hbm, ⟨15, _⟩ => ⟨S16384x2048, .f32⟩
  | .hbm, ⟨16, _⟩ => ⟨S16384x2048, .bf16⟩
  | .hbm, ⟨17, _⟩ => ⟨S16384x1024, .f32⟩
  | .hbm, ⟨18, _⟩ => ⟨S16384x1024, .bf16⟩
  | .hbm, ⟨19, _⟩ => ⟨S16384x1024, .f32⟩
  | .hbm, ⟨20, _⟩ => ⟨S16384x1024, .bf16⟩
  | .hbm, ⟨21, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S512x512, .bf16⟩
  | .local _ .vmem, ⟨15, _⟩ => ⟨S512x512, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference3Ideal.lean ====
abbrev S4x4096x2048 : Shape := ⟨3, ![4, 4096, 2048]⟩
abbrev S4x4096x1024 : Shape := ⟨3, ![4, 4096, 1024]⟩
abbrev S1x2048x8848 : Shape := ⟨3, ![1, 2048, 8848]⟩
abbrev S1x1024x2048 : Shape := ⟨3, ![1, 1024, 2048]⟩
abbrev S2048x8848 : Shape := ⟨2, ![2048, 8848]⟩
abbrev S4x4096x8848 : Shape := ⟨3, ![4, 4096, 8848]⟩
abbrev S4x4096x1536 : Shape := ⟨3, ![4, 4096, 1536]⟩
abbrev S4x4096x512 : Shape := ⟨3, ![4, 4096, 512]⟩
abbrev S4x4096x64 : Shape := ⟨3, ![4, 4096, 64]⟩
abbrev S4x4096x256 : Shape := ⟨3, ![4, 4096, 256]⟩
abbrev S4x4096x16 : Shape := ⟨3, ![4, 4096, 16]⟩
abbrev S_ : Shape := ⟨0, ![]⟩
abbrev S1024x2048 : Shape := ⟨2, ![1024, 2048]⟩
abbrev S16384x2048 : Shape := ⟨2, ![16384, 2048]⟩

abbrev nBuf : Space → Nat
  | .hbm => 44
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096x1024, .f32⟩
  | .hbm, ⟨2, _⟩ => ⟨S4x4096x1024, .f32⟩
  | .hbm, ⟨3, _⟩ => ⟨S1x2048x8848, .f32⟩
  | .hbm, ⟨4, _⟩ => ⟨S1x1024x2048, .f32⟩
  | .hbm, ⟨5, _⟩ => ⟨S1x1024x2048, .f32⟩
  | .hbm, ⟨6, _⟩ => ⟨S2048x8848, .f32⟩
  | .hbm, ⟨7, _⟩ => ⟨S4x4096x8848, .f32⟩
  | .hbm, ⟨8, _⟩ => ⟨S4x4096x1536, .f32⟩
  | .hbm, ⟨9, _⟩ => ⟨S4x4096x512, .f32⟩
  | .hbm, ⟨10, _⟩ => ⟨S4x4096x64, .f32⟩
  | .hbm, ⟨11, _⟩ => ⟨S4x4096x1024, .f32⟩
  | .hbm, ⟨12, _⟩ => ⟨S4x4096x256, .f32⟩
  | .hbm, ⟨13, _⟩ => ⟨S4x4096x256, .f32⟩
  | .hbm, ⟨14, _⟩ => ⟨S4x4096x1024, .f32⟩
  | .hbm, ⟨15, _⟩ => ⟨S4x4096x64, .f32⟩
  | .hbm, ⟨16, _⟩ => ⟨S4x4096x16, .f32⟩
  | .hbm, ⟨17, _⟩ => ⟨S4x4096x2048, .f32⟩
  | .hbm, ⟨18, _⟩ => ⟨S4x4096x2048, .f32⟩
  | .hbm, ⟨19, _⟩ => ⟨S4x4096x2048, .f32⟩
  | .hbm, ⟨20, _⟩ => ⟨S4x4096x2048, .f32⟩
  | .hbm, ⟨21, _⟩ => ⟨S_, .f32⟩
  | .hbm, ⟨22, _⟩ => ⟨S4x4096x2048, .f32⟩
  | .hbm, ⟨23, _⟩ => ⟨S4x4096x2048, .f32⟩
  | .hbm, ⟨24, _⟩ => ⟨S_, .f32⟩
  | .hbm, ⟨25, _⟩ => ⟨S4x4096x2048, .f32⟩
  | .hbm, ⟨26, _⟩ => ⟨S4x4096x2048, .f32⟩
  | .hbm, ⟨27, _⟩ => ⟨S1024x2048, .f32⟩
  | .hbm, ⟨28, _⟩ => ⟨S4x4096x2048, .f32⟩
  | .hbm, ⟨29, _⟩ => ⟨S4x4096x2048, .f32⟩
  | .hbm, ⟨30, _⟩ => ⟨S4x4096x2048, .f32⟩
  | .hbm, ⟨31, _⟩ => ⟨S4x4096x2048, .f32⟩
  | .hbm, ⟨32, _⟩ => ⟨S_, .f32⟩
  | .hbm, ⟨33, _⟩ => ⟨S4x4096x2048, .f32⟩
  | .hbm, ⟨34, _⟩ => ⟨S4x4096x2048, .f32⟩
  | .hbm, ⟨35, _⟩ => ⟨S_, .f32⟩
  | .hbm, ⟨36, _⟩ => ⟨S4x4096x2048, .f32⟩
  | .hbm, ⟨37, _⟩ => ⟨S4x4096x2048, .f32⟩
  | .hbm, ⟨38, _⟩ => ⟨S1024x2048, .f32⟩
  | .hbm, ⟨39, _⟩ => ⟨S4x4096x2048, .f32⟩
  | .hbm, ⟨40, _⟩ => ⟨S4x4096x2048, .f32⟩
  | .hbm, ⟨41, _⟩ => ⟨S4x4096x2048, .f32⟩
  | .hbm, ⟨42, _⟩ => ⟨S16384x2048, .f32⟩
  | .hbm, ⟨43, _⟩ => ⟨S16384x2048, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]
-- ==== Kernel4.lean ====
abbrev S128x8x2048 : Shape := ⟨3, ![128, 8, 2048]⟩
abbrev S1x2048x8848 : Shape := ⟨3, ![1, 2048, 8848]⟩
abbrev S1x512 : Shape := ⟨2, ![1, 512]⟩
abbrev S1x64 : Shape := ⟨2, ![1, 64]⟩
abbrev S8 : Shape := ⟨1, ![8]⟩
abbrev S_ : Shape := ⟨0, ![]⟩
abbrev S32 : Shape := ⟨1, ![32]⟩
abbrev S8x1 : Shape := ⟨2, ![8, 1]⟩
abbrev S1x32 : Shape := ⟨2, ![1, 32]⟩
abbrev S8x32 : Shape := ⟨2, ![8, 32]⟩
abbrev S8x64 : Shape := ⟨2, ![8, 64]⟩
abbrev S1x8x1x64 : Shape := ⟨4, ![1, 8, 1, 64]⟩
abbrev S64x8x1x64 : Shape := ⟨4, ![64, 8, 1, 64]⟩
abbrev S512x64 : Shape := ⟨2, ![512, 64]⟩
abbrev S2048x8848 : Shape := ⟨2, ![2048, 8848]⟩
abbrev S2048x512 : Shape := ⟨2, ![2048, 512]⟩
abbrev S2048x64 : Shape := ⟨2, ![2048, 64]⟩
abbrev S2048x32 : Shape := ⟨2, ![2048, 32]⟩
abbrev S2048x256 : Shape := ⟨2, ![2048, 256]⟩
abbrev S2048x16 : Shape := ⟨2, ![2048, 16]⟩
abbrev S2048x48 : Shape := ⟨2, ![2048, 48]⟩
abbrev S2048x1280 : Shape := ⟨2, ![2048, 1280]⟩
abbrev S1024x2048 : Shape := ⟨2, ![1024, 2048]⟩
abbrev S512 : Shape := ⟨1, ![512]⟩
abbrev S64 : Shape := ⟨1, ![64]⟩
abbrev S1024x512 : Shape := ⟨2, ![1024, 512]⟩
abbrev S1024x64 : Shape := ⟨2, ![1024, 64]⟩
abbrev S1024x256 : Shape := ⟨2, ![1024, 256]⟩
abbrev S1024x16 : Shape := ⟨2, ![1024, 16]⟩
abbrev S512x2048 : Shape := ⟨2, ![512, 2048]⟩
abbrev S512x512 : Shape := ⟨2, ![512, 512]⟩
abbrev S512x256 : Shape := ⟨2, ![512, 256]⟩
abbrev S512x16 : Shape := ⟨2, ![512, 16]⟩
abbrev S512x1280 : Shape := ⟨2, ![512, 1280]⟩
abbrev S512x1 : Shape := ⟨2, ![512, 1]⟩

abbrev nBuf : Space → Nat
  | .hbm => 65
  | .vmem => 29
  | .smem => 0
  | _ => 0

abbrev bufTy : (tb : Table) → Fin (tcTables nBuf tb) → BufTy
  | .hbm, ⟨0, _⟩ => ⟨S128x8x2048, .f32⟩
  | .hbm, ⟨1, _⟩ => ⟨S1x2048x8848, .f32⟩
  | .hbm, ⟨2, _⟩ => ⟨S1x512, .f32⟩
  | .hbm, ⟨3, _⟩ => ⟨S1x64, .f32⟩
  | .hbm, ⟨4, _⟩ => ⟨S8, .i32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S8, .f32⟩
  | .hbm, ⟨17, _⟩ => ⟨S8x1, .f32⟩
  | .hbm, ⟨18, _⟩ => ⟨S1x32, .f32⟩
  | .hbm, ⟨19, _⟩ => ⟨S8x32, .f32⟩
  | .hbm, ⟨20, _⟩ => ⟨S8x32, .f32⟩
  | .hbm, ⟨21, _⟩ => ⟨S8x32, .f32⟩
  | .hbm, ⟨22, _⟩ => ⟨S8x32, .f32⟩
  | .hbm, ⟨23, _⟩ => ⟨S8x32, .f32⟩
  | .hbm, ⟨24, _⟩ => ⟨S8x64, .f32⟩
  | .hbm, ⟨25, _⟩ => ⟨S8x32, .f32⟩
  | .hbm, ⟨26, _⟩ => ⟨S8x64, .f32⟩
  | .hbm, ⟨27, _⟩ => ⟨S1x8x1x64, .f32⟩
  | .hbm, ⟨28, _⟩ => ⟨S64x8x1x64, .f32⟩
  | .hbm, ⟨29, _⟩ => ⟨S512x64, .f32⟩
  | .hbm, ⟨30, _⟩ => ⟨S1x8x1x64, .f32⟩
  | .hbm, ⟨31, _⟩ => ⟨S64x8x1x64, .f32⟩
  | .hbm, ⟨32, _⟩ => ⟨S512x64, .f32⟩
  | .hbm, ⟨33, _⟩ => ⟨S2048x8848, .f32⟩
  | .hbm, ⟨34, _⟩ => ⟨S2048x512, .f32⟩
  | .hbm, ⟨35, _⟩ => ⟨S2048x64, .f32⟩
  | .hbm, ⟨36, _⟩ => ⟨S2048x64, .f32⟩
  | .hbm, ⟨37, _⟩ => ⟨S2048x32, .f32⟩
  | .hbm, ⟨38, _⟩ => ⟨S2048x32, .f32⟩
  | .hbm, ⟨39, _⟩ => ⟨S2048x64, .f32⟩
  | .hbm, ⟨40, _⟩ => ⟨S2048x256, .f32⟩
  | .hbm, ⟨41, _⟩ => ⟨S2048x256, .f32⟩
  | .hbm, ⟨42, _⟩ => ⟨S2048x64, .f32⟩
  | .hbm, ⟨43, _⟩ => ⟨S2048x16, .f32⟩
  | .hbm, ⟨44, _⟩ => ⟨S_, .f32⟩
  | .hbm, ⟨45, _⟩ => ⟨S2048x48, .f32⟩
  | .hbm, ⟨46, _⟩ => ⟨S2048x1280, .f32⟩
  | .hbm, ⟨47, _⟩ => ⟨S2048x1280, .bf16⟩
  | .hbm, ⟨48, _⟩ => ⟨S1024x2048, .f32⟩
  | .hbm, ⟨49, _⟩ => ⟨S1024x2048, .bf16⟩
  | .hbm, ⟨50, _⟩ => ⟨S512, .f32⟩
  | .hbm, ⟨51, _⟩ => ⟨S64, .f32⟩
  | .hbm, ⟨52, _⟩ => ⟨S1x512, .f32⟩
  | .hbm, ⟨53, _⟩ => ⟨S1x64, .f32⟩
  | .hbm, ⟨54, _⟩ => ⟨S1024x512, .f32⟩
  | .hbm, ⟨55, _⟩ => ⟨S1024x64, .f32⟩
  | .hbm, ⟨56, _⟩ => ⟨S1024x256, .f32⟩
  | .hbm, ⟨57, _⟩ => ⟨S1024x256, .f32⟩
  | .hbm, ⟨58, _⟩ => ⟨S1024x64, .f32⟩
  | .hbm, ⟨59, _⟩ => ⟨S1024x16, .f32⟩
  | .hbm, ⟨60, _⟩ => ⟨S1024x512, .bf16⟩
  | .hbm, ⟨61, _⟩ => ⟨S1024x64, .bf16⟩
  | .hbm, ⟨62, _⟩ => ⟨S1024x256, .bf16⟩
  | .hbm, ⟨63, _⟩ => ⟨S1024x256, .bf16⟩
  | .hbm, ⟨64, _⟩ => ⟨S1024x64, .bf16⟩
  | .local _ .vmem, ⟨0, _⟩ => ⟨S512x2048, .bf16⟩
  | .local _ .vmem, ⟨1, _⟩ => ⟨S512x2048, .bf16⟩
  | .local _ .vmem, ⟨2, _⟩ => ⟨S2048x1280, .bf16⟩
  | .local _ .vmem, ⟨3, _⟩ => ⟨S512x64, .f32⟩
  | .local _ .vmem, ⟨4, _⟩ => ⟨S512x64, .f32⟩
  | .local _ .vmem, ⟨5, _⟩ => ⟨S1x512, .f32⟩
  | .local _ .vmem, ⟨6, _⟩ => ⟨S1x64, .f32⟩
  | .local _ .vmem, ⟨7, _⟩ => ⟨S512x512, .f32⟩
  | .local _ .vmem, ⟨8, _⟩ => ⟨S512x512, .f32⟩
  | .local _ .vmem, ⟨9, _⟩ => ⟨S512x64, .f32⟩
  | .local _ .vmem, ⟨10, _⟩ => ⟨S512x64, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x64, .f32⟩
  | .local _ .vmem, ⟨16, _⟩ => ⟨S512x64, .f32⟩
  | .local _ .vmem, ⟨17, _⟩ => ⟨S512x16, .f32⟩
  | .local _ .vmem, ⟨18, _⟩ => ⟨S512x16, .f32⟩
  | .local _ .vmem, ⟨19, _⟩ => ⟨S512x512, .bf16⟩
  | .local _ .vmem, ⟨20, _⟩ => ⟨S512x512, .bf16⟩
  | .local _ .vmem, ⟨21, _⟩ => ⟨S512x64, .bf16⟩
  | .local _ .vmem, ⟨22, _⟩ => ⟨S512x64, .bf16⟩
  | .local _ .vmem, ⟨23, _⟩ => ⟨S512x256, .bf16⟩
  | .local _ .vmem, ⟨24, _⟩ => ⟨S512x256, .bf16⟩
  | .local _ .vmem, ⟨25, _⟩ => ⟨S512x256, .bf16⟩
  | .local _ .vmem, ⟨26, _⟩ => ⟨S512x256, .bf16⟩
  | .local _ .vmem, ⟨27, _⟩ => ⟨S512x64, .bf16⟩
  | .local _ .vmem, ⟨28, _⟩ => ⟨S512x64, .bf16⟩
  | _, _ => ⟨S128x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_1 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46_0 : Ref sig .tc := ⟨.hbm, 54, rfl⟩
abbrev main_v46_1 : Ref sig .tc := ⟨.hbm, 55, rfl⟩
abbrev main_v46_2 : Ref sig .tc := ⟨.hbm, 56, rfl⟩
abbrev main_v46_3 : Ref sig .tc := ⟨.hbm, 57, rfl⟩
abbrev main_v46_4 : Ref sig .tc := ⟨.hbm, 58, rfl⟩
abbrev main_v46_5 : Ref sig .tc := ⟨.hbm, 59, rfl⟩
abbrev main_v46_6 : Ref sig .tc := ⟨.hbm, 60, rfl⟩
abbrev main_v46_7 : Ref sig .tc := ⟨.hbm, 61, rfl⟩
abbrev main_v46_8 : Ref sig .tc := ⟨.hbm, 62, rfl⟩
abbrev main_v46_9 : Ref sig .tc := ⟨.hbm, 63, rfl⟩
abbrev main_v46_10 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S512x16 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S512x64 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 2 → Memref sig .tc .vmem S512x64 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![false, true]
-- ==== Reference4Ideal.lean ====
abbrev S128x8x2048 : Shape := ⟨3, ![128, 8, 2048]⟩
abbrev S1x2048x8848 : Shape := ⟨3, ![1, 2048, 8848]⟩
abbrev S1x512 : Shape := ⟨2, ![1, 512]⟩
abbrev S1x64 : Shape := ⟨2, ![1, 64]⟩
abbrev S8 : Shape := ⟨1, ![8]⟩
abbrev S_ : Shape := ⟨0, ![]⟩
abbrev S2048x8848 : Shape := ⟨2, ![2048, 8848]⟩
abbrev S128x8x8848 : Shape := ⟨3, ![128, 8, 8848]⟩
abbrev S128x8x1536 : Shape := ⟨3, ![128, 8, 1536]⟩
abbrev S128x8x512 : Shape := ⟨3, ![128, 8, 512]⟩
abbrev S128x8x64 : Shape := ⟨3, ![128, 8, 64]⟩
abbrev S128x8x1024 : Shape := ⟨3, ![128, 8, 1024]⟩
abbrev S128x8x256 : Shape := ⟨3, ![128, 8, 256]⟩
abbrev S128x8x16 : Shape := ⟨3, ![128, 8, 16]⟩
abbrev S512 : Shape := ⟨1, ![512]⟩
abbrev S128x8 : Shape := ⟨2, ![128, 8]⟩
abbrev S128x8x1 : Shape := ⟨3, ![128, 8, 1]⟩
abbrev S1x1x512 : Shape := ⟨3, ![1, 1, 512]⟩
abbrev S32 : Shape := ⟨1, ![32]⟩
abbrev S8x1 : Shape := ⟨2, ![8, 1]⟩
abbrev S1x32 : Shape := ⟨2, ![1, 32]⟩
abbrev S8x32 : Shape := ⟨2, ![8, 32]⟩
abbrev S128x8x32 : Shape := ⟨3, ![128, 8, 32]⟩
abbrev S1x8x32 : Shape := ⟨3, ![1, 8, 32]⟩
abbrev S64 : Shape := ⟨1, ![64]⟩
abbrev S1x1x64 : Shape := ⟨3, ![1, 1, 64]⟩
abbrev S1024x512 : Shape := ⟨2, ![1024, 512]⟩
abbrev S1024x64 : Shape := ⟨2, ![1024, 64]⟩
abbrev S1024x256 : Shape := ⟨2, ![1024, 256]⟩

abbrev nBuf : Space → Nat
  | .hbm => 93
  | .vmem => 0
  | .smem => 0
  | _ => 0

abbrev bufTy : (tb : Table) → Fin (tcTables nBuf tb) → BufTy
  | .hbm, ⟨0, _⟩ => ⟨S128x8x2048, .f32⟩
  | .hbm, ⟨1, _⟩ => ⟨S1x2048x8848, .f32⟩
  | .hbm, ⟨2, _⟩ => ⟨S1x512, .f32⟩
  | .hbm, ⟨3, _⟩ => ⟨S1x64, .f32⟩
  | .hbm, ⟨4, _⟩ => ⟨S8, .i32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S2048x8848, .f32⟩
  | .hbm, ⟨9, _⟩ => ⟨S128x8x8848, .f32⟩
  | .hbm, ⟨10, _⟩ => ⟨S128x8x1536, .f32⟩
  | .hbm, ⟨11, _⟩ => ⟨S128x8x512, .f32⟩
  | .hbm, ⟨12, _⟩ => ⟨S128x8x64, .f32⟩
  | .hbm, ⟨13, _⟩ => ⟨S128x8x1024, .f32⟩
  | .hbm, ⟨14, _⟩ => ⟨S128x8x256, .f32⟩
  | .hbm, ⟨15, _⟩ => ⟨S128x8x256, .f32⟩
  | .hbm, ⟨16, _⟩ => ⟨S128x8x1024, .f32⟩
  | .hbm, ⟨17, _⟩ => ⟨S128x8x64, .f32⟩
  | .hbm, ⟨18, _⟩ => ⟨S128x8x16, .f32⟩
  | .hbm, ⟨19, _⟩ => ⟨S128x8x2048, .f32⟩
  | .hbm, ⟨20, _⟩ => ⟨S128x8x2048, .f32⟩
  | .hbm, ⟨21, _⟩ => ⟨S512, .f32⟩
  | .hbm, ⟨22, _⟩ => ⟨S128x8x512, .f32⟩
  | .hbm, ⟨23, _⟩ => ⟨S_, .f32⟩
  | .hbm, ⟨24, _⟩ => ⟨S128x8, .f32⟩
  | .hbm, ⟨25, _⟩ => ⟨S128x8x1, .f32⟩
  | .hbm, ⟨26, _⟩ => ⟨S_, .f32⟩
  | .hbm, ⟨27, _⟩ => ⟨S128x8x1, .f32⟩
  | .hbm, ⟨28, _⟩ => ⟨S128x8x1, .f32⟩
  | .hbm, ⟨29, _⟩ => ⟨S_, .f32⟩
  | .hbm, ⟨30, _⟩ => ⟨S128x8x1, .f32⟩
  | .hbm, ⟨31, _⟩ => ⟨S128x8x1, .f32⟩
  | .hbm, ⟨32, _⟩ => ⟨S128x8x1, .f32⟩
  | .hbm, ⟨33, _⟩ => ⟨S128x8x512, .f32⟩
  | .hbm, ⟨34, _⟩ => ⟨S128x8x512, .f32⟩
  | .hbm, ⟨35, _⟩ => ⟨S1x1x512, .f32⟩
  | .hbm, ⟨36, _⟩ => ⟨S128x8x512, .f32⟩
  | .hbm, ⟨37, _⟩ => ⟨S128x8x512, .f32⟩
  | .hbm, ⟨38, _⟩ => ⟨S32, .f32⟩
  | .hbm, ⟨39, _⟩ => ⟨S32, .f32⟩
  | .hbm, ⟨40, _⟩ => ⟨S_, .f32⟩
  | .hbm, ⟨41, _⟩ => ⟨S32, .f32⟩
  | .hbm, ⟨42, _⟩ => ⟨S32, .f32⟩
  | .hbm, ⟨43, _⟩ => ⟨S_, .f32⟩
  | .hbm, ⟨44, _⟩ => ⟨S32, .f32⟩
  | .hbm, ⟨45, _⟩ => ⟨S32, .f32⟩
  | .hbm, ⟨46, _⟩ => ⟨S8, .f32⟩
  | .hbm, ⟨47, _⟩ => ⟨S8x1, .f32⟩
  | .hbm, ⟨48, _⟩ => ⟨S1x32, .f32⟩
  | .hbm, ⟨49, _⟩ => ⟨S8x32, .f32⟩
  | .hbm, ⟨50, _⟩ => ⟨S8x32, .f32⟩
  | .hbm, ⟨51, _⟩ => ⟨S8x32, .f32⟩
  | .hbm, ⟨52, _⟩ => ⟨S8x32, .f32⟩
  | .hbm, ⟨53, _⟩ => ⟨S8x32, .f32⟩
  | .hbm, ⟨54, _⟩ => ⟨S128x8x32, .f32⟩
  | .hbm, ⟨55, _⟩ => ⟨S128x8x32, .f32⟩
  | .hbm, ⟨56, _⟩ => ⟨S1x8x32, .f32⟩
  | .hbm, ⟨57, _⟩ => ⟨S128x8x32, .f32⟩
  | .hbm, ⟨58, _⟩ => ⟨S128x8x32, .f32⟩
  | .hbm, ⟨59, _⟩ => ⟨S1x8x32, .f32⟩
  | .hbm, ⟨60, _⟩ => ⟨S128x8x32, .f32⟩
  | .hbm, ⟨61, _⟩ => ⟨S128x8x32, .f32⟩
  | .hbm, ⟨62, _⟩ => ⟨S128x8x32, .f32⟩
  | .hbm, ⟨63, _⟩ => ⟨S1x8x32, .f32⟩
  | .hbm, ⟨64, _⟩ => ⟨S128x8x32, .f32⟩
  | .hbm, ⟨65, _⟩ => ⟨S128x8x32, .f32⟩
  | .hbm, ⟨66, _⟩ => ⟨S1x8x32, .f32⟩
  | .hbm, ⟨67, _⟩ => ⟨S128x8x32, .f32⟩
  | .hbm, ⟨68, _⟩ => ⟨S128x8x32, .f32⟩
  | .hbm, ⟨69, _⟩ => ⟨S128x8x32, .f32⟩
  | .hbm, ⟨70, _⟩ => ⟨S128x8x64, .f32⟩
  | .hbm, ⟨71, _⟩ => ⟨S64, .f32⟩
  | .hbm, ⟨72, _⟩ => ⟨S128x8x64, .f32⟩
  | .hbm, ⟨73, _⟩ => ⟨S_, .f32⟩
  | .hbm, ⟨74, _⟩ => ⟨S128x8, .f32⟩
  | .hbm, ⟨75, _⟩ => ⟨S128x8x1, .f32⟩
  | .hbm, ⟨76, _⟩ => ⟨S_, .f32⟩
  | .hbm, ⟨77, _⟩ => ⟨S128x8x1, .f32⟩
  | .hbm, ⟨78, _⟩ => ⟨S128x8x1, .f32⟩
  | .hbm, ⟨79, _⟩ => ⟨S_, .f32⟩
  | .hbm, ⟨80, _⟩ => ⟨S128x8x1, .f32⟩
  | .hbm, ⟨81, _⟩ => ⟨S128x8x1, .f32⟩
  | .hbm, ⟨82, _⟩ => ⟨S128x8x1, .f32⟩
  | .hbm, ⟨83, _⟩ => ⟨S128x8x64, .f32⟩
  | .hbm, ⟨84, _⟩ => ⟨S128x8x64, .f32⟩
  | .hbm, ⟨85, _⟩ => ⟨S1x1x64, .f32⟩
  | .hbm, ⟨86, _⟩ => ⟨S128x8x64, .f32⟩
  | .hbm, ⟨87, _⟩ => ⟨S128x8x64, .f32⟩
  | .hbm, ⟨88, _⟩ => ⟨S1024x512, .f32⟩
  | .hbm, ⟨89, _⟩ => ⟨S1024x64, .f32⟩
  | .hbm, ⟨90, _⟩ => ⟨S1024x256, .f32⟩
  | .hbm, ⟨91, _⟩ => ⟨S1024x256, .f32⟩
  | .hbm, ⟨92, _⟩ => ⟨S1024x64, .f32⟩
  | _, _ => ⟨S128x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_2 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_cst_4 : Ref sig .tc := ⟨.hbm, 73, rfl⟩
abbrev main_v63 : Ref sig .tc := ⟨.hbm, 74, rfl⟩
abbrev main_v64 : Ref sig .tc := ⟨.hbm, 75, rfl⟩
abbrev main_cst_5 : Ref sig .tc := ⟨.hbm, 76, rfl⟩
abbrev main_v65 : Ref sig .tc := ⟨.hbm, 77, rfl⟩
abbrev main_v66 : Ref sig .tc := ⟨.hbm, 78, rfl⟩
abbrev main_cst_6 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩

abbrev nD : Nat := 1
abbrev τ : Topo := Topo.v7x

variable {F : FTy → Type} [FloatOps F]
-- ==== Kernel5.lean ====
abbrev S4x4096x2048 : Shape := ⟨3, ![4, 4096, 2048]⟩
abbrev S1x2048x8848 : Shape := ⟨3, ![1, 2048, 8848]⟩
abbrev S3072 : Shape := ⟨1, ![3072]⟩
abbrev S2048x8848 : Shape := ⟨2, ![2048, 8848]⟩
abbrev S2048x1536 : Shape := ⟨2, ![2048, 1536]⟩
abbrev S2048x8x192 : Shape := ⟨3, ![2048, 8, 192]⟩
abbrev S2048x8x128 : Shape := ⟨3, ![2048, 8, 128]⟩
abbrev S2048x1024 : Shape := ⟨2, ![2048, 1024]⟩
abbrev S2048x3072 : Shape := ⟨2, ![2048, 3072]⟩
abbrev S16384x2048 : Shape := ⟨2, ![16384, 2048]⟩
abbrev S1x3072 : Shape := ⟨2, ![1, 3072]⟩
abbrev S16384x3072 : Shape := ⟨2, ![16384, 3072]⟩
abbrev S512x2048 : Shape := ⟨2, ![512, 2048]⟩
abbrev S2048x512 : Shape := ⟨2, ![2048, 512]⟩
abbrev S1x512 : Shape := ⟨2, ![1, 512]⟩
abbrev S512x512 : Shape := ⟨2, ![512, 512]⟩

abbrev nBuf : Space → Nat
  | .hbm => 16
  | .vmem => 8
  | .smem => 0
  | _ => 0

abbrev bufTy : (tb : Table) → Fin (tcTables nBuf tb) → BufTy
  | .hbm, ⟨0, _⟩ => ⟨S4x4096x2048, .f32⟩
  | .hbm, ⟨1, _⟩ => ⟨S1x2048x8848, .f32⟩
  | .hbm, ⟨2, _⟩ => ⟨S3072, .f32⟩
  | .hbm, ⟨3, _⟩ => ⟨S2048x8848, .f32⟩
  | .hbm, ⟨4, _⟩ => ⟨S2048x1536, .f32⟩
  | .hbm, ⟨5, _⟩ => ⟨S2048x8x192, .f32⟩
  | .hbm, ⟨6, _⟩ => ⟨S2048x8x128, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x3072, .f32⟩
  | .hbm, ⟨11, _⟩ => ⟨S2048x3072, .bf16⟩
  | .hbm, ⟨12, _⟩ => ⟨S16384x2048, .f32⟩
  | .hbm, ⟨13, _⟩ => ⟨S16384x2048, .bf16⟩
  | .hbm, ⟨14, _⟩ => ⟨S1x3072, .f32⟩
  | .hbm, ⟨15, _⟩ => ⟨S16384x3072, .bf16⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S1x512, .f32⟩
  | .local _ .vmem, ⟨5, _⟩ => ⟨S1x512, .f32⟩
  | .local _ .vmem, ⟨6, _⟩ => ⟨S512x512, .bf16⟩
  | .local _ .vmem, ⟨7, _⟩ => ⟨S512x512, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![6, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S4x4096x2048 : Shape := ⟨3, ![4, 4096, 2048]⟩
abbrev S1x2048x8848 : Shape := ⟨3, ![1, 2048, 8848]⟩
abbrev S3072 : Shape := ⟨1, ![3072]⟩
abbrev S2048x8848 : Shape := ⟨2, ![2048, 8848]⟩
abbrev S4x4096x8848 : Shape := ⟨3, ![4, 4096, 8848]⟩
abbrev S4x4096x1536 : Shape := ⟨3, ![4, 4096, 1536]⟩
abbrev S4x4096x512 : Shape := ⟨3, ![4, 4096, 512]⟩
abbrev S4x4096x64 : Shape := ⟨3, ![4, 4096, 64]⟩
abbrev S4x4096x1024 : Shape := ⟨3, ![4, 4096, 1024]⟩
abbrev S4x4096x256 : Shape := ⟨3, ![4, 4096, 256]⟩
abbrev S4x4096x16 : Shape := ⟨3, ![4, 4096, 16]⟩
abbrev S4x4096x8x192 : Shape := ⟨4, ![4, 4096, 8, 192]⟩
abbrev S4x4096x8x128 : Shape := ⟨4, ![4, 4096, 8, 128]⟩
abbrev S16384x1024 : Shape := ⟨2, ![16384, 1024]⟩
abbrev S16384x3072 : Shape := ⟨2, ![16384, 3072]⟩
abbrev S1x3072 : Shape := ⟨2, ![1, 3072]⟩

abbrev nBuf : Space → Nat
  | .hbm => 26
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S1x2048x8848, .f32⟩
  | .hbm, ⟨2, _⟩ => ⟨S3072, .f32⟩
  | .hbm, ⟨3, _⟩ => ⟨S2048x8848, .f32⟩
  | .hbm, ⟨4, _⟩ => ⟨S4x4096x8848, .f32⟩
  | .hbm, ⟨5, _⟩ => ⟨S4x4096x1536, .f32⟩
  | .hbm, ⟨6, _⟩ => ⟨S4x4096x512, .f32⟩
  | .hbm, ⟨7, _⟩ => ⟨S4x4096x64, .f32⟩
  | .hbm, ⟨8, _⟩ => ⟨S4x4096x1024, .f32⟩
  | .hbm, ⟨9, _⟩ => ⟨S4x4096x256, .f32⟩
  | .hbm, ⟨10, _⟩ => ⟨S4x4096x256, .f32⟩
  | .hbm, ⟨11, _⟩ => ⟨S4x4096x1024, .f32⟩
  | .hbm, ⟨12, _⟩ => ⟨S4x4096x64, .f32⟩
  | .hbm, ⟨13, _⟩ => ⟨S4x4096x16, .f32⟩
  | .hbm, ⟨14, _⟩ => ⟨S4x4096x2048, .f32⟩
  | .hbm, ⟨15, _⟩ => ⟨S4x4096x2048, .f32⟩
  | .hbm, ⟨16, _⟩ => ⟨S4x4096x8x192, .f32⟩
  | .hbm, ⟨17, _⟩ => ⟨S4x4096x8x128, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x3072, .f32⟩
  | .hbm, ⟨22, _⟩ => ⟨S1x3072, .f32⟩
  | .hbm, ⟨23, _⟩ => ⟨S16384x3072, .f32⟩
  | .hbm, ⟨24, _⟩ => ⟨S16384x3072, .f32⟩
  | .hbm, ⟨25, _⟩ => ⟨S16384x3072, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩

abbrev nD : Nat := 1
abbrev τ : Topo := Topo.v7x

variable {F : FTy → Type} [FloatOps F]
-- ==== Kernel6.lean ====
abbrev S4x4096x2048 : Shape := ⟨3, ![4, 4096, 2048]⟩
abbrev S4x12288 : Shape := ⟨2, ![4, 12288]⟩
abbrev S1x2048x2048 : Shape := ⟨3, ![1, 2048, 2048]⟩
abbrev S1x2048 : Shape := ⟨2, ![1, 2048]⟩
abbrev S1x2048x4 : Shape := ⟨3, ![1, 2048, 4]⟩
abbrev S1x4 : Shape := ⟨2, ![1, 4]⟩
abbrev S1x2048x32 : Shape := ⟨3, ![1, 2048, 32]⟩
abbrev S1x32 : Shape := ⟨2, ![1, 32]⟩
abbrev S4x1x12288 : Shape := ⟨3, ![4, 1, 12288]⟩
abbrev S2048x2048 : Shape := ⟨2, ![2048, 2048]⟩
abbrev S2048x4 : Shape := ⟨2, ![2048, 4]⟩
abbrev S2048x32 : Shape := ⟨2, ![2048, 32]⟩
abbrev S_ : Shape := ⟨0, ![]⟩
abbrev S2048x92 : Shape := ⟨2, ![2048, 92]⟩
abbrev S2048x128 : Shape := ⟨2, ![2048, 128]⟩
abbrev S128x2048 : Shape := ⟨2, ![128, 2048]⟩
abbrev S4 : Shape := ⟨1, ![4]⟩
abbrev S32 : Shape := ⟨1, ![32]⟩
abbrev S92 : Shape := ⟨1, ![92]⟩
abbrev S128 : Shape := ⟨1, ![128]⟩
abbrev S128x1 : Shape := ⟨2, ![128, 1]⟩
abbrev S16384x2048 : Shape := ⟨2, ![16384, 2048]⟩
abbrev S2048 : Shape := ⟨1, ![2048]⟩
abbrev S128x16384 : Shape := ⟨2, ![128, 16384]⟩
abbrev S256x2048 : Shape := ⟨2, ![256, 2048]⟩
abbrev S1x1x2048 : Shape := ⟨3, ![1, 1, 2048]⟩
abbrev S128x256 : Shape := ⟨2, ![128, 256]⟩
abbrev S256 : Shape := ⟨1, ![256]⟩
abbrev S256x1 : Shape := ⟨2, ![256, 1]⟩

abbrev nBuf : Space → Nat
  | .hbm => 36
  | .vmem => 21
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S4x12288, .f32⟩
  | .hbm, ⟨3, _⟩ => ⟨S1x2048x2048, .f32⟩
  | .hbm, ⟨4, _⟩ => ⟨S1x2048, .f32⟩
  | .hbm, ⟨5, _⟩ => ⟨S1x2048x4, .f32⟩
  | .hbm, ⟨6, _⟩ => ⟨S1x4, .f32⟩
  | .hbm, ⟨7, _⟩ => ⟨S1x2048x32, .f32⟩
  | .hbm, ⟨8, _⟩ => ⟨S1x32, .f32⟩
  | .hbm, ⟨9, _⟩ => ⟨S4x1x12288, .f32⟩
  | .hbm, ⟨10, _⟩ => ⟨S2048x2048, .f32⟩
  | .hbm, ⟨11, _⟩ => ⟨S2048x2048, .bf16⟩
  | .hbm, ⟨12, _⟩ => ⟨S2048x4, .f32⟩
  | .hbm, ⟨13, _⟩ => ⟨S2048x32, .f32⟩
  | .hbm, ⟨14, _⟩ => ⟨S_, .f32⟩
  | .hbm, ⟨15, _⟩ => ⟨S2048x92, .f32⟩
  | .hbm, ⟨16, _⟩ => ⟨S2048x128, .f32⟩
  | .hbm, ⟨17, _⟩ => ⟨S128x2048, .f32⟩
  | .hbm, ⟨18, _⟩ => ⟨S128x2048, .bf16⟩
  | .hbm, ⟨19, _⟩ => ⟨S128x2048, .f32⟩
  | .hbm, ⟨20, _⟩ => ⟨S128x2048, .f32⟩
  | .hbm, ⟨21, _⟩ => ⟨S128x2048, .bf16⟩
  | .hbm, ⟨22, _⟩ => ⟨S4, .f32⟩
  | .hbm, ⟨23, _⟩ => ⟨S32, .f32⟩
  | .hbm, ⟨24, _⟩ => ⟨S_, .f32⟩
  | .hbm, ⟨25, _⟩ => ⟨S92, .f32⟩
  | .hbm, ⟨26, _⟩ => ⟨S128, .f32⟩
  | .hbm, ⟨27, _⟩ => ⟨S128x1, .f32⟩
  | .hbm, ⟨28, _⟩ => ⟨S16384x2048, .f32⟩
  | .hbm, ⟨29, _⟩ => ⟨S16384x2048, .f32⟩
  | .hbm, ⟨30, _⟩ => ⟨S16384x2048, .bf16⟩
  | .hbm, ⟨31, _⟩ => ⟨S2048, .f32⟩
  | .hbm, ⟨32, _⟩ => ⟨S1x2048, .f32⟩
  | .hbm, ⟨33, _⟩ => ⟨S16384x2048, .f32⟩
  | .hbm, ⟨34, _⟩ => ⟨S16384x2048, .f32⟩
  | .hbm, ⟨35, _⟩ => ⟨S128x16384, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S2048x2048, .bf16⟩
  | .local _ .vmem, ⟨5, _⟩ => ⟨S1x1x2048, .f32⟩
  | .local _ .vmem, ⟨6, _⟩ => ⟨S1x1x2048, .f32⟩
  | .local _ .vmem, ⟨7, _⟩ => ⟨S1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S128x2048, .bf16⟩
  | .local _ .vmem, ⟨13, _⟩ => ⟨S128x2048, .bf16⟩
  | .local _ .vmem, ⟨14, _⟩ => ⟨S128x1, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | .local _ .vmem, ⟨18, _⟩ => ⟨S256x2048, .f32⟩
  | .local _ .vmem, ⟨19, _⟩ => ⟨S128x256, .f32⟩
  | .local _ .vmem, ⟨20, _⟩ => ⟨S128x256, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22_0 : Ref sig .tc := ⟨.hbm, 33, rfl⟩
abbrev main_v22_1 : Ref sig .tc := ⟨.hbm, 34, rfl⟩
abbrev main_v22_2 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![1, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c2_i32 : BitVec 32 := 2#32
  let c0_i32_5 : BitVec 32 := 0#32
  ![v17.toNat, c0_i32_4.toNat, c2_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c4_i32 : BitVec 32 := 4#32
  let c0_i32_5 : BitVec 32 := 0#32
  ![v17.toNat, c0_i32_4.toNat, c4_i32.toNat]

def cc0_transform_6 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c3_i32 : BitVec 32 := 3#32
  let c0_i32_5 : BitVec 32 := 0#32
  ![v17.toNat, c0_i32_4.toNat, c3_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S128x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S128x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]
-- ==== Reference6Ideal.lean ====
abbrev S4x4096x2048 : Shape := ⟨3, ![4, 4096, 2048]⟩
abbrev S4x12288 : Shape := ⟨2, ![4, 12288]⟩
abbrev S1x2048x2048 : Shape := ⟨3, ![1, 2048, 2048]⟩
abbrev S1x2048 : Shape := ⟨2, ![1, 2048]⟩
abbrev S1x2048x4 : Shape := ⟨3, ![1, 2048, 4]⟩
abbrev S1x4 : Shape := ⟨2, ![1, 4]⟩
abbrev S1x2048x32 : Shape := ⟨3, ![1, 2048, 32]⟩
abbrev S1x32 : Shape := ⟨2, ![1, 32]⟩
abbrev S4x1x12288 : Shape := ⟨3, ![4, 1, 12288]⟩
abbrev S4x1x2048 : Shape := ⟨3, ![4, 1, 2048]⟩
abbrev S2048x2048 : Shape := ⟨2, ![2048, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S16384x2048 : Shape := ⟨2, ![16384, 2048]⟩

abbrev nBuf : Space → Nat
  | .hbm => 47
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S4x12288, .f32⟩
  | .hbm, ⟨3, _⟩ => ⟨S1x2048x2048, .f32⟩
  | .hbm, ⟨4, _⟩ => ⟨S1x2048, .f32⟩
  | .hbm, ⟨5, _⟩ => ⟨S1x2048x4, .f32⟩
  | .hbm, ⟨6, _⟩ => ⟨S1x4, .f32⟩
  | .hbm, ⟨7, _⟩ => ⟨S1x2048x32, .f32⟩
  | .hbm, ⟨8, _⟩ => ⟨S1x32, .f32⟩
  | .hbm, ⟨9, _⟩ => ⟨S4x1x12288, .f32⟩
  | .hbm, ⟨10, _⟩ => ⟨S4x1x2048, .f32⟩
  | .hbm, ⟨11, _⟩ => ⟨S4x1x2048, .f32⟩
  | .hbm, ⟨12, _⟩ => ⟨S4x1x2048, .f32⟩
  | .hbm, ⟨13, _⟩ => ⟨S4x1x2048, .f32⟩
  | .hbm, ⟨14, _⟩ => ⟨S4x1x2048, .f32⟩
  | .hbm, ⟨15, _⟩ => ⟨S4x1x2048, .f32⟩
  | .hbm, ⟨16, _⟩ => ⟨S2048x2048, .f32⟩
  | .hbm, ⟨17, _⟩ => ⟨S4x4096x2048, .f32⟩
  | .hbm, ⟨18, _⟩ => ⟨S4x4096x2048, .f32⟩
  | .hbm, ⟨19, _⟩ => ⟨S4x4096x2048, .f32⟩
  | .hbm, ⟨20, _⟩ => ⟨S4x4096x2048, .f32⟩
  | .hbm, ⟨21, _⟩ => ⟨S2048, .f32⟩
  | .hbm, ⟨22, _⟩ => ⟨S4x4096x2048, .f32⟩
  | .hbm, ⟨23, _⟩ => ⟨S_, .f32⟩
  | .hbm, ⟨24, _⟩ => ⟨S4x4096, .f32⟩
  | .hbm, ⟨25, _⟩ => ⟨S4x4096x1, .f32⟩
  | .hbm, ⟨26, _⟩ => ⟨S_, .f32⟩
  | .hbm, ⟨27, _⟩ => ⟨S4x4096x1, .f32⟩
  | .hbm, ⟨28, _⟩ => ⟨S4x4096x1, .f32⟩
  | .hbm, ⟨29, _⟩ => ⟨S_, .f32⟩
  | .hbm, ⟨30, _⟩ => ⟨S4x4096x1, .f32⟩
  | .hbm, ⟨31, _⟩ => ⟨S4x4096x1, .f32⟩
  | .hbm, ⟨32, _⟩ => ⟨S4x4096x1, .f32⟩
  | .hbm, ⟨33, _⟩ => ⟨S4x4096x2048, .f32⟩
  | .hbm, ⟨34, _⟩ => ⟨S4x4096x2048, .f32⟩
  | .hbm, ⟨35, _⟩ => ⟨S1x1x2048, .f32⟩
  | .hbm, ⟨36, _⟩ => ⟨S4x4096x2048, .f32⟩
  | .hbm, ⟨37, _⟩ => ⟨S4x4096x2048, .f32⟩
  | .hbm, ⟨38, _⟩ => ⟨S_, .f32⟩
  | .hbm, ⟨39, _⟩ => ⟨S4x1x2048, .f32⟩
  | .hbm, ⟨40, _⟩ => ⟨S4x1x2048, .f32⟩
  | .hbm, ⟨41, _⟩ => ⟨S4x4096x2048, .f32⟩
  | .hbm, ⟨42, _⟩ => ⟨S4x4096x2048, .f32⟩
  | .hbm, ⟨43, _⟩ => ⟨S4x4096x2048, .f32⟩
  | .hbm, ⟨44, _⟩ => ⟨S4x4096x2048, .f32⟩
  | .hbm, ⟨45, _⟩ => ⟨S16384x2048, .f32⟩
  | .hbm, ⟨46, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== Kernel7.lean ====
abbrev S4x4096x512 : Shape := ⟨3, ![4, 4096, 512]⟩
abbrev S1x512x8x128 : Shape := ⟨4, ![1, 512, 8, 128]⟩
abbrev S512x8x128 : Shape := ⟨3, ![512, 8, 128]⟩
abbrev S512x1024 : Shape := ⟨2, ![512, 1024]⟩
abbrev S512x2048 : Shape := ⟨2, ![512, 2048]⟩
abbrev S16384x512 : Shape := ⟨2, ![16384, 512]⟩
abbrev S_ : Shape := ⟨0, ![]⟩
abbrev S2048 : Shape := ⟨1, ![2048]⟩
abbrev S1x2048 : Shape := ⟨2, ![1, 2048]⟩
abbrev S16384x2048 : Shape := ⟨2, ![16384, 2048]⟩
abbrev S512x512 : Shape := ⟨2, ![512, 512]⟩
abbrev S1x512 : Shape := ⟨2, ![1, 512]⟩

abbrev nBuf : Space → Nat
  | .hbm => 15
  | .vmem => 8
  | .smem => 0
  | _ => 0

abbrev bufTy : (tb : Table) → Fin (tcTables nBuf tb) → BufTy
  | .hbm, ⟨0, _⟩ => ⟨S4x4096x512, .f32⟩
  | .hbm, ⟨1, _⟩ => ⟨S1x512x8x128, .f32⟩
  | .hbm, ⟨2, _⟩ => ⟨S1x512x8x128, .f32⟩
  | .hbm, ⟨3, _⟩ => ⟨S512x8x128, .f32⟩
  | .hbm, ⟨4, _⟩ => ⟨S512x1024, .f32⟩
  | .hbm, ⟨5, _⟩ => ⟨S512x8x128, .f32⟩
  | .hbm, ⟨6, _⟩ => ⟨S512x1024, .f32⟩
  | .hbm, ⟨7, _⟩ => ⟨S512x2048, .f32⟩
  | .hbm, ⟨8, _⟩ => ⟨S512x2048, .bf16⟩
  | .hbm, ⟨9, _⟩ => ⟨S16384x512, .f32⟩
  | .hbm, ⟨10, _⟩ => ⟨S16384x512, .bf16⟩
  | .hbm, ⟨11, _⟩ => ⟨S_, .f32⟩
  | .hbm, ⟨12, _⟩ => ⟨S2048, .f32⟩
  | .hbm, ⟨13, _⟩ => ⟨S1x2048, .f32⟩
  | .hbm, ⟨14, _⟩ => ⟨S16384x2048, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1x512, .f32⟩
  | .local _ .vmem, ⟨5, _⟩ => ⟨S1x512, .f32⟩
  | .local _ .vmem, ⟨6, _⟩ => ⟨S512x512, .bf16⟩
  | .local _ .vmem, ⟨7, _⟩ => ⟨S512x512, .bf16⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S4x4096x512 : Shape := ⟨3, ![4, 4096, 512]⟩
abbrev S1x512x8x128 : Shape := ⟨4, ![1, 512, 8, 128]⟩
abbrev S512x8x128 : Shape := ⟨3, ![512, 8, 128]⟩
abbrev S4x4096x8x128 : Shape := ⟨4, ![4, 4096, 8, 128]⟩
abbrev S16384x1024 : Shape := ⟨2, ![16384, 1024]⟩
abbrev S16384x2048 : Shape := ⟨2, ![16384, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S1x512x8x128, .f32⟩
  | .hbm, ⟨2, _⟩ => ⟨S1x512x8x128, .f32⟩
  | .hbm, ⟨3, _⟩ => ⟨S512x8x128, .f32⟩
  | .hbm, ⟨4, _⟩ => ⟨S4x4096x8x128, .f32⟩
  | .hbm, ⟨5, _⟩ => ⟨S512x8x128, .f32⟩
  | .hbm, ⟨6, _⟩ => ⟨S4x4096x8x128, .f32⟩
  | .hbm, ⟨7, _⟩ => ⟨S16384x1024, .f32⟩
  | .hbm, ⟨8, _⟩ => ⟨S16384x1024, .f32⟩
  | .hbm, ⟨9, _⟩ => ⟨S16384x2048, .f32⟩
  | .hbm, ⟨10, _⟩ => ⟨S16384x2048, .bf16⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Proof.Body.lean ====
/- The expert feed-forward's kernel body, run once for any values: at a tile below the number of used tiles it stores
   the tile's feed-forward (`Gen.k0_pay1`), at any later tile zeros (`Gen.k0_pay2`). The run is over any whole staging
   memrefs, the two tables held at half a share. -/
module

public import proofs.«01_k».proof.Proof.Gen.KernelIdeal.Skeleton
public import proofs.«01_k».proof.Proof.Gen.KernelIdeal.Launch
public import Idealize.ShloMosaic.Lib.Claim
public import Idealize.ShloMosaic.Lib.Pipeline.Frame
public import Idealize.ShloMosaic.Lib.Exec
public import Idealize.ShloMosaic.Lib.Ring
public import Idealize.ShloMosaic.Lib.VecWindow

@[expose] public section

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The expert table's memref and the used-tile count's, as the body is handed them. -/
abbrev teM : Memref sig .tc .smem S168 .i32 := Memref.whole main_arg0
abbrev nuM : Memref sig .tc .smem S1 .i32 := Memref.whole main_arg1

/-- A table's contents on core `c`, and its buffer held there at half the full share. -/
abbrev TabBuf (c : Dev nD) {S : Shape} {e : EltTy} (M : Memref sig .tc .smem S e) : Type := Buf (Elt F) (M.view.loc (c : Thread nD τ))
abbrev tabHalf (c : Dev nD) {S : Shape} {e : EltTy} (M : Memref sig .tc .smem S e) (f : TabBuf (F := F) c M) : sProp 𝕄 :=
  M.view.loc (c : Thread nD τ) ↦{fullShare.right} f

/-- The only index of the count table. -/
abbrev idx1 : S1.Idx := Shape.Idx.first (by decide)

/-- The number of used tiles, as the body reads it off its table. -/
abbrev count {c : Dev nD} (nu : TabBuf (F := F) c nuM) : BitVec 32 := nu idx1

/-- The two branch conditions are each other's negations, at any count. -/
theorem cond2_iff (i : grid0.Coords) (w : BitVec 32) : k0_cond2 i w = 1#1 ↔ ¬ k0_cond1 i w = 1#1 := by
  unfold k0_cond1 k0_cond2
  dsimp only
  generalize BitVec.ofNat 32 (i 0).val = x
  simp only [Scalar.cmpi, Scalar.extui, IntOp.cmpi, BitVec.sle_eq_not_slt]
  cases BitVec.slt x w <;> simp

/-- What a tile's body leaves in its output: the feed-forward below the count, else zeros. -/
def leaves (i : grid0.Coords) (w : BitVec 32) (x0 : Vec F S256x2048 .f32) (x1 : Vec F S1x2048x512 .f32) (x2 : Vec F S1x2048x512 .f32) (x3 : Vec F S1x512x2048 .f32) :
    Vec F S256x2048 .f32 :=
  if k0_cond1 i w = 1#1 then k0_pay1 x0 x1 x2 x3 else k0_pay2

set_option maxHeartbeats 400000 in
/-- One run of the body on any whole staging memrefs: the inputs and the tables as they were, the output at `leaves`. -/
theorem run_body (c : Dev nD) (i : grid0.Coords)
    (arg3 : Memref sig .tc .vmem S256x2048 .f32) (harg3 : arg3.IsWhole) (arg4 : Memref sig .tc .vmem S1x2048x512 .f32) (harg4 : arg4.IsWhole)
    (arg5 : Memref sig .tc .vmem S1x2048x512 .f32) (harg5 : arg5.IsWhole) (arg6 : Memref sig .tc .vmem S1x512x2048 .f32) (harg6 : arg6.IsWhole)
    (arg7 : Memref sig .tc .vmem S256x2048 .f32) (harg7 : arg7.IsWhole)
    (x0 : Vec F S256x2048 .f32) (x1 : Vec F S1x2048x512 .f32) (x2 : Vec F S1x2048x512 .f32) (x3 : Vec F S1x512x2048 .f32)
    (te : TabBuf (F := F) c teM) (nu : TabBuf (F := F) c nuM) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ (∃ d, owns (c : Thread nD τ) arg7 fullShare d) ∗ tabHalf c teM te ∗ tabHalf c nuM nu
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare (leaves i (count nu) x0 x1 x2 x3) ∗ tabHalf c teM te ∗ tabHalf c nuM nu) -∗ K ⟨⟩))
      ⊢ wp frame (wpE (defs₀ (F := F)) Variants.none c none) E
          (cc0__moe_kernel i teM (Memref.isWhole_whole _) nuM (Memref.isWhole_whole _) arg3 harg3 arg4 harg4 arg5 harg5 arg6 harg6 arg7 harg7) K := by
  simp only [cc0__moe_kernel_eq_skeleton]; unfold cc0__moe_kernel_skel
  unfold owns
  iintro ⟨⟨%f0, %hf0, H0⟩, ⟨%f1, %hf1, H1⟩, ⟨%f2, %hf2, H2⟩, ⟨%f3, %hf3, H3⟩, ⟨%d4, %f4, -, H4⟩, HT0, HT1, Hk⟩
  obtain rfl := harg3.eq_unread hf0; obtain rfl := harg4.eq_unread hf1; obtain rfl := harg5.eq_unread hf2; obtain rfl := harg6.eq_unread hf3
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro
    have hr : run_body.sl.r c nu = count nu := by
      unfold run_body.sl.r
      exact congrFun (View.readAt_full (s := S1) nuM.view nu inb_S1_S1_0) _
    rw [hr]
    unfold leaves
    by_cases h : k0_cond1 i (count nu) = 1#1
    · rw [dif_neg (fun h2 => (cond2_iff _ _).mp h2 h), dif_pos h, if_pos h]
      refine (View.read_writes_full _ _ inb_S256x2048_S256x2048_0_0 _ _).trans ?_
      rw [View.readAt_full _ _ inb_S256x2048_S256x2048_0_0, View.readAt_full _ _ inb_S1x2048x512_S1x2048x512_0_0_0, View.readAt_full _ _ inb_S1x2048x512_S1x2048x512_0_0_0,
        View.readAt_full _ _ inb_S1x512x2048_S1x512x2048_0_0_0,
        harg3.read_unread, harg4.read_unread, harg5.read_unread, harg6.read_unread]
    · rw [dif_pos ((cond2_iff _ _).mpr h), if_neg h]
      exact View.read_writes_full _ _ inb_S256x2048_S256x2048_0_0 _ _
  isplitl [HT0]; · iexact HT0
  iexact HT1

end Cert.KernelIdeal.Moe

end
-- ==== Proof.Launched.lean ====
/- The launch of the expert feed-forward: the tables and the blocks as the pipeline finds them, the proof data (after
   tile `t`'s body the output block is `Moe.leaves` of the tile's blocks), the body's obligation from `Moe.run_body`, and
   the run of @main at any float values, for every content of the tables that keeps the weights' windows in their arrays. -/
module

public import proofs.«01_k».proof.Proof.Body
public import Idealize.ShloMosaic.Lib.Pipeline.FrameBody

@[expose] public section

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the region finds -/

/-- A core's buffers after the host operations that come first. -/
abbrev V (c : Dev nD) (b : Ref sig .tc) : Buf (Elt F) ((c : Thread nD τ).loc b) := StableHlo.after hostOps0 (fun b => m (c, b)) b

theorem ops_fresh : (hostOps0 : List (HloOp τ sig (Elt F))).Forall fun op => op.fresh = ∅ := by
  simp only [List.Forall]; repeat' constructor

set_option maxHeartbeats 800000 in
theorem enters (𝒱₀ : Variants) :
    Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub ops_fresh main_chain

/-- A buffer none of the host operations writes is found as launched. -/
theorem V_kept (c : Dev nD) (b : Ref sig .tc) (h : b ≠ main_v0 ∧ b ≠ main_v1 ∧ b ≠ main_v2) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h.1, StableHlo.devRef_ne_of_ne h.2.1, StableHlo.devRef_ne_of_ne h.2.2⟩))

/-- The two tables' contents. -/
def tab : pre0.Contents (Elt F) := fun j => V m (0 : Dev nD) (pre0.ref j)

theorem V_tab (c : Dev nD) (j : Fin 2) : V m c (pre0.ref j) = tab m j := by
  obtain rfl : c = 0 := Subsingleton.elim _ _; rfl

/-- The tables keep the windows inside their arrays. -/
abbrev Fits : Prop := ok0 (F := F) (tab m)
abbrev fit (hO : Fits m) : (pcfg0 (F := F)).Adm := ⟨tab m, hO⟩
abbrev pipe (hO : Fits m) : Cfg sig Λ₀ := cfg0 (fit m hO)

theorem tabs_eq (c : Dev nD) : (Pipeline.ΦT pre0 (tab m) c : sProp 𝕄) = iprop(tabHalf c teM (tab m 0) ∗ tabHalf c nuM (tab m 1)) := by
  unfold Pipeline.ΦT Pipeline.prefHeld
  rw [show (Finset.univ : Finset (Fin 2)) = insert (0 : Fin 2) {(1 : Fin 2)} from by decide, bigSep_insert (by decide), bigSep_singleton]
  rfl

/-- Window `w`'s block at tile `t`, read off its array. -/
def blk (hO : Fits m) (c : Dev nD) (w : Fin (pipe m hO).W) (t : Fin (pipe m hO).N) :
    (((pipe m hO).win w).xblock ((pipe m hO).grid.coords t)).Idx → Elt F ((pipe m hO).win w).elt :=
  (((pipe m hO).win w).blk t).view.read (Elt F) (V m c (Pipeline.arrRef spec0 w))

/-- The number of used tiles. -/
abbrev used : BitVec 32 := count (F := F) (c := (0 : Dev nD)) (tab m 1)

/-- What tile `t`'s body leaves in the output block. -/
def tile (hO : Fits m) (c : Dev nD) (t : Fin (pipe m hO).N) : Vec F S256x2048 .f32 :=
  leaves (grid0.coords t) (used m) (blk m hO c 0 t) (blk m hO c 1 t) (blk m hO c 2 t) (blk m hO c 3 t)

/-! ## The proof data -/

def dats (hO : Fits m) (_ : Fin 1) (c : Dev nD) : Dat τ (Elt F) Unit ℕ (UR sig nD τ) ℕ (pipe m hO) c where
  A w := V m c (Pipeline.arrRef spec0 w)
  after w t := match w with
    | ⟨0, _⟩ => blk m hO c 0 t
    | ⟨1, _⟩ => blk m hO c 1 t
    | ⟨2, _⟩ => blk m hO c 2 t
    | ⟨3, _⟩ => blk m hO c 3 t
    | ⟨4, _⟩ => tile m hO c t
  Φ _ := iprop(Pipeline.ΦA spec0 c ∗ Pipeline.ΦT pre0 (tab m) c)
  q _ := fullShare
  owed _ := 0

theorem dats_A (hO : Fits m) (c : Dev nD) (w : Fin (pipe m hO).W) : (dats m hO 0 c).A w = V m c (Pipeline.arrRef spec0 w) := by
  dsimp only [dats]

theorem left_0 (hO : Fits m) (c : Dev nD) (t : Fin (pipe m hO).N) : (dats m hO 0 c).after 0 t = blk m hO c 0 t := by dsimp only [dats]; try rfl
theorem left_1 (hO : Fits m) (c : Dev nD) (t : Fin (pipe m hO).N) : (dats m hO 0 c).after 1 t = blk m hO c 1 t := by dsimp only [dats]; try rfl
theorem left_2 (hO : Fits m) (c : Dev nD) (t : Fin (pipe m hO).N) : (dats m hO 0 c).after 2 t = blk m hO c 2 t := by dsimp only [dats]; try rfl
theorem left_3 (hO : Fits m) (c : Dev nD) (t : Fin (pipe m hO).N) : (dats m hO 0 c).after 3 t = blk m hO c 3 t := by dsimp only [dats]; try rfl
theorem left_4 (hO : Fits m) (c : Dev nD) (t : Fin (pipe m hO).N) : (dats m hO 0 c).after 4 t = tile m hO c t := by dsimp only [dats]; try rfl

/-- Each input's staging buffer holds its block at every tile, fetched there or kept. -/
theorem found_0 (hO : Fits m) (c : Dev nD) (t : Fin (pipe m hO).N) (d) : (dats m hO 0 c).before 0 t d = blk m hO c 0 t :=
  ((dats m hO 0 c).before_in_eq_fetched 0 rfl (fun _ => rfl) (fun _ _ _ => rfl) (fun t => by rw [left_0]; unfold Dat.blockOf blk; rw [dats_A]) t d).trans
    (by unfold Dat.fetched Dat.blockOf blk; rw [dats_A]; try rfl)
theorem found_1 (hO : Fits m) (c : Dev nD) (t : Fin (pipe m hO).N) (d) : (dats m hO 0 c).before 1 t d = blk m hO c 1 t :=
  ((dats m hO 0 c).before_in_eq_fetched 1 rfl (fun _ => rfl) (fun _ _ _ => rfl) (fun t => by rw [left_1]; unfold Dat.blockOf blk; rw [dats_A]) t d).trans
    (by unfold Dat.fetched Dat.blockOf blk; rw [dats_A]; try rfl)
theorem found_2 (hO : Fits m) (c : Dev nD) (t : Fin (pipe m hO).N) (d) : (dats m hO 0 c).before 2 t d = blk m hO c 2 t :=
  ((dats m hO 0 c).before_in_eq_fetched 2 rfl (fun _ => rfl) (fun _ _ _ => rfl) (fun t => by rw [left_2]; unfold Dat.blockOf blk; rw [dats_A]) t d).trans
    (by unfold Dat.fetched Dat.blockOf blk; rw [dats_A]; try rfl)
theorem found_3 (hO : Fits m) (c : Dev nD) (t : Fin (pipe m hO).N) (d) : (dats m hO 0 c).before 3 t d = blk m hO c 3 t :=
  ((dats m hO 0 c).before_in_eq_fetched 3 rfl (fun _ => rfl) (fun _ _ _ => rfl) (fun t => by rw [left_3]; unfold Dat.blockOf blk; rw [dats_A]) t d).trans
    (by unfold Dat.fetched Dat.blockOf blk; rw [dats_A]; try rfl)

/-! ## The body's obligation -/

/-- The output window is written at every tile: one of the two conditions holds. -/
theorem live_at (i : grid0.Coords) (w : BitVec 32) : (!(k0_cond1 i w == 1#1) && !(k0_cond2 i w == 1#1)) = false := by
  have h := cond2_iff i w
  revert h
  generalize k0_cond1 i w = a
  generalize k0_cond2 i w = b
  intro h
  by_cases ha : a = 1#1
  · rw [ha]; rfl
  · rw [h.mpr ha]; exact Bool.and_false _

theorem live (hO : Fits m) (t : Fin (pipe m hO).N) : (pipe m hO).idle 4 ((pipe m hO).grid.coords t) = false := live_at _ _

abbrev st0 (hO : Fits m) (t : Fin (pipe m hO).N) : Memref sig .tc .vmem S256x2048 .f32 := spec0_0.stage ((pipe m hO).slots t 0)
abbrev st1 (hO : Fits m) (t : Fin (pipe m hO).N) : Memref sig .tc .vmem S1x2048x512 .f32 := spec0_1.stage ((pipe m hO).slots t 1)
abbrev st2 (hO : Fits m) (t : Fin (pipe m hO).N) : Memref sig .tc .vmem S1x2048x512 .f32 := spec0_2.stage ((pipe m hO).slots t 2)
abbrev st3 (hO : Fits m) (t : Fin (pipe m hO).N) : Memref sig .tc .vmem S1x512x2048 .f32 := spec0_3.stage ((pipe m hO).slots t 3)
abbrev st4 (hO : Fits m) (t : Fin (pipe m hO).N) : Memref sig .tc .vmem S256x2048 .f32 := spec0_4.stage ((pipe m hO).slots t 4)

/-- No window is idle at any tile: each buffer is returned at what the body leaves. -/
theorem kept_0 (hO : Fits m) (c : Dev nD) (t : Fin (pipe m hO).N) :
    (dats m hO 0 c).leavesExact 0 t = owns (c : Thread nD τ) (st0 m hO t) fullShare ((dats m hO 0 c).after 0 t) := by
  unfold Dat.leavesExact; rw [show (pipe m hO).idle 0 ((pipe m hO).grid.coords t) = false from rfl]; rfl
theorem kept_1 (hO : Fits m) (c : Dev nD) (t : Fin (pipe m hO).N) :
    (dats m hO 0 c).leavesExact 1 t = owns (c : Thread nD τ) (st1 m hO t) fullShare ((dats m hO 0 c).after 1 t) := by
  unfold Dat.leavesExact; rw [show (pipe m hO).idle 1 ((pipe m hO).grid.coords t) = false from rfl]; rfl
theorem kept_2 (hO : Fits m) (c : Dev nD) (t : Fin (pipe m hO).N) :
    (dats m hO 0 c).leavesExact 2 t = owns (c : Thread nD τ) (st2 m hO t) fullShare ((dats m hO 0 c).after 2 t) := by
  unfold Dat.leavesExact; rw [show (pipe m hO).idle 2 ((pipe m hO).grid.coords t) = false from rfl]; rfl
theorem kept_3 (hO : Fits m) (c : Dev nD) (t : Fin (pipe m hO).N) :
    (dats m hO 0 c).leavesExact 3 t = owns (c : Thread nD τ) (st3 m hO t) fullShare ((dats m hO 0 c).after 3 t) := by
  unfold Dat.leavesExact; rw [show (pipe m hO).idle 3 ((pipe m hO).grid.coords t) = false from rfl]; rfl
theorem kept_4 (hO : Fits m) (c : Dev nD) (t : Fin (pipe m hO).N) :
    (dats m hO 0 c).leavesExact 4 t = owns (c : Thread nD τ) (st4 m hO t) fullShare ((dats m hO 0 c).after 4 t) := by
  unfold Dat.leavesExact; rw [show (pipe m hO).idle 4 ((pipe m hO).grid.coords t) = false from live m hO t]; rfl

def given (hO : Fits m) (c : Dev nD) (t : Fin (pipe m hO).N) : sProp 𝕄 :=
  iprop((dats m hO 0 c).Φ t.castSucc ∗ (dats m hO 0 c).owesAt () t.castSucc
    ∗ (∃ d, owns (c : Thread nD τ) (st0 m hO t) fullShare ((dats m hO 0 c).before 0 t d))
    ∗ (∃ d, owns (c : Thread nD τ) (st1 m hO t) fullShare ((dats m hO 0 c).before 1 t d))
    ∗ (∃ d, owns (c : Thread nD τ) (st2 m hO t) fullShare ((dats m hO 0 c).before 2 t d))
    ∗ (∃ d, owns (c : Thread nD τ) (st3 m hO t) fullShare ((dats m hO 0 c).before 3 t d))
    ∗ (∃ d, owns (c : Thread nD τ) (st4 m hO t) fullShare ((dats m hO 0 c).before 4 t d)))

def returned (hO : Fits m) (c : Dev nD) (t : Fin (pipe m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t)

/-- The body's call at tile `t`. -/
abbrev callAt (hO : Fits m) (t : Fin (pipe m hO).N) : Prog (TpuEff nD τ sig (Elt F) Λ₀ .tc) PUnit :=
  cc0__moe_kernel (grid0.coords t) teM (Memref.isWhole_whole _) nuM (Memref.isWhole_whole _)
    (st0 m hO t) (hstage0_0 (((pipe m hO).slots t 0).cast nbuf0_0)) (st1 m hO t) (hstage0_1 (((pipe m hO).slots t 1).cast nbuf0_1))
    (st2 m hO t) (hstage0_2 (((pipe m hO).slots t 2).cast nbuf0_2)) (st3 m hO t) (hstage0_3 (((pipe m hO).slots t 3).cast nbuf0_3))
    (st4 m hO t) (hstage0_4 (((pipe m hO).slots t 4).cast nbuf0_4))

theorem call_sound (hO : Fits m) (c : Dev nD) (t : Fin (pipe m hO).N) :
    given m hO c t ⊢ wp frame (wpE (defs₀ (F := F)) Variants.none c none) Set.univ (callAt m hO t) (fun _ => returned m hO c t) := by
  unfold given returned
  rw [kept_0, kept_1, kept_2, kept_3, kept_4]
  simp only [found_0, found_1, found_2, found_3]
  rw [show (dats m hO 0 c).Φ t.succ = (dats m hO 0 c).Φ t.castSucc from rfl,
    show (dats m hO 0 c).owesAt () t.succ = (dats m hO 0 c).owesAt () t.castSucc from rfl,
    left_0, left_1, left_2, left_3, left_4]
  rw [show (dats m hO 0 c).Φ t.castSucc = iprop(Pipeline.ΦA spec0 c ∗ Pipeline.ΦT pre0 (tab m) c) from rfl, tabs_eq]
  unfold tile
  iintro ⟨⟨HΦ, ⟨HT0, HT1⟩⟩, Ho, ⟨%d0, H0⟩, ⟨%d1, H1⟩, ⟨%d2, H2⟩, ⟨%d3, H3⟩, ⟨%d4, H4⟩⟩
  iapply (run_body c (grid0.coords t) _ _ _ _ _ _ _ _ _ _ (blk m hO c 0 t) (blk m hO c 1 t) (blk m hO c 2 t) (blk m hO c 3 t) (tab m 0) (tab m 1) Set.univ _)
  isplitl [H0]; · iexact H0
  isplitl [H1]; · iexact H1
  isplitl [H2]; · iexact H2
  isplitl [H3]; · iexact H3
  isplitl [H4]; · iexists _; iexact H4
  isplitl [HT0]; · iexact HT0
  isplitl [HT1]; · iexact HT1
  iintro ⟨H0, H1, H2, H3, H4, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  iexact H4

theorem call_row (hO : Fits m) (t : Fin (pipe m hO).N) :
    defs₀ (F := F) .tc (pipe m hO).body ((pipe m hO).bodyArgs t ((pipe m hO).slots t)) = callAt m hO t := by
  unfold defs₀; rw [Defs.onTc_tc]

attribute [local irreducible] tab k0_cond1 k0_cond2 in
theorem obliged (hO : Fits m) (c : Dev nD) : BodyObligation (dats (F := F) m hO 0 c) (defs₀ (F := F)) Variants.none () Set.univ := fun t => by
  rw [bigSep_W0, bigSep_W0, call_row m hO]
  exact triple_restated (call_sound m hO c t) rfl .rfl fun _ => .rfl

/-! ## The run -/

set_option backward.isDefEq.respectTransparency.types false in
/-- From any memory, tables fitting: @main ends with every array of the pipeline at what the proof data say, every other
    buffer as the region found it, every counter at zero. -/
theorem run_all (hO : Fits m) : θ_run defs (onTc (τ := τ) (main (F := F))) (s₀ m ρ)
    (fun r => (Pipeline.FramePost (Pipeline.pin pcfgs fun _ => fit m hO) (dats m hO) 0 (V m)) r ∧ r.2.sem = fun _ => 0) :=
  Pipeline.θ_run_frameP (Q' := _) pcfgs (fun _ => fit m hO) (dats m hO) (0 : Fin 1) launch0 defs₀ Variants.none m ρ main
    (hbody := fun c => (obliged m hO c).loose) (hshare := fun c => (dats m hO 0 c).share_full fun _ => rfl)
    (howed := fun _ _ => rfl) (V := V m) (hmain := enters m Variants.none) (hA := dats_A m hO) (hpf := V_tab m)
    (hΦ := fun _ _ => rfl)

/-- The result's array at the end: what the write-backs of all tiles make of it. -/
abbrev out (hO : Fits m) (c : Dev nD) : Buf (Elt F) ((c : Thread nD τ).loc main_v3) := (dats m hO 0 c).arrAt 4 (pipe m hO).N

/-- @main's end, buffer by buffer. -/
theorem run_main (hO : Fits m) : θ_run defs (onTc (τ := τ) (main (F := F))) ⟨m, fun _ => 0, ρ⟩ (fun r => (∀ c : Dev nD,
      r.2.mem ((c.tc : Thread nD τ).loc main_v3) = out m hO c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 4,
      ((h.1 c).2 main_arg0 (by decide : main_arg0 ∈ Pipeline.restRefs sig spec0)).trans (V_kept m c _ (by decide)),
      ((h.1 c).2 main_arg1 (by decide : main_arg1 ∈ Pipeline.restRefs sig spec0)).trans (V_kept m c _ (by decide)),
      ((h.1 c).1 0).trans (((dats m hO 0 c).arrAt_in 0 rfl _).trans ((dats_A m hO c 0).trans (V_kept m c main_arg2 (by decide)))),
      ((h.1 c).2 main_arg3 (by decide : main_arg3 ∈ Pipeline.restRefs sig spec0)).trans (V_kept m c _ (by decide)),
      ((h.1 c).2 main_arg4 (by decide : main_arg4 ∈ Pipeline.restRefs sig spec0)).trans (V_kept m c _ (by decide)),
      ((h.1 c).2 main_arg5 (by decide : main_arg5 ∈ Pipeline.restRefs sig spec0)).trans (V_kept m c _ (by decide))⟩, h.2⟩) (run_all m ρ hO)

end Cert.KernelIdeal.Moe

end
-- ==== Proof.Ffn.lean ====
/- The gated feed-forward of one row, as sums over the extended reals, and the kernel body's tile read entry by entry:
   row `a` of the tile's result is the feed-forward of row `a` of its block of rows through the blocks of its expert's
   three matrices. -/
module

public import proofs.«01_k».proof.Proof.Launched
public import Idealize.ShloMosaic.Lib.ValueLayout
public import Idealize.ShloMosaic.Lib.MatmulPlain
public import Idealize.ShloMosaic.Lib.StackMember

@[expose] public section

noncomputable section

namespace Cert.Ffn

open Idealize.ShloMosaic Idealize.ShloMosaic.ValueIdx

/-- The hidden entry `d` of a row `x`: `silu (x A) * (x B)`. -/
def hid (x : Fin 2048 → EReal) (A B : Fin 2048 → Fin 512 → EReal) (d : Fin 512) : EReal :=
  (∑ k, x k * A k d) * Ideal.logistic (∑ k, x k * A k d) * ∑ k, x k * B k d

/-- Entry `j` of the feed-forward of a row `x`. -/
def ffn (x : Fin 2048 → EReal) (A B : Fin 2048 → Fin 512 → EReal) (C : Fin 512 → Fin 2048 → EReal) (j : Fin 2048) : EReal :=
  ∑ d, hid x A B d * C d j

end Cert.Ffn

namespace Cert.KernelIdeal.Moe

open Cert.KernelIdeal.Gen Cert.Ffn
open Idealize.ShloMosaic Idealize.ShloMosaic.ValueIdx

theorem zeros_apply {s : Shape} (i : s.Idx) : constant (F := Ideal) s .f32 0x00000000#32 i = (0 : EReal) := by
  show Ideal.ofBits .f32 0x00000000#32 = 0
  exact Ideal.ofBits_zero_f32

/-- The first two products, at an entry. -/
theorem up_apply (x : FVec Ideal S256x2048 .bf16) (A : FVec Ideal S2048x512 .bf16) (a : Fin 256) (d : Fin 512) :
    matmul dot_S256x2048_S2048x512_S256x512_1_0_0_1_n_n none x A (constant S256x512 .f32 0x00000000#32) (ix2 a d)
      = ∑ k : Fin 2048, x (ix2 a k) * A (ix2 k d) :=
  (Ideal.matmul_plain_apply (M := 256) (K := 2048) (N := 512) none x A _ a d).trans (by rw [zeros_apply, zero_add])

/-- The last product, at an entry. -/
theorem down_apply (x : FVec Ideal S256x512 .bf16) (A : FVec Ideal S512x2048 .bf16) (a : Fin 256) (j : Fin 2048) :
    matmul dot_S256x512_S512x2048_S256x2048_1_0_0_1_n_n none x A (constant S256x2048 .f32 0x00000000#32) (ix2 a j)
      = ∑ d : Fin 512, x (ix2 a d) * A (ix2 d j) :=
  (Ideal.matmul_plain_apply (M := 256) (K := 512) (N := 2048) none x A _ a j).trans (by rw [zeros_apply, zero_add])

theorem pay1_apply (x0 : Vec Ideal S256x2048 .f32) (x1 x2 : Vec Ideal S1x2048x512 .f32) (x3 : Vec Ideal S1x512x2048 .f32)
    (a : Fin 256) (j : Fin 2048) :
    k0_pay1 x0 x1 x2 x3 (ix2 a j)
      = ffn (fun k => x0 (ix2 a k)) (fun k d => x1 (ix3 (0 : Fin 1) k d)) (fun k d => x2 (ix3 (0 : Fin 1) k d))
          (fun d j => x3 (ix3 (0 : Fin 1) d j)) j := by
  have w1 : ∀ (w : Vec Ideal S1x2048x512 .f32) (k : Fin 2048) (d : Fin 512),
      (truncf .bf16 (shapeCast S2048x512 w shapeCasts_S1x2048x512_S2048x512) bitsLt_bf16_f32 : FVec Ideal S2048x512 .bf16) (ix2 k d)
        = w (ix3 (0 : Fin 1) k d) := fun w k d => shapeCast_1ab_ab_apply (a := 2048) (b := 512) w _ k d
  have w2 : ∀ (d : Fin 512) (j : Fin 2048),
      (truncf .bf16 (shapeCast S512x2048 x3 shapeCasts_S1x512x2048_S512x2048) bitsLt_bf16_f32 : FVec Ideal S512x2048 .bf16) (ix2 d j)
        = x3 (ix3 (0 : Fin 1) d j) := fun d j => shapeCast_1ab_ab_apply (a := 512) (b := 2048) x3 _ d j
  unfold k0_pay1
  refine (down_apply _ _ a j).trans ?_
  unfold ffn hid
  refine Finset.sum_congr rfl fun d _ => ?_
  rw [w2]
  refine congrArg (· * x3 (ix3 (0 : Fin 1) d j)) ?_
  have e1 : ∀ w : Vec Ideal S1x2048x512 .f32, matmul dot_S256x2048_S2048x512_S256x512_1_0_0_1_n_n none (truncf .bf16 x0 bitsLt_bf16_f32 : FVec Ideal S256x2048 .bf16)
      (truncf .bf16 (shapeCast S2048x512 w shapeCasts_S1x2048x512_S2048x512) bitsLt_bf16_f32 : FVec Ideal S2048x512 .bf16)
      (constant S256x512 .f32 0x00000000#32) (ix2 a d) = ∑ k : Fin 2048, x0 (ix2 a k) * w (ix3 (0 : Fin 1) k d) := fun w =>
    (up_apply _ _ a d).trans (Finset.sum_congr rfl fun k _ => congrArg (x0 (ix2 a k) * ·) (w1 w k d))
  exact congrArg₂ (fun p q : EReal => p * Ideal.logistic p * q) (e1 x1) (e1 x2)

theorem pay2_apply (i : S256x2048.Idx) : k0_pay2 (F := Ideal) i = (0 : EReal) := by
  show Ideal.ofBits .f32 0x00000000#32 = 0
  exact Ideal.ofBits_zero_f32

end Cert.KernelIdeal.Moe
-- ==== Proof.Tables.lean ====
/- The tile table: a table whose entries are expert numbers keeps the expert windows inside the weights, and the
   precondition says the entries are such numbers. -/
module

public import proofs.«01_k».proof.Proof.Launched
public import proofs.«01_k».proof.Proof.Gen.Pre_te_ok
public import Idealize.ShloMosaic.Lib.StableHlo.Predicate
public import Idealize.ShloMosaic.Lib.ValueIdx

@[expose] public section

noncomputable section

namespace Cert.KernelIdeal.Moe

open Cert.KernelIdeal.Gen
open Idealize.ShloMosaic Idealize.ShloMosaic.TcCoe Idealize.ShloMosaic.ValueIdx
open Idealize.SL.Sem

variable {F : FTy → Type} [FloatOps F]
variable (m : (ℓ : Loc nD τ sig) → Buf (Elt F) ℓ)

/-- The table of the tiles' experts, as launched. -/
abbrev experts : IVec S168 32 := m (((0 : Dev nD) : Thread nD τ).loc main_arg0)

theorem tab_0 : tab m 0 = experts m := V_kept m 0 main_arg0 (by decide)
theorem tab_1 : tab m 1 = m (((0 : Dev nD) : Thread nD τ).loc main_arg1) := V_kept m 0 main_arg1 (by decide)

/-- The table's word at a tile. -/
theorem word (i : grid0.Coords) :
    (tab m).at 0 (Rect.unit (s := S168) ![(Scalar.indexCast (BitVec.ofNat 32 (i 0).val)).toNat] S1.size (k0_off1_inb i)) numel1_S1
      = experts m (ix1 (i 0)) := by
  show tab m 0 _ = _
  rw [tab_0]
  refine congrArg (experts m) ?_
  funext a
  apply Fin.ext
  match a with
  | ⟨0, _⟩ =>
    show (Scalar.indexCast (BitVec.ofNat 32 (i 0).val)).toNat + 1 * 0 = (i 0).val
    have hi : (i 0).val < 168 := (i 0).isLt
    have e : (Scalar.indexCast (BitVec.ofNat 32 (i 0).val)).toNat = (i 0).val := by simp [Scalar.indexCast]; omega
    omega

theorem fits (h : ∀ i, (experts m i).toNat < 32) : Fits m := by
  refine ⟨fun i => ⟨fun a => ?_, Or.inl rfl⟩, fun i => ⟨fun a => ?_, Or.inl rfl⟩, fun i => ⟨fun a => ?_, Or.inl rfl⟩⟩
  · have e : cc0_transform_1 k0_off1_inb numel1_S1 (tab m) i = ![(experts m (ix1 (i 0))).toNat, 0, 0] := by
      exact congrArg (fun b : BitVec 32 => ![b.toNat, 0, 0]) (word m i)
    rw [e]
    have := h (ix1 (i 0))
    match a with
    | ⟨0, _⟩ => show ((experts m (ix1 (i 0))).toNat + 1) * 1 ≤ 32; omega
    | ⟨1, _⟩ => show (0 + 1) * 2048 ≤ 2048; omega
    | ⟨2, _⟩ => show (0 + 1) * 512 ≤ 512; omega
  · have e : cc0_transform_2 k0_off1_inb numel1_S1 (tab m) i = ![(experts m (ix1 (i 0))).toNat, 0, 0] := by
      exact congrArg (fun b : BitVec 32 => ![b.toNat, 0, 0]) (word m i)
    rw [e]
    have := h (ix1 (i 0))
    match a with
    | ⟨0, _⟩ => show ((experts m (ix1 (i 0))).toNat + 1) * 1 ≤ 32; omega
    | ⟨1, _⟩ => show (0 + 1) * 2048 ≤ 2048; omega
    | ⟨2, _⟩ => show (0 + 1) * 512 ≤ 512; omega
  · have e : cc0_transform_3 k0_off1_inb numel1_S1 (tab m) i = ![(experts m (ix1 (i 0))).toNat, 0, 0] := by
      exact congrArg (fun b : BitVec 32 => ![b.toNat, 0, 0]) (word m i)
    rw [e]
    have := h (ix1 (i 0))
    match a with
    | ⟨0, _⟩ => show ((experts m (ix1 (i 0))).toNat + 1) * 1 ≤ 32; omega
    | ⟨1, _⟩ => show (0 + 1) * 512 ≤ 512; omega
    | ⟨2, _⟩ => show (0 + 1) * 2048 ≤ 2048; omega

omit m in
/-- The precondition, read at an entry. -/
theorem small_of_pre (te : IVec S168 32) (nu : IVec S1 32) (x : FVec F S43008x2048 .f32) (w1 w3 : FVec F S1x32x2048x512 .f32)
    (w2 : FVec F S1x32x512x2048 .f32) (h : Cert.Pre_te_ok.fn te nu x w1 w3 w2 = fun _ => 1#1) (i : S168.Idx) : (te i).toNat < 32 := by
  have e : IntOp.cmpi .sge (te i) 0#32 &&& IntOp.cmpi .slt (te i) 32#32 = 1#1 := congrFun h i
  generalize te i = b at e ⊢
  have e' : BitVec.ofBool ((0#32).sle b) &&& BitVec.ofBool (b.slt 32#32) = 1#1 := e
  have : ((0#32).sle b && b.slt 32#32) = true := by
    revert e'; cases (0#32).sle b <;> cases b.slt 32#32 <;> decide
  rw [Bool.and_eq_true] at this
  have h1 := BitVec.sle_iff_toInt_le.mp this.1
  have h2 := BitVec.slt_iff_toInt_lt.mp this.2
  have e1 := BitVec.toInt_eq_toNat_cond b
  have z : (0#32).toInt = 0 := rfl
  have z' : (32#32).toInt = 32 := rfl
  rw [z] at h1
  rw [z'] at h2
  have := b.isLt
  split at e1 <;> omega

theorem fits_of_pre (c : Dev nD) (h : Cert.Pre_te_ok.fn (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) = fun _ => 1#1) : Fits m := by
  obtain rfl : c = 0 := Subsingleton.elim _ _
  exact fits m (small_of_pre _ _ _ _ _ _ h)

end Cert.KernelIdeal.Moe
-- ==== Proof.Value.lean ====
/- The result array of the expert feed-forward, entry by entry: row `r` belongs to tile `r / 256`; below the number of
   used tiles it is the feed-forward of row `r` through the tile's expert, at any later tile zero. -/
module

public import proofs.«01_k».proof.Proof.Ffn
public import proofs.«01_k».proof.Proof.Tables
public import Idealize.ShloMosaic.Lib.Pipeline.ValueKit.Geometry

@[expose] public section

set_option maxRecDepth 16384

noncomputable section

namespace Cert.Ffn

open Idealize.ShloMosaic Idealize.ShloMosaic.ValueIdx

/-- The tile of a row. -/
def tileOf (r : Fin 43008) : Fin 168 := ⟨r.val / 256, by omega⟩

/-- Entry `(r, j)` of the layer's expert outputs over the sorted rows, row `r` in tile `t`, from the tiles' experts `te`, the number of used
    tiles `nu`, the rows and the three weights. -/
def moe (te : (⟨1, ![168]⟩ : Shape).Idx → BitVec 32) (hte : ∀ i, (te i).toNat < 32) (nu : BitVec 32)
    (x : (⟨2, ![43008, 2048]⟩ : Shape).Idx → EReal) (w1 w3 : (⟨4, ![1, 32, 2048, 512]⟩ : Shape).Idx → EReal)
    (w2 : (⟨4, ![1, 32, 512, 2048]⟩ : Shape).Idx → EReal) (t : Fin 168) (r : Fin 43008) (j : Fin 2048) : EReal :=
  if (BitVec.ofNat 32 t.val).slt nu = true then
    let e : Fin 32 := ⟨(te (ix1 t)).toNat, hte _⟩
    ffn (fun k => x (ix2 r k)) (fun k d => w1 (ix4 (0 : Fin 1) e k d)) (fun k d => w3 (ix4 (0 : Fin 1) e k d))
      (fun d j => w2 (ix4 (0 : Fin 1) e d j)) j
  else 0

end Cert.Ffn

namespace Cert.KernelIdeal.Moe

open Cert.KernelIdeal.Gen Cert.Ffn
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

theorem coord_val : ∀ t : Fin grid0.N, (grid0.coords t 0).val = t.val := by decide +kernel

abbrev rows (c : Dev nD) : Vec Ideal S43008x2048 .f32 := m ((c : Thread nD τ).loc main_arg2)
abbrev wA (c : Dev nD) : Vec Ideal S1x32x2048x512 .f32 := m ((c : Thread nD τ).loc main_arg3)
abbrev wB (c : Dev nD) : Vec Ideal S1x32x2048x512 .f32 := m ((c : Thread nD τ).loc main_arg4)
abbrev wC (c : Dev nD) : Vec Ideal S1x32x512x2048 .f32 := m ((c : Thread nD τ).loc main_arg5)

/-- The weights the region finds: the arguments without their unit axis. -/
theorem V_wA (c : Dev nD) (e : Fin 32) (k : Fin 2048) (d : Fin 512) :
    (V m c main_v0 : Vec Ideal S32x2048x512 .f32) (ix3 e k d) = wA m c (ix4 (0 : Fin 1) e k d) :=
  shapeCast_1abc_abc_apply (wA m c) _ e k d
theorem V_wB (c : Dev nD) (e : Fin 32) (k : Fin 2048) (d : Fin 512) :
    (V m c main_v1 : Vec Ideal S32x2048x512 .f32) (ix3 e k d) = wB m c (ix4 (0 : Fin 1) e k d) :=
  shapeCast_1abc_abc_apply (wB m c) _ e k d
theorem V_wC (c : Dev nD) (e : Fin 32) (d : Fin 512) (k : Fin 2048) :
    (V m c main_v2 : Vec Ideal S32x512x2048 .f32) (ix3 e d k) = wC m c (ix4 (0 : Fin 1) e d k) :=
  shapeCast_1abc_abc_apply (wC m c) _ e d k

variable (hO : Fits m)

theorem points : (pipe m hO).N = 168 := rfl

/-- A tile as a grid point. -/
def pt (t : Fin 168) : Fin (pipe m hO).N := t.cast (points m hO).symm

theorem pt_coord (t : Fin 168) : (grid0.coords (pt m hO t) 0).val = t.val := coord_val (pt m hO t)

/-- The row of the array that row `a` of tile `t` is. -/
def rowOf (t : Fin 168) (a : Fin 256) : Fin 43008 := ⟨256 * t.val + a.val, by omega⟩

theorem tileOf_rowOf (t : Fin 168) (a : Fin 256) : tileOf (rowOf t a) = t := by
  apply Fin.ext; show (256 * t.val + a.val) / 256 = t.val; omega

variable (h : ∀ i, (experts m i).toNat < 32)

/-- The expert of tile `t`. -/
abbrev expert (t : Fin 168) : Fin 32 := ⟨(experts m (ix1 t)).toNat, h _⟩

theorem coord_eq (t : Fin 168) : grid0.coords (pt m hO t) 0 = t := Fin.ext (pt_coord m hO t)

theorem emb_rows (t : Fin 168) (a : Fin 256) (k : Fin 2048) :
    (((pipe m hO).win 0).blk (pt m hO t)).view.emb (ix2 a k) = ix2 (rowOf t a) k := by
  have e := pt_coord m hO t
  have ht := t.isLt
  funext b; apply Fin.ext
  match b with
  | ⟨0, _⟩ =>
    show (BitVec.ofNat 32 (grid0.coords (pt m hO t) 0).val).toNat * 256 + 1 * a.val = 256 * t.val + a.val
    rw [e, BitVec.toNat_ofNat]; omega
  | ⟨1, _⟩ => show 0 * 2048 + 1 * k.val = k.val; omega

theorem emb_out (t : Fin 168) (a : Fin 256) (k : Fin 2048) :
    (((pipe m hO).win 4).blk (pt m hO t)).view.emb (ix2 a k) = ix2 (rowOf t a) k := emb_rows m hO t a k

theorem emb_wA (t : Fin 168) (k : Fin 2048) (d : Fin 512) :
    (((pipe m hO).win 1).blk (pt m hO t)).view.emb (ix3 (0 : Fin 1) k d) = ix3 (expert m h t) k d := by
  have w : _ = experts m (ix1 t) := (word m (grid0.coords (pt m hO t))).trans (congrArg (fun t => experts m (ix1 t)) (coord_eq m hO t))
  funext b; apply Fin.ext
  match b with
  | ⟨0, _⟩ =>
    refine (congrArg (fun b : BitVec 32 => b.toNat * 1 + 1 * 0) w).trans ?_
    show (experts m (ix1 t)).toNat * 1 + 1 * 0 = (experts m (ix1 t)).toNat
    omega
  | ⟨1, _⟩ => show 0 * 2048 + 1 * k.val = k.val; omega
  | ⟨2, _⟩ => show 0 * 512 + 1 * d.val = d.val; omega

theorem emb_wB (t : Fin 168) (k : Fin 2048) (d : Fin 512) :
    (((pipe m hO).win 2).blk (pt m hO t)).view.emb (ix3 (0 : Fin 1) k d) = ix3 (expert m h t) k d := emb_wA m hO h t k d

theorem emb_wC (t : Fin 168) (d : Fin 512) (k : Fin 2048) :
    (((pipe m hO).win 3).blk (pt m hO t)).view.emb (ix3 (0 : Fin 1) d k) = ix3 (expert m h t) d k := by
  have w : _ = experts m (ix1 t) := (word m (grid0.coords (pt m hO t))).trans (congrArg (fun t => experts m (ix1 t)) (coord_eq m hO t))
  funext b; apply Fin.ext
  match b with
  | ⟨0, _⟩ =>
    refine (congrArg (fun b : BitVec 32 => b.toNat * 1 + 1 * 0) w).trans ?_
    show (experts m (ix1 t)).toNat * 1 + 1 * 0 = (experts m (ix1 t)).toNat
    omega
  | ⟨1, _⟩ => show 0 * 512 + 1 * d.val = d.val; omega
  | ⟨2, _⟩ => show 0 * 2048 + 1 * k.val = k.val; omega

attribute [local irreducible] StableHlo.after

theorem blk_rows (c : Dev nD) (t : Fin 168) (a : Fin 256) (k : Fin 2048) :
    (blk m hO c 0 (pt m hO t) : Vec Ideal S256x2048 .f32) (ix2 a k) = rows m c (ix2 (rowOf t a) k) := by
  show V m c main_arg2 ((((pipe m hO).win 0).blk (pt m hO t)).view.emb (ix2 a k)) = _
  rw [emb_rows, V_kept m c main_arg2 (by decide)]
theorem blk_wA (c : Dev nD) (t : Fin 168) (k : Fin 2048) (d : Fin 512) :
    (blk m hO c 1 (pt m hO t) : Vec Ideal S1x2048x512 .f32) (ix3 (0 : Fin 1) k d) = wA m c (ix4 (0 : Fin 1) (expert m h t) k d) := by
  show V m c main_v0 ((((pipe m hO).win 1).blk (pt m hO t)).view.emb (ix3 (0 : Fin 1) k d)) = _
  rw [emb_wA m hO h]; exact V_wA m c _ k d
theorem blk_wB (c : Dev nD) (t : Fin 168) (k : Fin 2048) (d : Fin 512) :
    (blk m hO c 2 (pt m hO t) : Vec Ideal S1x2048x512 .f32) (ix3 (0 : Fin 1) k d) = wB m c (ix4 (0 : Fin 1) (expert m h t) k d) := by
  show V m c main_v1 ((((pipe m hO).win 2).blk (pt m hO t)).view.emb (ix3 (0 : Fin 1) k d)) = _
  rw [emb_wB m hO h]; exact V_wB m c _ k d
theorem blk_wC (c : Dev nD) (t : Fin 168) (d : Fin 512) (k : Fin 2048) :
    (blk m hO c 3 (pt m hO t) : Vec Ideal S1x512x2048 .f32) (ix3 (0 : Fin 1) d k) = wC m c (ix4 (0 : Fin 1) (expert m h t) d k) := by
  show V m c main_v2 ((((pipe m hO).win 3).blk (pt m hO t)).view.emb (ix3 (0 : Fin 1) d k)) = _
  rw [emb_wC m hO h]; exact V_wC m c _ d k

/-- The result as a function of the launched arrays. -/
def result (c : Dev nD) : Vec Ideal S43008x2048 .f32 := fun i =>
  moe (experts m) h (used m) (rows m c) (wA m c) (wB m c) (wC m c) (tileOf (i 0)) (i 0) (i 1)

theorem cond_iff (i : grid0.Coords) (w : BitVec 32) : k0_cond1 i w = 1#1 ↔ (BitVec.ofNat 32 (i 0).val).slt w = true := by
  have e : k0_cond1 i w = IntOp.cmpi .ne ((BitVec.ofBool ((BitVec.ofNat 32 (i 0).val).slt w)).setWidth 32) 0#32 := rfl
  rw [e]
  cases (BitVec.ofNat 32 (i 0).val).slt w <;> decide

theorem tile_apply (c : Dev nD) (t : Fin 168) (a : Fin 256) (j : Fin 2048) :
    (tile m hO c (pt m hO t) : Vec Ideal S256x2048 .f32) (ix2 a j) = result m h c (ix2 (rowOf t a) j) := by
  show _ = moe (experts m) h (used m) (rows m c) (wA m c) (wB m c) (wC m c) (tileOf (rowOf t a)) (rowOf t a) j
  rw [tileOf_rowOf]
  unfold tile leaves moe
  have hc := (cond_iff (grid0.coords (pt m hO t)) (used m)).trans (by rw [pt_coord m hO t])
  by_cases hu : k0_cond1 (grid0.coords (pt m hO t)) (used m) = 1#1
  · rw [if_pos hu, if_pos (hc.mp hu)]
    refine (pay1_apply _ _ _ _ a j).trans ?_
    simp only [blk_rows, blk_wA m hO h, blk_wB m hO h, blk_wC m hO h]
  · rw [if_neg hu, if_neg (fun h => hu (hc.mpr h))]
    exact pay2_apply _

theorem flushes (t : Fin (pipe m hO).N) : ((pipe m hO).win 4).flush t = true :=
  (Pipeline.Window.flushOf_reads cc0_transform_4 reads0_4 hreads0_4 0 (by decide) (by decide)
    (Pipeline.Window.sep_of_coord cc0_transform_4 0 0 (fun _ => rfl) (by decide)) (P := 1) (m := 0) (by decide) rfl t).mpr (Nat.mod_one _)

theorem ix2_of (y : S256x2048.Idx) : ∃ (a : Fin 256) (j : Fin 2048), y = ix2 a j := ⟨y 0, y 1, eq_ix2 y⟩
theorem ix2_of' (y : S43008x2048.Idx) : ∃ (r : Fin 43008) (j : Fin 2048), y = ix2 r j := ⟨y 0, y 1, eq_ix2 y⟩
theorem pt_of (t : Fin (pipe m hO).N) : ∃ u, t = pt m hO u := ⟨t.cast (points m hO), rfl⟩

theorem hG (c : Dev nD) (t : Fin 168) (a : Fin 256) (j : Fin 2048) :
    (tile m hO c (pt m hO t) : Vec Ideal S256x2048 .f32) (ix2 a j)
      = result m h c ((((pipe m hO).win 4).blk (pt m hO t)).view.emb (ix2 a j)) :=
  (tile_apply m hO h c t a j).trans (congrArg (result m h c) (emb_out m hO t a j).symm)

theorem out_eq (c : Dev nD) : out m hO c = result m h c := by
  refine (dats m hO 0 c).arrAt_eq_of_emb 4 (result m h c) (fun t _ y => ?_) (fun i => ?_)
  · rw [left_4]
    obtain ⟨t, rfl⟩ := pt_of m hO t
    obtain ⟨a, j, e⟩ := ix2_of y
    obtain rfl : y = (ix2 a j : S256x2048.Idx) := e
    exact hG m hO h c t a j
  · obtain ⟨r, j, e⟩ := ix2_of' i
    obtain rfl : i = (ix2 r j : S43008x2048.Idx) := e
    refine ⟨pt m hO (tileOf r), flushes m hO _, ?_⟩
    have e := emb_out m hO (tileOf r) ⟨r.val % 256, by omega⟩ j
    have er : rowOf (tileOf r) ⟨r.val % 256, by omega⟩ = r := by
      apply Fin.ext; show 256 * (r.val / 256) + r.val % 256 = r.val; omega
    rw [er] at e
    rw [← e]
    exact View.emb_mem_set _ _

end Cert.KernelIdeal.Moe
-- ==== Proof.SmallSpec.lean ====
/- What the small projection computes of one row: products with columns of the input weight, a root-mean-square norm,
   a rotation of two halves. -/
module

public import Idealize.ShloMosaic.PureOps.Ideal.Laws
public import Idealize.ShloMosaic.Lib.ValueIdx
public import Idealize.ShloMosaic.Lib.Pipeline.Value

@[expose] public section

noncomputable section

namespace Cert.Small

open Idealize.ShloMosaic Idealize.ShloMosaic.ValueIdx

/-- A row of activations times column `n` of the input weight. -/
def proj {B S : ℕ} (x : (⟨3, ![B, S, 2048]⟩ : Shape).Idx → EReal) (w : (⟨3, ![1, 2048, 8848]⟩ : Shape).Idx → EReal)
    (b : Fin B) (s : Fin S) (n : Fin 8848) : EReal := ∑ k : Fin 2048, x (ix3 b s k) * w (ix3 (0 : Fin 1) k n)

/-- Entry `j` of a row `p`, divided by the root of the row's mean square and scaled by `g`; `cnt` is the row's length as
    a float word. -/
def normed {n : ℕ} (cnt : BitVec 32) (p : Fin n → EReal) (g : EReal) (j : Fin n) : EReal :=
  p j * Ideal.rsqrt (Ideal.div (∑ l, p l * p l) (Ideal.ofBits .f32 cnt) + Ideal.ofBits .f32 0x358637BD#32) * g

/-- Entry `j` of a row of 64 rotated by the angles whose cosines and sines are `c` and `s`: `x₁ c - x₂ s` in the first
    half, `x₁ s + x₂ c` in the second. -/
def turned (c s : Fin 32 → EReal) (p : Fin 64 → EReal) (j : Fin 64) : EReal :=
  if h : j.val < 32 then p ⟨j.val, by omega⟩ * c ⟨j.val, h⟩ - p ⟨32 + j.val, by omega⟩ * s ⟨j.val, h⟩
  else p ⟨j.val - 32, by omega⟩ * s ⟨j.val - 32, by omega⟩ + p ⟨j.val, by omega⟩ * c ⟨j.val - 32, by omega⟩

theorem turned_left (c s : Fin 32 → EReal) (p : Fin 64 → EReal) (l : Fin 32) :
    turned c s p ⟨l.val, by omega⟩ = p ⟨l.val, by omega⟩ * c l - p ⟨32 + l.val, by omega⟩ * s l := by
  unfold turned; rw [dif_pos l.isLt]

theorem turned_right (c s : Fin 32 → EReal) (p : Fin 64 → EReal) (l : Fin 32) :
    turned c s p ⟨32 + l.val, by omega⟩ = p ⟨l.val, by omega⟩ * s l + p ⟨32 + l.val, by omega⟩ * c l := by
  unfold turned
  rw [dif_neg (by show ¬ 32 + l.val < 32; omega)]
  have e : 32 + l.val - 32 = l.val := by omega
  simp only [e]

/-- A column of 64 lies in the first or the second half. -/
theorem halves (j : Fin 64) : (∃ l : Fin 32, j = ⟨l.val, by omega⟩) ∨ ∃ l : Fin 32, j = ⟨32 + l.val, by omega⟩ := by
  by_cases h : j.val < 32
  · exact .inl ⟨⟨j.val, h⟩, rfl⟩
  · exact .inr ⟨⟨j.val - 32, by omega⟩, Fin.ext (by show j.val = 32 + (j.val - 32); omega)⟩

/-- Two tables of 32 columns side by side. -/
theorem beside_left {R : ℕ} (x y : (⟨2, ![R, 32]⟩ : Shape).Idx → EReal)
    (h : Shape.Concatenates [(⟨2, ![R, 32]⟩ : Shape), (⟨2, ![R, 32]⟩ : Shape)] (⟨2, ![R, 64]⟩ : Shape) 1) (s : Fin R) (l : Fin 32) :
    concatenate (⟨2, ![R, 64]⟩ : Shape) 1 [⟨(⟨2, ![R, 32]⟩ : Shape), x⟩, ⟨(⟨2, ![R, 32]⟩ : Shape), y⟩] h (ix2 s (⟨l.val, by omega⟩ : Fin 64)) = x (ix2 s l) := by
  refine concatenate_pair_apply_left 1 x y h _ rfl (ix2 s l) (fun b => ?_)
  match b with
  | ⟨0, _⟩ => rfl
  | ⟨1, _⟩ => rfl

theorem beside_right {R : ℕ} (x y : (⟨2, ![R, 32]⟩ : Shape).Idx → EReal)
    (h : Shape.Concatenates [(⟨2, ![R, 32]⟩ : Shape), (⟨2, ![R, 32]⟩ : Shape)] (⟨2, ![R, 64]⟩ : Shape) 1) (s : Fin R) (l : Fin 32) :
    concatenate (⟨2, ![R, 64]⟩ : Shape) 1 [⟨(⟨2, ![R, 32]⟩ : Shape), x⟩, ⟨(⟨2, ![R, 32]⟩ : Shape), y⟩] h (ix2 s (⟨32 + l.val, by omega⟩ : Fin 64)) = y (ix2 s l) := by
  refine concatenate_pair_apply_right 1 x y h _ rfl rfl (ix2 s l) (fun b hb => ?_) ?_
  · match b with
    | ⟨0, _⟩ => rfl
    | ⟨1, _⟩ => exact absurd rfl hb
  · show l.val + 32 = 32 + l.val; omega

variable {B S : ℕ}

/-- A slice, along its columns, of the product of the activations with the input weight. -/
theorem slice_proj (x : (⟨3, ![B, S, 2048]⟩ : Shape).Idx → EReal) (w : (⟨3, ![1, 2048, 8848]⟩ : Shape).Idx → EReal)
    (y : (⟨3, ![B, S, 8848]⟩ : Shape).Idx → EReal) (hy : ∀ b s n, y (ix3 b s n) = proj x w b s n)
    {n : ℕ} (o : ℕ) (ho : o + n ≤ 8848) (h : (⟨3, ![B, S, 8848]⟩ : Shape).Slices ![0, 0, o] (⟨3, ![B, S, n]⟩ : Shape))
    (b : Fin B) (s : Fin S) (j : Fin n) :
    extractStridedSlice (⟨3, ![B, S, n]⟩ : Shape) ![0, 0, o] y h (ix3 b s j) = proj x w b s ⟨o + j.val, by omega⟩ := by
  rw [← hy]
  refine extractStridedSlice_apply _ _ _ _ (ix3 b s (⟨o + j.val, by omega⟩ : Fin 8848)) (fun a => ?_)
  match a with
  | ⟨0, _⟩ => show b.val = 0 + b.val; omega
  | ⟨1, _⟩ => show s.val = 0 + s.val; omega
  | ⟨2, _⟩ => rfl

/-- A row-major relabelling from sequences and positions to flat rows. -/
theorem flat_at {n R : ℕ} (y : (⟨3, ![B, S, n]⟩ : Shape).Idx → EReal) (h : (⟨3, ![B, S, n]⟩ : Shape).ShapeCasts (⟨2, ![R, n]⟩ : Shape))
    (b : Fin B) (s : Fin S) (j : Fin n) (r : Fin R) (hr : r.val = S * b.val + s.val) :
    shapeCast (⟨2, ![R, n]⟩ : Shape) y h (ix2 r j) = y (ix3 b s j) := by
  refine shapeCast_apply y h _ _ ?_
  rw [Shape.rowMajor_val_three, Shape.rowMajor_val_two]
  show (b.val * S + s.val) * n + j.val = r.val * n + j.val
  rw [hr, Nat.mul_comm b.val]

/-- Two halves, each the rotation's, laid side by side are the rotated row. -/
theorem turned_halves (lo hi : (⟨3, ![B, S, 32]⟩ : Shape).Idx → EReal) (b : Fin B) (s : Fin S) (c t : Fin 32 → EReal) (p : Fin 64 → EReal)
    (hc : Shape.Concatenates [(⟨3, ![B, S, 32]⟩ : Shape), (⟨3, ![B, S, 32]⟩ : Shape)] (⟨3, ![B, S, 64]⟩ : Shape) 2)
    (hlo : ∀ l : Fin 32, lo (ix3 b s l) = p ⟨l.val, by omega⟩ * c l - p ⟨32 + l.val, by omega⟩ * t l)
    (hhi : ∀ l : Fin 32, hi (ix3 b s l) = p ⟨l.val, by omega⟩ * t l + p ⟨32 + l.val, by omega⟩ * c l) (j : Fin 64) :
    concatenate (⟨3, ![B, S, 64]⟩ : Shape) 2 [⟨(⟨3, ![B, S, 32]⟩ : Shape), lo⟩, ⟨(⟨3, ![B, S, 32]⟩ : Shape), hi⟩] hc (ix3 b s j) = turned c t p j := by
  rcases halves j with ⟨l, rfl⟩ | ⟨l, rfl⟩
  · rw [turned_left, ← hlo]
    refine concatenate_pair_apply_left 2 _ _ hc _ rfl (ix3 b s l) (fun a => ?_)
    match a with
    | ⟨0, _⟩ => rfl
    | ⟨1, _⟩ => rfl
    | ⟨2, _⟩ => rfl
  · rw [turned_right, ← hhi]
    refine concatenate_pair_apply_right 2 _ _ hc _ rfl rfl (ix3 b s l) (fun a ha => ?_) ?_
    · match a with
      | ⟨0, _⟩ => rfl
      | ⟨1, _⟩ => rfl
      | ⟨2, _⟩ => exact absurd rfl ha
    · show l.val + 32 = 32 + l.val; omega

end Cert.Small
-- ==== Proof.Small.lean ====
/- The arrays the small projection's call is handed, entry by entry: the packed weight's columns are columns of the
   layer's input weight, the tables hold the rotation's cosines and sines, the rows are the activations. -/
module

public import proofs.«01_k».proof.Proof.Gen.Kernel2Ideal.Value
public import proofs.«01_k».proof.Proof.Gen.Reference2Ideal.Read
public import proofs.«01_k».proof.Proof.SmallSpec
public import Idealize.ShloMosaic.Lib.StableHlo.RunRead
public import Idealize.ShloMosaic.Lib.ValueIdx
public import Idealize.ShloMosaic.PureOps.Ideal.Laws

@[expose] public section

set_option maxRecDepth 16384

noncomputable section

namespace Cert.Kernel2Ideal.Small

open Cert.Kernel2Ideal.Gen
open Idealize.ShloMosaic Idealize.ShloMosaic.TcCoe Idealize.ShloMosaic.ValueIdx
open Idealize.SL.Sem

/-- The input weight without its unit axis. -/
def wide (w : FVec Ideal S1x2048x8848 .f32) : FVec Ideal S2048x8848 .f32 := shapeCast S2048x8848 w shapeCasts_S1x2048x8848_S2048x8848

theorem wide_apply (w : FVec Ideal S1x2048x8848 .f32) (k : Fin 2048) (n : Fin 8848) : wide w (ix2 k n) = w (ix3 (0 : Fin 1) k n) := by
  refine shapeCast_apply w shapeCasts_S1x2048x8848_S2048x8848 _ _ ?_
  rw [Shape.rowMajor_val_three, Shape.rowMajor_val_two]
  show (0 * 2048 + k.val) * 8848 + n.val = k.val * 8848 + n.val
  omega

/-- The rotated columns with their halves exchanged. -/
def swapped (w : FVec Ideal S1x2048x8848 .f32) : FVec Ideal S2048x64 .f32 :=
  concatenate S2048x64 1
    [⟨S2048x32, extractStridedSlice S2048x32 ![0, 32] (extractStridedSlice S2048x64 ![0, 2048] (wide w) slices_S2048x8848_S2048x64_0_2048) slices_S2048x64_S2048x32_0_32⟩,
     ⟨S2048x32, extractStridedSlice S2048x32 ![0, 0] (extractStridedSlice S2048x64 ![0, 2048] (wide w) slices_S2048x8848_S2048x64_0_2048) slices_S2048x64_S2048x32_0_0⟩]
    concatenates_S2048x32_S2048x32_S2048x64_d1

/-- The packed weight's pieces. -/
def pieces (w : FVec Ideal S1x2048x8848 .f32) : List ((s : Shape) × (s.Idx → Ideal .f32)) :=
    [⟨S2048x512, extractStridedSlice S2048x512 ![0, 1536] (wide w) slices_S2048x8848_S2048x512_0_1536⟩,
     ⟨S2048x64, extractStridedSlice S2048x64 ![0, 2048] (wide w) slices_S2048x8848_S2048x64_0_2048⟩,
     ⟨S2048x64, swapped w⟩,
     ⟨S2048x256, extractStridedSlice S2048x256 ![0, 3136] (wide w) slices_S2048x8848_S2048x256_0_3136⟩,
     ⟨S2048x256, extractStridedSlice S2048x256 ![0, 3392] (wide w) slices_S2048x8848_S2048x256_0_3392⟩,
     ⟨S2048x64, extractStridedSlice S2048x64 ![0, 4672] (wide w) slices_S2048x8848_S2048x64_0_4672⟩,
     ⟨S2048x16, extractStridedSlice S2048x16 ![0, 4736] (wide w) slices_S2048x8848_S2048x16_0_4736⟩,
     ⟨S2048x48, broadcastInDim S2048x48 ![] bcast_S_S2048x48 (constant (F := Ideal) S_ .f32 0x00000000#32)⟩]

/-- The packed weight. -/
def packed (w : FVec Ideal S1x2048x8848 .f32) : FVec Ideal S2048x1280 .f32 :=
  concatenate S2048x1280 1 (pieces w)
    concatenates_S2048x512_S2048x64_S2048x64_S2048x256_S2048x256_S2048x64_S2048x16_S2048x48_S2048x1280_d1

theorem slice_apply {n : ℕ} (o : ℕ) (w : FVec Ideal S1x2048x8848 .f32) (h : S2048x8848.Slices ![0, o] (⟨2, ![2048, n]⟩ : Shape))
    (k : Fin 2048) (j : Fin n) (hj : o + j.val < 8848) :
    extractStridedSlice (⟨2, ![2048, n]⟩ : Shape) ![0, o] (wide w) h (ix2 k j) = w (ix3 (0 : Fin 1) k ⟨o + j.val, hj⟩) := by
  refine (extractStridedSlice_apply _ _ _ _ (ix2 k (⟨o + j.val, hj⟩ : Fin 8848)) (fun a => ?_)).trans (wide_apply w k _)
  match a with
  | ⟨0, _⟩ => show k.val = 0 + k.val; omega
  | ⟨1, _⟩ => rfl

theorem swapped_left (w : FVec Ideal S1x2048x8848 .f32) (k : Fin 2048) (l : Fin 32) :
    swapped w (ix2 k (⟨l.val, by omega⟩ : Fin 64)) = w (ix3 (0 : Fin 1) k ⟨2080 + l.val, by omega⟩) := by
  have e : swapped w (ix2 k (⟨l.val, by omega⟩ : Fin 64)) = (extractStridedSlice S2048x32 ![0, 32] (extractStridedSlice S2048x64 ![0, 2048] (wide w) slices_S2048x8848_S2048x64_0_2048) slices_S2048x64_S2048x32_0_32) (ix2 k l) := by
    unfold swapped
    refine concatenate_pair_apply_left (t := S2048x64) (s₁ := S2048x32) (s₂ := S2048x32) 1 _ _ concatenates_S2048x32_S2048x32_S2048x64_d1 _ rfl (ix2 k l) (fun b => ?_)
    match b with
    | ⟨0, _⟩ => rfl
    | ⟨1, _⟩ => rfl
  have e2 : (extractStridedSlice S2048x32 ![0, 32] (extractStridedSlice S2048x64 ![0, 2048] (wide w) slices_S2048x8848_S2048x64_0_2048) slices_S2048x64_S2048x32_0_32) (ix2 k l)
      = (extractStridedSlice S2048x64 ![0, 2048] (wide w) slices_S2048x8848_S2048x64_0_2048) (ix2 k (⟨32 + l.val, by omega⟩ : Fin 64)) := by
    refine extractStridedSlice_apply _ _ _ _ _ (fun a => ?_)
    match a with
    | ⟨0, _⟩ => show k.val = 0 + k.val; omega
    | ⟨1, _⟩ => rfl
  have e3 := slice_apply (n := 64) 2048 w slices_S2048x8848_S2048x64_0_2048 k (⟨32 + l.val, by omega⟩ : Fin 64) (by show 2048 + (32 + l.val) < 8848; omega)
  rw [e, e2]
  refine e3.trans (congrArg (fun n => w (ix3 (0 : Fin 1) k n)) (Fin.ext ?_))
  show 2048 + (32 + l.val) = 2080 + l.val; omega

theorem swapped_right (w : FVec Ideal S1x2048x8848 .f32) (k : Fin 2048) (l : Fin 32) :
    swapped w (ix2 k (⟨32 + l.val, by omega⟩ : Fin 64)) = w (ix3 (0 : Fin 1) k ⟨2048 + l.val, by omega⟩) := by
  have e : swapped w (ix2 k (⟨32 + l.val, by omega⟩ : Fin 64)) = (extractStridedSlice S2048x32 ![0, 0] (extractStridedSlice S2048x64 ![0, 2048] (wide w) slices_S2048x8848_S2048x64_0_2048) slices_S2048x64_S2048x32_0_0) (ix2 k l) := by
    unfold swapped
    refine concatenate_pair_apply_right (t := S2048x64) (s₁ := S2048x32) (s₂ := S2048x32) 1 _ _ concatenates_S2048x32_S2048x32_S2048x64_d1 _ rfl rfl (ix2 k l) (fun b hb => ?_) ?_
    · match b with
      | ⟨0, _⟩ => rfl
      | ⟨1, _⟩ => exact absurd rfl hb
    · show l.val + 32 = 32 + l.val; omega
  have e2 : (extractStridedSlice S2048x32 ![0, 0] (extractStridedSlice S2048x64 ![0, 2048] (wide w) slices_S2048x8848_S2048x64_0_2048) slices_S2048x64_S2048x32_0_0) (ix2 k l)
      = (extractStridedSlice S2048x64 ![0, 2048] (wide w) slices_S2048x8848_S2048x64_0_2048) (ix2 k (⟨l.val, by omega⟩ : Fin 64)) := by
    refine extractStridedSlice_apply _ _ _ _ _ (fun a => ?_)
    match a with
    | ⟨0, _⟩ => show k.val = 0 + k.val; omega
    | ⟨1, _⟩ => show l.val = 0 + l.val; omega
  have e3 := slice_apply (n := 64) 2048 w slices_S2048x8848_S2048x64_0_2048 k (⟨l.val, by omega⟩ : Fin 64) (by show 2048 + (l.val) < 8848; omega)
  rw [e, e2]
  refine e3.trans (congrArg (fun n => w (ix3 (0 : Fin 1) k n)) (Fin.ext ?_))
  show 2048 + (l.val) = 2048 + l.val; omega

/-- A column of the packed weight, in the piece that it falls in. -/
theorem packed_at (w : FVec Ideal S1x2048x8848 .f32) (k : Fin 2048) {n : ℕ} (i : ℕ) (hi : i < (pieces w).length)
    (v : (⟨2, ![2048, n]⟩ : Shape).Idx → Ideal .f32) (hv : (pieces w)[i] = ⟨⟨2, ![2048, n]⟩, v⟩) (pre : ℕ)
    (hpre : ((((pieces w).take i).map (·.1)).map fun s => if h : s.rank = S2048x1280.rank then s.size ((1 : Fin S2048x1280.rank).cast h.symm) else 0).sum = pre)
    (j : Fin n) (c : Fin 1280) (hc : pre + j.val = c.val) : packed w (ix2 k c) = v (ix2 k j) := by
  unfold packed
  refine concatenate_apply_piece (t := S2048x1280) 1 (pieces w) concatenates_S2048x512_S2048x64_S2048x64_S2048x256_S2048x256_S2048x64_S2048x16_S2048x48_S2048x1280_d1
    (ix2 k c) i hi ⟨2, ![2048, n]⟩ v hv rfl pre hpre (ix2 k j) (fun b hb => ?_) hc
  match b with
  | ⟨0, _⟩ => rfl
  | ⟨1, _⟩ => exact absurd rfl hb

theorem packed_ckv (w : FVec Ideal S1x2048x8848 .f32) (k : Fin 2048) (j : Fin 512) :
    packed w (ix2 k (⟨j.val, by omega⟩ : Fin 1280)) = w (ix3 (0 : Fin 1) k ⟨1536 + j.val, by omega⟩) := by
  have e : packed w (ix2 k (⟨j.val, by omega⟩ : Fin 1280)) = (extractStridedSlice S2048x512 ![0, 1536] (wide w) slices_S2048x8848_S2048x512_0_1536) (ix2 k j) :=
    packed_at (n := 512) w k 0 (show 0 < 8 by decide) _ rfl 0 rfl j _ (by show 0 + j.val = j.val; omega)
  rw [e]
  exact slice_apply 1536 w _ k j (by omega)

theorem packed_kr (w : FVec Ideal S1x2048x8848 .f32) (k : Fin 2048) (j : Fin 64) :
    packed w (ix2 k (⟨512 + j.val, by omega⟩ : Fin 1280)) = w (ix3 (0 : Fin 1) k ⟨2048 + j.val, by omega⟩) := by
  have e : packed w (ix2 k (⟨512 + j.val, by omega⟩ : Fin 1280)) = (extractStridedSlice S2048x64 ![0, 2048] (wide w) slices_S2048x8848_S2048x64_0_2048) (ix2 k j) :=
    packed_at (n := 64) w k 1 (show 1 < 8 by decide) _ rfl 512 rfl j _ rfl
  rw [e]
  exact slice_apply 2048 w _ k j (by omega)

theorem packed_swap (w : FVec Ideal S1x2048x8848 .f32) (k : Fin 2048) (j : Fin 64) :
    packed w (ix2 k (⟨576 + j.val, by omega⟩ : Fin 1280)) = swapped w (ix2 k j) := by
  exact packed_at w k 2 (show 2 < 8 by decide) (swapped w) rfl 576 rfl j ⟨576 + j.val, by omega⟩ rfl

theorem packed_kb (w : FVec Ideal S1x2048x8848 .f32) (k : Fin 2048) (j : Fin 256) :
    packed w (ix2 k (⟨640 + j.val, by omega⟩ : Fin 1280)) = w (ix3 (0 : Fin 1) k ⟨3136 + j.val, by omega⟩) := by
  have e : packed w (ix2 k (⟨640 + j.val, by omega⟩ : Fin 1280)) = (extractStridedSlice S2048x256 ![0, 3136] (wide w) slices_S2048x8848_S2048x256_0_3136) (ix2 k j) :=
    packed_at (n := 256) w k 3 (show 3 < 8 by decide) _ rfl 640 rfl j _ rfl
  rw [e]
  exact slice_apply 3136 w _ k j (by omega)

theorem packed_vb (w : FVec Ideal S1x2048x8848 .f32) (k : Fin 2048) (j : Fin 256) :
    packed w (ix2 k (⟨896 + j.val, by omega⟩ : Fin 1280)) = w (ix3 (0 : Fin 1) k ⟨3392 + j.val, by omega⟩) := by
  have e : packed w (ix2 k (⟨896 + j.val, by omega⟩ : Fin 1280)) = (extractStridedSlice S2048x256 ![0, 3392] (wide w) slices_S2048x8848_S2048x256_0_3392) (ix2 k j) :=
    packed_at (n := 256) w k 4 (show 4 < 8 by decide) _ rfl 896 rfl j _ rfl
  rw [e]
  exact slice_apply 3392 w _ k j (by omega)

theorem packed_ki (w : FVec Ideal S1x2048x8848 .f32) (k : Fin 2048) (j : Fin 64) :
    packed w (ix2 k (⟨1152 + j.val, by omega⟩ : Fin 1280)) = w (ix3 (0 : Fin 1) k ⟨4672 + j.val, by omega⟩) := by
  have e : packed w (ix2 k (⟨1152 + j.val, by omega⟩ : Fin 1280)) = (extractStridedSlice S2048x64 ![0, 4672] (wide w) slices_S2048x8848_S2048x64_0_4672) (ix2 k j) :=
    packed_at (n := 64) w k 5 (show 5 < 8 by decide) _ rfl 1152 rfl j _ rfl
  rw [e]
  exact slice_apply 4672 w _ k j (by omega)

/-- The rotation's cosine and sine at a position and a frequency. -/
abbrev cosT : FVec Ideal S4096x32 .f32 := Cert.Reference2Ideal.Read.val_main_v40 (F := Ideal)
abbrev sinT : FVec Ideal S4096x32 .f32 := Cert.Reference2Ideal.Read.val_main_v41 (F := Ideal)

/-- A table of 64 columns from two of 32. -/
def pair (x y : FVec Ideal S4096x32 .f32) : FVec Ideal S4096x64 .f32 :=
  concatenate S4096x64 1 [⟨S4096x32, x⟩, ⟨S4096x32, y⟩] concatenates_S4096x32_S4096x32_S4096x64_d1

theorem pair_left (x y : FVec Ideal S4096x32 .f32) (s : Fin 4096) (l : Fin 32) : pair x y (ix2 s (⟨l.val, by omega⟩ : Fin 64)) = x (ix2 s l) :=
  Cert.Small.beside_left x y _ s l

theorem pair_right (x y : FVec Ideal S4096x32 .f32) (s : Fin 4096) (l : Fin 32) : pair x y (ix2 s (⟨32 + l.val, by omega⟩ : Fin 64)) = y (ix2 s l) :=
  Cert.Small.beside_right x y _ s l

variable (m : (ℓ : Loc nD τ sig) → Buf (Elt Ideal) ℓ)

abbrev acts (c : Dev nD) : FVec Ideal S4x4096x2048 .f32 := m ((c : Thread nD τ).loc main_arg0)
abbrev wIn (c : Dev nD) : FVec Ideal S1x2048x8848 .f32 := m ((c : Thread nD τ).loc main_arg1)
abbrev gKv (c : Dev nD) : FVec Ideal S1x512 .f32 := m ((c : Thread nD τ).loc main_arg2)
abbrev gKi (c : Dev nD) : FVec Ideal S1x64 .f32 := m ((c : Thread nD τ).loc main_arg3)

theorem V_cos (c : Dev nD) : (V m c main_v15 : FVec Ideal S4096x64 .f32) = pair cosT cosT := by
  show StableHlo.after hostOps0 (fun b => m (c, b)) (Proc.devRef .tc main_v15) = _
  after_reads_simp
  rfl

theorem V_sin (c : Dev nD) : (V m c main_v17 : FVec Ideal S4096x64 .f32) = pair (Host.negf sinT) sinT := by
  show StableHlo.after hostOps0 (fun b => m (c, b)) (Proc.devRef .tc main_v17) = _
  after_reads_simp
  rfl

set_option maxHeartbeats 1600000 in
theorem V_packed (c : Dev nD) : (V m c main_v31 : FVec Ideal S2048x1280 .bf16) = packed (wIn m c) := by
  show StableHlo.after hostOps0 (fun b => m (c, b)) (Proc.devRef .tc main_v31) = _
  after_reads_simp
  rfl

theorem V_rows (c : Dev nD) : (V m c main_v33 : FVec Ideal S16384x2048 .bf16) = shapeCast S16384x2048 (acts m c) shapeCasts_S4x4096x2048_S16384x2048 := by
  show StableHlo.after hostOps0 (fun b => m (c, b)) (Proc.devRef .tc main_v33) = _
  after_reads_simp
  rfl

theorem V_kv (c : Dev nD) : (V m c main_v36 : FVec Ideal S1x512 .f32) = shapeCast S1x512 (shapeCast S512 (gKv m c) shapeCasts_S1x512_S512) shapeCasts_S512_S1x512 := by
  show StableHlo.after hostOps0 (fun b => m (c, b)) (Proc.devRef .tc main_v36) = _
  after_reads_simp
  rfl

theorem V_ki (c : Dev nD) : (V m c main_v37 : FVec Ideal S1x64 .f32) = shapeCast S1x64 (shapeCast S64 (gKi m c) shapeCasts_S1x64_S64) shapeCasts_S64_S1x64 := by
  show StableHlo.after hostOps0 (fun b => m (c, b)) (Proc.devRef .tc main_v37) = _
  after_reads_simp
  rfl

theorem rows_apply (c : Dev nD) (b : Fin 4) (s : Fin 4096) (k : Fin 2048) :
    (V m c main_v33 : FVec Ideal S16384x2048 .bf16) (ix2 (⟨4096 * b.val + s.val, by omega⟩ : Fin 16384) k) = acts m c (ix3 b s k) := by
  rw [V_rows]
  refine shapeCast_apply (acts m c) shapeCasts_S4x4096x2048_S16384x2048 _ _ ?_
  rw [Shape.rowMajor_val_three, Shape.rowMajor_val_two]
  show (b.val * 4096 + s.val) * 2048 + k.val = (4096 * b.val + s.val) * 2048 + k.val
  omega

theorem kv_apply (c : Dev nD) (j : Fin 512) : (V m c main_v36 : FVec Ideal S1x512 .f32) (ix2 (0 : Fin 1) j) = gKv m c (ix2 (0 : Fin 1) j) := by
  rw [V_kv, shapeCast_shapeCast]

theorem ki_apply (c : Dev nD) (j : Fin 64) : (V m c main_v37 : FVec Ideal S1x64 .f32) (ix2 (0 : Fin 1) j) = gKi m c (ix2 (0 : Fin 1) j) := by
  rw [V_ki, shapeCast_shapeCast]

end Cert.Kernel2Ideal.Small
-- ==== Proof.SmallValue.lean ====
/- The five arrays the small projection's call leaves, entry by entry: row `4096 b + s` holds what the layer's text says
   of position `s` of sequence `b`. -/
module

public import proofs.«01_k».proof.Proof.Small
public import proofs.«01_k».proof.Proof.SmallSpec
public import Idealize.ShloMosaic.Lib.Pipeline.ValueKit
public import Idealize.ShloMosaic.Lib.MatmulPlain

@[expose] public section

set_option maxRecDepth 16384

noncomputable section

namespace Cert.Kernel2Ideal.Small

open Cert.Kernel2Ideal.Gen Cert.Small
open Idealize.ShloMosaic hiding ix0 ix1 ix2 ix3 ix4 ix5
open Idealize.ShloMosaic.TcCoe Idealize.ShloMosaic.ValueIdx
open Idealize.SL.Sem

/-! ## What the body leaves, from its blocks -/

section body
variable (x0 : Vec Ideal S512x2048 .bf16) (x1 : Vec Ideal S2048x1280 .bf16) (x2 x3 : Vec Ideal S512x64 .f32)
  (x4 : Vec Ideal S1x512 .f32) (x5 : Vec Ideal S1x64 .f32)

omit x0 x1 x2 x3 x4 x5 in
/-- A load of a whole block reads the block. -/
theorem ld_rows (x : Vec Ideal S512x2048 .bf16) : View.ld x r0_0 = x := View.ld_unit_lit _ _ (by decide)
omit x0 x1 x2 x3 x4 x5 in
theorem ld_weight (x : Vec Ideal S2048x1280 .bf16) : View.ld x r0_1 = x := View.ld_unit_lit _ _ (by decide)
omit x0 x1 x2 x3 x4 x5 in
theorem ld_kv (x : Vec Ideal S1x512 .f32) : View.ld x r0_2 = x := View.ld_unit_lit _ _ (by decide)
omit x0 x1 x2 x3 x4 x5 in
theorem ld_table (x : Vec Ideal S512x64 .f32) : View.ld x r0_3 = x := View.ld_unit_lit _ _ (by decide)
omit x0 x1 x2 x3 x4 x5 in
theorem ld_ki (x : Vec Ideal S1x64 .f32) : View.ld x r0_4 = x := View.ld_unit_lit _ _ (by decide)

/-- One product of the block's rows with the packed weight. -/
def prod (a : Fin 512) (n : Fin 1280) : EReal := ∑ k : Fin 2048, x0 (ix2 a k) * x1 (ix2 k n)

theorem pay1_apply (a : Fin 512) (n : Fin 1280) : k0_pay1 x0 x1 (ix2 a n) = prod x0 x1 a n := by
  unfold k0_pay1 prod
  rw [shapeCast_self, shapeCast_self]
  refine (Ideal.matmul_plain_apply (M := 512) (K := 2048) (N := 1280) none x0 x1 _ a n).trans ?_
  have z : constant (F := Ideal) S512x1280 .f32 0x00000000#32 (ix2 a n) = (0 : EReal) := Ideal.ofBits_zero_f32
  rw [z, zero_add]

/-- The sum of the squares of a row's `n` columns from `o` on. -/
theorem squares {n : ℕ} (o : ℕ) (ho : o + n ≤ 1280) (hs : S512x1280.Slices ![0, o] (⟨2, ![512, n]⟩ : Shape))
    (hr : (⟨2, ![512, n]⟩ : Shape).Reduces [1] S512) (a : Fin 512) (i : S512.Idx) (hi : i = ix1 a) :
    multiReduction (F := Ideal) (φ := .f32) .add [1] S512 (mulf (extractStridedSlice (⟨2, ![512, n]⟩ : Shape) ![0, o] (k0_pay1 x0 x1) hs)
        (extractStridedSlice (⟨2, ![512, n]⟩ : Shape) ![0, o] (k0_pay1 x0 x1) hs)) 0x00000000#32 hr (.inl rfl) rfl i
      = ∑ l : Fin n, prod x0 x1 a ⟨o + l.val, by omega⟩ * prod x0 x1 a ⟨o + l.val, by omega⟩ := by
  subst hi
  refine (Ideal.multiReduction_add_single _ _ hr _ _ _).trans (Finset.sum_congr rfl fun (l : Fin n) _ => ?_)
  have e : extractStridedSlice (⟨2, ![512, n]⟩ : Shape) ![0, o] (k0_pay1 x0 x1) hs (hr.lift (ix1 a) l) = prod x0 x1 a ⟨o + l.val, by omega⟩ := by
    rw [← pay1_apply]
    refine extractStridedSlice_apply _ _ _ _ _ (fun b => ?_)
    match b with
    | ⟨0, _⟩ => show a.val = 0 + a.val; omega
    | ⟨1, _⟩ => rfl
  exact congrArg₂ (· * ·) e e

theorem out6_apply (a : Fin 512) (j : Fin 512) :
    out0_6 x0 x1 x2 x3 x4 x5 (ix2 a j) = normed 0x44000000#32 (fun j : Fin 512 => prod x0 x1 a ⟨j.val, by omega⟩) (x4 (ix2 (0 : Fin 1) j)) j := by
  unfold_out out0_6
  simp only [ld_rows, ld_weight, ld_table, ld_kv, ld_ki]
  rw [Value.canon6_eq]
  have e := squares x0 x1 0 (by omega) slices_S512x1280_o0_0_S512x512 reduces_S512x512_S512 a (Value.ix6_1 (ix2 a j)) (funext fun b => Fin.ext (match b with | ⟨0, _⟩ => rfl))
  have e1 := pay1_apply x0 x1 a ⟨j.val, by omega⟩
  simp only [Nat.zero_add] at e
  exact congrArg₂ (· * ·) (congrArg₂ (· * ·) e1 (congrArg (fun z => Ideal.rsqrt (Ideal.div z _ + _)) e))
    (congrArg x4 (funext fun b => Fin.ext (match b with | ⟨0, _⟩ => rfl | ⟨1, _⟩ => rfl)))

theorem out10_apply (a : Fin 512) (j : Fin 64) :
    out0_10 x0 x1 x2 x3 x4 x5 (ix2 a j) = normed 0x42800000#32 (fun j : Fin 64 => prod x0 x1 a ⟨1152 + j.val, by omega⟩) (x5 (ix2 (0 : Fin 1) j)) j := by
  unfold_out out0_10
  simp only [ld_rows, ld_weight, ld_table, ld_kv, ld_ki]
  rw [Value.canon10_eq]
  have e := squares x0 x1 1152 (by omega) slices_S512x1280_o0_1152_S512x64 reduces_S512x64_S512 a (Value.ix10_1 (ix2 a j)) (funext fun b => Fin.ext (match b with | ⟨0, _⟩ => rfl))
  have e1 : k0_pay1 x0 x1 (Value.ix10_0 (ix2 a j)) = prod x0 x1 a ⟨1152 + j.val, by omega⟩ := by
    rw [← pay1_apply]; refine congrArg _ (funext fun b => Fin.ext ?_)
    match b with
    | ⟨0, _⟩ => rfl
    | ⟨1, _⟩ => first | rfl | (show j.val + 1152 = 1152 + j.val; omega)
  exact congrArg₂ (· * ·) (congrArg₂ (· * ·) e1 (congrArg (fun z => Ideal.rsqrt (Ideal.div z _ + _)) e))
    (congrArg x5 (funext fun b => Fin.ext (match b with | ⟨0, _⟩ => rfl | ⟨1, _⟩ => rfl)))

theorem out8_apply (a : Fin 512) (j : Fin 256) : out0_8 x0 x1 x2 x3 x4 x5 (ix2 a j) = prod x0 x1 a ⟨640 + j.val, by omega⟩ := by
  unfold_out out0_8
  simp only [ld_rows, ld_weight, ld_table, ld_kv, ld_ki]
  rw [Value.canon8_eq, ← pay1_apply]
  refine congrArg (k0_pay1 x0 x1) (funext fun b => Fin.ext ?_)
  match b with
  | ⟨0, _⟩ => rfl
  | ⟨1, _⟩ => first | rfl | (show j.val + 640 = 640 + j.val; omega)

theorem out9_apply (a : Fin 512) (j : Fin 256) : out0_9 x0 x1 x2 x3 x4 x5 (ix2 a j) = prod x0 x1 a ⟨896 + j.val, by omega⟩ := by
  unfold_out out0_9
  simp only [ld_rows, ld_weight, ld_table, ld_kv, ld_ki]
  rw [Value.canon9_eq, ← pay1_apply]
  refine congrArg (k0_pay1 x0 x1) (funext fun b => Fin.ext ?_)
  match b with
  | ⟨0, _⟩ => rfl
  | ⟨1, _⟩ => first | rfl | (show j.val + 896 = 896 + j.val; omega)

theorem out7_apply (a : Fin 512) (j : Fin 64) :
    out0_7 x0 x1 x2 x3 x4 x5 (ix2 a j)
      = prod x0 x1 a ⟨512 + j.val, by omega⟩ * x2 (ix2 a j) + prod x0 x1 a ⟨576 + j.val, by omega⟩ * x3 (ix2 a j) := by
  unfold_out out0_7
  simp only [ld_rows, ld_weight, ld_table, ld_kv, ld_ki]
  rw [Value.canon7_eq, ← pay1_apply, ← pay1_apply]
  have e0 : Value.ix7_0 (ix2 a j) = (ix2 a (⟨512 + j.val, by omega⟩ : Fin 1280) : S512x1280.Idx) := by
    funext b; apply Fin.ext
    match b with
    | ⟨0, _⟩ => rfl
    | ⟨1, _⟩ => first | rfl | (show j.val + 512 = 512 + j.val; omega)
  have e2 : Value.ix7_2 (ix2 a j) = (ix2 a (⟨576 + j.val, by omega⟩ : Fin 1280) : S512x1280.Idx) := by
    funext b; apply Fin.ext
    match b with
    | ⟨0, _⟩ => rfl
    | ⟨1, _⟩ => first | rfl | (show j.val + 576 = 576 + j.val; omega)
  have e1 : Value.ix7_1 (ix2 a j) = (ix2 a j : S512x64.Idx) := (ValueIdx.eq_ix2 (Value.ix7_1 (ix2 a j))).trans rfl
  have e3 : Value.ix7_3 (ix2 a j) = (ix2 a j : S512x64.Idx) := (ValueIdx.eq_ix2 (Value.ix7_3 (ix2 a j))).trans rfl
  unfold Value.E7
  rw [e0, e1, e2, e3]
  rfl

end body

/-! ## The blocks of a tile -/

variable (m : (ℓ : Loc nD τ sig) → Buf (Elt Ideal) ℓ)

theorem at_rows : ∀ t : Fin cfg0.N, cc0_transform_0 (grid0.coords t) = ![t.val, 0] := by decide +kernel
theorem at_cos : ∀ t : Fin cfg0.N, cc0_transform_2 (grid0.coords t) = ![t.val % 8, 0] := by decide +kernel
theorem at_sin : ∀ t : Fin cfg0.N, cc0_transform_3 (grid0.coords t) = ![t.val % 8, 0] := by decide +kernel

theorem points : cfg0.N = 32 := rfl

/-- Row `a` of tile `t` is a position of a sequence. -/
def seqOf (t : Fin cfg0.N) : Fin 4 := ⟨t.val / 8, by have h : t.val < 32 := t.isLt; omega⟩
def posOf (t : Fin cfg0.N) (a : Fin 512) : Fin 4096 := ⟨512 * (t.val % 8) + a.val, by omega⟩
/-- The row of the flat array that a position of a sequence is. -/
def flat (b : Fin 4) (s : Fin 4096) : Fin 16384 := ⟨4096 * b.val + s.val, by omega⟩

theorem flat_of (t : Fin cfg0.N) (a : Fin 512) : (flat (seqOf t) (posOf t a)).val = t.val * 512 + 1 * a.val := by
  show 4096 * (t.val / 8) + (512 * (t.val % 8) + a.val) = t.val * 512 + 1 * a.val
  omega

attribute [local irreducible] StableHlo.after

theorem blk_rows (c : Dev nD) (t : Fin cfg0.N) (a : Fin 512) (k : Fin 2048) :
    (iblk m c 0 t : Vec Ideal S512x2048 .bf16) (ix2 a k) = acts m c (ix3 (seqOf t) (posOf t a) k) := by
  rw [← rows_apply]
  show V m c main_v33 (((cfg0.win 0).blk t).view.emb (ix2 a k)) = _
  refine congrArg (V m c main_v33) (funext fun b => Fin.ext ?_)
  have e := at_rows t
  match b with
  | ⟨0, _⟩ => exact (congrArg (fun f : Fin 2 → ℕ => f 0 * 512 + 1 * a.val) e).trans (flat_of t a).symm
  | ⟨1, _⟩ => exact (congrArg (fun f : Fin 2 → ℕ => f 1 * 2048 + 1 * k.val) e).trans (by show 0 * 2048 + 1 * k.val = k.val; omega)

theorem blk_weight (c : Dev nD) (t : Fin cfg0.N) (k : Fin 2048) (n : Fin 1280) :
    (iblk m c 1 t : Vec Ideal S2048x1280 .bf16) (ix2 k n) = packed (wIn m c) (ix2 k n) := by
  rw [← V_packed]
  show V m c main_v31 (((cfg0.win 1).blk t).view.emb (ix2 k n)) = _
  refine congrArg (V m c main_v31) (funext fun b => Fin.ext ?_)
  match b with
  | ⟨0, _⟩ => show 0 * 2048 + 1 * k.val = k.val; omega
  | ⟨1, _⟩ => show 0 * 1280 + 1 * n.val = n.val; omega

theorem blk_cos (c : Dev nD) (t : Fin cfg0.N) (a : Fin 512) (j : Fin 64) :
    (iblk m c 2 t : Vec Ideal S512x64 .f32) (ix2 a j) = pair cosT cosT (ix2 (posOf t a) j) := by
  rw [← V_cos m c]
  show V m c main_v15 (((cfg0.win 2).blk t).view.emb (ix2 a j)) = _
  refine congrArg (V m c main_v15) (funext fun b => Fin.ext ?_)
  have e := at_cos t
  match b with
  | ⟨0, _⟩ => exact (congrArg (fun f : Fin 2 → ℕ => f 0 * 512 + 1 * a.val) e).trans (by show t.val % 8 * 512 + 1 * a.val = 512 * (t.val % 8) + a.val; omega)
  | ⟨1, _⟩ => exact (congrArg (fun f : Fin 2 → ℕ => f 1 * 64 + 1 * j.val) e).trans (by show 0 * 64 + 1 * j.val = j.val; omega)

theorem blk_sin (c : Dev nD) (t : Fin cfg0.N) (a : Fin 512) (j : Fin 64) :
    (iblk m c 3 t : Vec Ideal S512x64 .f32) (ix2 a j) = pair (Host.negf sinT) sinT (ix2 (posOf t a) j) := by
  rw [← V_sin m c]
  show V m c main_v17 (((cfg0.win 3).blk t).view.emb (ix2 a j)) = _
  refine congrArg (V m c main_v17) (funext fun b => Fin.ext ?_)
  have e := at_sin t
  match b with
  | ⟨0, _⟩ => exact (congrArg (fun f : Fin 2 → ℕ => f 0 * 512 + 1 * a.val) e).trans (by show t.val % 8 * 512 + 1 * a.val = 512 * (t.val % 8) + a.val; omega)
  | ⟨1, _⟩ => exact (congrArg (fun f : Fin 2 → ℕ => f 1 * 64 + 1 * j.val) e).trans (by show 0 * 64 + 1 * j.val = j.val; omega)

theorem blk_kv (c : Dev nD) (t : Fin cfg0.N) (j : Fin 512) :
    (iblk m c 4 t : Vec Ideal S1x512 .f32) (ix2 (0 : Fin 1) j) = gKv m c (ix2 (0 : Fin 1) j) := by
  rw [← kv_apply]
  show V m c main_v36 (((cfg0.win 4).blk t).view.emb (ix2 (0 : Fin 1) j)) = _
  refine congrArg (V m c main_v36) (funext fun b => Fin.ext ?_)
  match b with
  | ⟨0, _⟩ => rfl
  | ⟨1, _⟩ => show 0 * 512 + 1 * j.val = j.val; omega

theorem blk_ki (c : Dev nD) (t : Fin cfg0.N) (j : Fin 64) :
    (iblk m c 5 t : Vec Ideal S1x64 .f32) (ix2 (0 : Fin 1) j) = gKi m c (ix2 (0 : Fin 1) j) := by
  rw [← ki_apply]
  show V m c main_v37 (((cfg0.win 5).blk t).view.emb (ix2 (0 : Fin 1) j)) = _
  refine congrArg (V m c main_v37) (funext fun b => Fin.ext ?_)
  match b with
  | ⟨0, _⟩ => rfl
  | ⟨1, _⟩ => show 0 * 64 + 1 * j.val = j.val; omega

/-- A product with a column of the packed weight that is column `n` of the input weight. -/
theorem prod_eq (c : Dev nD) (t : Fin cfg0.N) (a : Fin 512) (n : Fin 1280) (n' : Fin 8848)
    (h : ∀ k, packed (wIn m c) (ix2 k n) = wIn m c (ix3 (0 : Fin 1) k n')) :
    prod (iblk m c 0 t) (iblk m c 1 t) a n = proj (acts m c) (wIn m c) (seqOf t) (posOf t a) n' :=
  Finset.sum_congr rfl fun k _ => congrArg₂ (· * ·) (blk_rows m c t a k) ((blk_weight m c t k n).trans (h k))

/-! ## The arrays -/

/-- The columns of a part of the projection that starts at column `o`. -/
def part (c : Dev nD) (b : Fin 4) (s : Fin 4096) {n : ℕ} (o : ℕ) (ho : o + n ≤ 8848) (j : Fin n) : EReal :=
  proj (acts m c) (wIn m c) b s ⟨o + j.val, by omega⟩

def ckv (c : Dev nD) (b : Fin 4) (s : Fin 4096) (j : Fin 512) : EReal :=
  normed 0x44000000#32 (part m c b s 1536 (by omega)) (gKv m c (ix2 (0 : Fin 1) j)) j
def kr (c : Dev nD) (b : Fin 4) (s : Fin 4096) (j : Fin 64) : EReal :=
  turned (fun l => cosT (ix2 s l)) (fun l => sinT (ix2 s l)) (part m c b s 2048 (by omega)) j
def kb (c : Dev nD) (b : Fin 4) (s : Fin 4096) (j : Fin 256) : EReal := part m c b s 3136 (by omega) j
def vb (c : Dev nD) (b : Fin 4) (s : Fin 4096) (j : Fin 256) : EReal := part m c b s 3392 (by omega) j
def ki (c : Dev nD) (b : Fin 4) (s : Fin 4096) (j : Fin 64) : EReal :=
  normed 0x42800000#32 (part m c b s 4672 (by omega)) (gKi m c (ix2 (0 : Fin 1) j)) j

/-- A flat array from its entries by sequence and position. -/
def rowsOf {n : ℕ} (f : Fin 4 → Fin 4096 → Fin n → EReal) : (⟨2, ![16384, n]⟩ : Shape).Idx → EReal := fun i =>
  f ⟨(i 0).val / 4096, by have h : (i 0).val < 16384 := (i 0).isLt; omega⟩ ⟨(i 0).val % 4096, by omega⟩ (i 1)

theorem rowsOf_flat {n : ℕ} (f : Fin 4 → Fin 4096 → Fin n → EReal) (b : Fin 4) (s : Fin 4096) (j : Fin n) :
    rowsOf f (ix2 (flat b s) j) = f b s j := by
  have e1 : (4096 * b.val + s.val) / 4096 = b.val := by omega
  have e2 : (4096 * b.val + s.val) % 4096 = s.val := by omega
  show f ⟨(4096 * b.val + s.val) / 4096, _⟩ ⟨(4096 * b.val + s.val) % 4096, _⟩ j = f b s j
  simp only [e1, e2]

theorem tile6 (c : Dev nD) (t : Fin cfg0.N) (a : Fin 512) (j : Fin 512) :
    ((dats m 0 c).after 6 t : Vec Ideal S512x512 .f32) (ix2 a j) = ckv m c (seqOf t) (posOf t a) j := by
  rw [after0_6, out6_apply, blk_kv]
  have e := fun l : Fin 512 => prod_eq m c t a ⟨l.val, by omega⟩ ⟨1536 + l.val, by omega⟩ (fun k => packed_ckv (wIn m c) k l)
  unfold ckv
  exact congrArg (fun p : Fin 512 → EReal => normed 0x44000000#32 p (gKv m c (ix2 (0 : Fin 1) j)) j) (funext e)

theorem tile7 (c : Dev nD) (t : Fin cfg0.N) (a : Fin 512) (j : Fin 64) :
    ((dats m 0 c).after 7 t : Vec Ideal S512x64 .f32) (ix2 a j) = kr m c (seqOf t) (posOf t a) j := by
  rw [after0_7, out7_apply, blk_cos, blk_sin, prod_eq m c t a ⟨512 + j.val, by omega⟩ ⟨2048 + j.val, by omega⟩ (fun k => packed_kr (wIn m c) k j)]
  unfold kr
  rcases halves j with ⟨l, rfl⟩ | ⟨l, rfl⟩
  · rw [prod_eq m c t a ⟨576 + l.val, by omega⟩ ⟨2080 + l.val, by omega⟩
      (fun k => (packed_swap (wIn m c) k ⟨l.val, by omega⟩).trans (swapped_left (wIn m c) k l)), pair_left, pair_left, turned_left]
    have e : Host.negf sinT (ix2 (posOf t a) l) = -(sinT (ix2 (posOf t a) l) : EReal) := rfl
    rw [e, mul_neg, ← sub_eq_add_neg]
    have e' : (⟨2080 + l.val, by omega⟩ : Fin 8848) = ⟨2048 + (32 + l.val), by omega⟩ := Fin.ext (by show 2080 + l.val = 2048 + (32 + l.val); omega)
    rw [e']
    rfl
  · rw [prod_eq m c t a ⟨576 + (32 + l.val), by omega⟩ ⟨2048 + l.val, by omega⟩
      (fun k => (packed_swap (wIn m c) k ⟨32 + l.val, by omega⟩).trans (swapped_right (wIn m c) k l)), pair_right, pair_right, turned_right, add_comm]
    rfl

theorem tile8 (c : Dev nD) (t : Fin cfg0.N) (a : Fin 512) (j : Fin 256) :
    ((dats m 0 c).after 8 t : Vec Ideal S512x256 .f32) (ix2 a j) = kb m c (seqOf t) (posOf t a) j := by
  rw [after0_8, out8_apply]
  exact prod_eq m c t a ⟨640 + j.val, by omega⟩ ⟨3136 + j.val, by omega⟩ (fun k => packed_kb (wIn m c) k j)

theorem tile9 (c : Dev nD) (t : Fin cfg0.N) (a : Fin 512) (j : Fin 256) :
    ((dats m 0 c).after 9 t : Vec Ideal S512x256 .f32) (ix2 a j) = vb m c (seqOf t) (posOf t a) j := by
  rw [after0_9, out9_apply]
  exact prod_eq m c t a ⟨896 + j.val, by omega⟩ ⟨3392 + j.val, by omega⟩ (fun k => packed_vb (wIn m c) k j)

theorem tile10 (c : Dev nD) (t : Fin cfg0.N) (a : Fin 512) (j : Fin 64) :
    ((dats m 0 c).after 10 t : Vec Ideal S512x64 .f32) (ix2 a j) = ki m c (seqOf t) (posOf t a) j := by
  rw [after0_10, out10_apply, blk_ki]
  have e := fun l : Fin 64 => prod_eq m c t a ⟨1152 + l.val, by omega⟩ ⟨4672 + l.val, by omega⟩ (fun k => packed_ki (wIn m c) k l)
  unfold ki
  exact congrArg (fun p : Fin 64 → EReal => normed 0x42800000#32 p (gKi m c (ix2 (0 : Fin 1) j)) j) (funext e)

/-- Where a tile's row lies in an output array of `n` columns. -/
theorem emb_val {n : ℕ} (t : Fin cfg0.N) (a : Fin 512) (j : Fin n) (i : (⟨2, ![16384, n]⟩ : Shape).Idx)
    (h0 : (i 0).val = cc0_transform_0 (grid0.coords t) 0 * 512 + 1 * a.val) (h1 : (i 1).val = cc0_transform_0 (grid0.coords t) 1 * n + 1 * j.val) :
    i = ix2 (flat (seqOf t) (posOf t a)) j := by
  rw [at_rows] at h0 h1
  funext b; apply Fin.ext
  match b with
  | ⟨0, _⟩ => exact h0.trans (flat_of t a).symm
  | ⟨1, _⟩ => exact h1.trans (by show 0 * n + 1 * j.val = j.val; omega)

theorem out6 (c : Dev nD) : (dats m 0 c).arrAt 6 cfg0.N = (rowsOf (ckv m c) : Vec Ideal S16384x512 .f32) := by
  refine (dats m 0 c).arrAt_eq_of_covers 6 (rowsOf (ckv m c) : Vec Ideal S16384x512 .f32) (by decide +kernel) fun t _ y => ?_
  obtain ⟨a, j, rfl⟩ : ∃ (a : Fin 512) (j : Fin 512), y = (ix2 a j : S512x512.Idx) := ⟨y 0, y 1, ValueIdx.eq_ix2 y⟩
  refine (tile6 m c t a j).trans ?_
  refine (rowsOf_flat (ckv m c) _ _ j).symm.trans (congrArg (rowsOf (ckv m c)) ?_)
  exact (emb_val t a j _ rfl rfl).symm

theorem out7 (c : Dev nD) : (dats m 0 c).arrAt 7 cfg0.N = (rowsOf (kr m c) : Vec Ideal S16384x64 .f32) := by
  refine (dats m 0 c).arrAt_eq_of_covers 7 (rowsOf (kr m c) : Vec Ideal S16384x64 .f32) (by decide +kernel) fun t _ y => ?_
  obtain ⟨a, j, rfl⟩ : ∃ (a : Fin 512) (j : Fin 64), y = (ix2 a j : S512x64.Idx) := ⟨y 0, y 1, ValueIdx.eq_ix2 y⟩
  refine (tile7 m c t a j).trans ?_
  refine (rowsOf_flat (kr m c) _ _ j).symm.trans (congrArg (rowsOf (kr m c)) ?_)
  exact (emb_val t a j _ rfl rfl).symm

theorem out8 (c : Dev nD) : (dats m 0 c).arrAt 8 cfg0.N = (rowsOf (kb m c) : Vec Ideal S16384x256 .f32) := by
  refine (dats m 0 c).arrAt_eq_of_covers 8 (rowsOf (kb m c) : Vec Ideal S16384x256 .f32) (by decide +kernel) fun t _ y => ?_
  obtain ⟨a, j, rfl⟩ : ∃ (a : Fin 512) (j : Fin 256), y = (ix2 a j : S512x256.Idx) := ⟨y 0, y 1, ValueIdx.eq_ix2 y⟩
  refine (tile8 m c t a j).trans ?_
  refine (rowsOf_flat (kb m c) _ _ j).symm.trans (congrArg (rowsOf (kb m c)) ?_)
  exact (emb_val t a j _ rfl rfl).symm

theorem out9 (c : Dev nD) : (dats m 0 c).arrAt 9 cfg0.N = (rowsOf (vb m c) : Vec Ideal S16384x256 .f32) := by
  refine (dats m 0 c).arrAt_eq_of_covers 9 (rowsOf (vb m c) : Vec Ideal S16384x256 .f32) (by decide +kernel) fun t _ y => ?_
  obtain ⟨a, j, rfl⟩ : ∃ (a : Fin 512) (j : Fin 256), y = (ix2 a j : S512x256.Idx) := ⟨y 0, y 1, ValueIdx.eq_ix2 y⟩
  refine (tile9 m c t a j).trans ?_
  refine (rowsOf_flat (vb m c) _ _ j).symm.trans (congrArg (rowsOf (vb m c)) ?_)
  exact (emb_val t a j _ rfl rfl).symm

theorem out10 (c : Dev nD) : (dats m 0 c).arrAt 10 cfg0.N = (rowsOf (ki m c) : Vec Ideal S16384x64 .f32) := by
  refine (dats m 0 c).arrAt_eq_of_covers 10 (rowsOf (ki m c) : Vec Ideal S16384x64 .f32) (by decide +kernel) fun t _ y => ?_
  obtain ⟨a, j, rfl⟩ : ∃ (a : Fin 512) (j : Fin 64), y = (ix2 a j : S512x64.Idx) := ⟨y 0, y 1, ValueIdx.eq_ix2 y⟩
  refine (tile10 m c t a j).trans ?_
  refine (rowsOf_flat (ki m c) _ _ j).symm.trans (congrArg (rowsOf (ki m c)) ?_)
  exact (emb_val t a j _ rfl rfl).symm

end Cert.Kernel2Ideal.Small
-- ==== Proof.SmallRef.lean ====
/- The five arrays of the plain program, entry by entry: the products of the activations with the input weight's columns,
   normed or rotated as the layer's text says. -/
module

public import proofs.«01_k».proof.Proof.Gen.Reference2Ideal.Read
public import proofs.«01_k».proof.Proof.SmallSpec
public import Idealize.ShloMosaic.PureOps.Ideal.Laws

@[expose] public section

set_option maxRecDepth 16384

noncomputable section

namespace Cert.Reference2Ideal.Small

open Cert.Reference2Ideal.Gen Cert.Reference2Ideal.Read Cert.Small
open Idealize.ShloMosaic Idealize.ShloMosaic.TcCoe Idealize.ShloMosaic.ValueIdx
open Idealize.SL.Sem

variable (x : (⟨S4x4096x2048, .f32⟩ : BufTy).Contents (Elt Ideal)) (w : (⟨S1x2048x8848, .f32⟩ : BufTy).Contents (Elt Ideal))
  (gkv : (⟨S1x512, .f32⟩ : BufTy).Contents (Elt Ideal)) (gki : (⟨S1x64, .f32⟩ : BufTy).Contents (Elt Ideal))

theorem wide_apply (k : Fin 2048) (n : Fin 8848) : val_main_v1 (F := Ideal) w (ix2 k n) = w (ix3 (0 : Fin 1) k n) := by
  unfold val_main_v1
  refine shapeCast_apply w shapeCasts_S1x2048x8848_S2048x8848 _ _ ?_
  rw [Shape.rowMajor_val_three, Shape.rowMajor_val_two]
  show (0 * 2048 + k.val) * 8848 + n.val = k.val * 8848 + n.val
  omega

theorem full_apply (b : Fin 4) (s : Fin 4096) (n : Fin 8848) : val_main_v2 (F := Ideal) x w (ix3 b s n) = proj x w b s n := by
  rw [val_main_v2_apply]
  refine Finset.sum_congr rfl fun k _ => congrArg₂ (· * ·) (congrArg x (eq_ix3 _)) ?_
  exact (congrArg (val_main_v1 (F := Ideal) w) (eq_ix2 _)).trans (wide_apply w k n)

/-- A slice of the product along its columns. -/
theorem slice_at {n : ℕ} (o : ℕ) (ho : o + n ≤ 8848) (h : S4x4096x8848.Slices ![0, 0, o] (⟨3, ![4, 4096, n]⟩ : Shape))
    (b : Fin 4) (s : Fin 4096) (j : Fin n) :
    extractStridedSlice (⟨3, ![4, 4096, n]⟩ : Shape) ![0, 0, o] (val_main_v2 (F := Ideal) x w) h (ix3 b s j)
      = proj x w b s ⟨o + j.val, by omega⟩ := slice_proj x w _ (full_apply x w) o ho h b s j

variable (b : Fin 4) (s : Fin 4096)

theorem gkv_apply (j : Fin 512) : val_main_v26 (F := Ideal) gkv (ix3 b s j) = gkv (ix2 (0 : Fin 1) j) := by
  rw [val_main_v26_apply, val_main_v25_apply, val_main_v14_apply]
  exact congrArg gkv (funext fun a => Fin.ext (match a with | ⟨0, _⟩ => rfl | ⟨1, _⟩ => Nat.mod_eq_of_lt j.isLt))

theorem gki_apply (j : Fin 64) : val_main_v71 (F := Ideal) gki (ix3 b s j) = gki (ix2 (0 : Fin 1) j) := by
  rw [val_main_v71_apply, val_main_v70_apply, val_main_v59_apply]
  exact congrArg gki (funext fun a => Fin.ext (match a with | ⟨0, _⟩ => rfl | ⟨1, _⟩ => Nat.mod_eq_of_lt j.isLt))

theorem ckv_apply (j : Fin 512) :
    val_main_v27 (F := Ideal) x w gkv (ix3 b s j)
      = normed 0x44000000#32 (fun j : Fin 512 => proj x w b s ⟨1536 + j.val, by omega⟩) (gkv (ix2 (0 : Fin 1) j)) j := by
  have e : ∀ l : Fin 512, val_main_v4 (F := Ideal) x w (ix3 b s l) = proj x w b s ⟨1536 + l.val, by omega⟩ := fun l =>
    slice_at x w 1536 (by omega) slices_S4x4096x8848_S4x4096x512_0_0_1536 b s l
  have q : val_main_v16 (F := Ideal) x w (ix2 b s)
      = ∑ l : Fin 512, proj x w b s ⟨1536 + l.val, by omega⟩ * proj x w b s ⟨1536 + l.val, by omega⟩ := by
    rw [val_main_v16_apply]
    have z : val_main_cst (F := Ideal) (Shape.Idx.first h_S_) = (0 : EReal) := Ideal.ofBits_zero_f32
    rw [z, zero_add]
    refine Finset.sum_congr rfl fun l _ => ?_
    have i : idx_main_v16 (ix2 b s) l = (ix3 b s l : S4x4096x512.Idx) := eq_ix3 _
    rw [i]
    exact congrArg₂ (· * ·) (e l) (e l)
  rw [val_main_v27_apply, val_main_v24_apply, val_main_v23_apply, val_main_v22_apply, val_main_v21_apply, val_main_v19_apply,
    val_main_v17_apply, val_main_v18_apply, val_main_v20_apply, gkv_apply, e]
  have i : idx_main_v17 (idx_main_v23 (ix3 b s j)) = (ix2 b s : S4x4096.Idx) := eq_ix2 _
  rw [i, q]
  rfl

theorem ki_apply (j : Fin 64) :
    val_main_v72 (F := Ideal) x w gki (ix3 b s j)
      = normed 0x42800000#32 (fun j : Fin 64 => proj x w b s ⟨4672 + j.val, by omega⟩) (gki (ix2 (0 : Fin 1) j)) j := by
  have e : ∀ l : Fin 64, val_main_v10 (F := Ideal) x w (ix3 b s l) = proj x w b s ⟨4672 + l.val, by omega⟩ := fun l =>
    slice_at x w 4672 (by omega) slices_S4x4096x8848_S4x4096x64_0_0_4672 b s l
  have q : val_main_v61 (F := Ideal) x w (ix2 b s)
      = ∑ l : Fin 64, proj x w b s ⟨4672 + l.val, by omega⟩ * proj x w b s ⟨4672 + l.val, by omega⟩ := by
    rw [val_main_v61_apply]
    have z : val_main_cst_4 (F := Ideal) (Shape.Idx.first h_S_) = (0 : EReal) := Ideal.ofBits_zero_f32
    rw [z, zero_add]
    refine Finset.sum_congr rfl fun l _ => ?_
    have i : idx_main_v61 (ix2 b s) l = (ix3 b s l : S4x4096x64.Idx) := eq_ix3 _
    rw [i]
    exact congrArg₂ (· * ·) (e l) (e l)
  rw [val_main_v72_apply, val_main_v69_apply, val_main_v68_apply, val_main_v67_apply, val_main_v66_apply, val_main_v64_apply,
    val_main_v62_apply, val_main_v63_apply, val_main_v65_apply, gki_apply, e]
  have i : idx_main_v62 (idx_main_v68 (ix3 b s j)) = (ix2 b s : S4x4096.Idx) := eq_ix2 _
  rw [i, q]
  rfl

/-- The columns that are rotated. -/
abbrev pr (j : Fin 64) : EReal := proj x w b s ⟨2048 + j.val, by omega⟩

theorem pr_apply (j : Fin 64) : val_main_v5 (F := Ideal) x w (ix3 b s j) = pr x w b s j :=
  slice_at x w 2048 (by omega) slices_S4x4096x8848_S4x4096x64_0_0_2048 b s j

theorem low_apply (l : Fin 32) : val_main_v42 (F := Ideal) x w (ix3 b s l) = pr x w b s ⟨l.val, by omega⟩ := by
  rw [val_main_v42_apply, ← pr_apply]
  exact congrArg (val_main_v5 (F := Ideal) x w) (funext fun a => Fin.ext (match a with
    | ⟨0, _⟩ => by first | rfl | (show b.val + 0 = b.val; omega) | (show 0 + b.val = b.val; omega)
    | ⟨1, _⟩ => by first | rfl | (show s.val + 0 = s.val; omega) | (show 0 + s.val = s.val; omega)
    | ⟨2, _⟩ => by first | rfl | (show l.val + 0 = l.val; omega) | (show 0 + l.val = l.val; omega)))

theorem high_apply (l : Fin 32) : val_main_v43 (F := Ideal) x w (ix3 b s l) = pr x w b s ⟨32 + l.val, by omega⟩ := by
  rw [val_main_v43_apply, ← pr_apply]
  exact congrArg (val_main_v5 (F := Ideal) x w) (funext fun a => Fin.ext (match a with
    | ⟨0, _⟩ => by first | rfl | (show b.val + 0 = b.val; omega) | (show 0 + b.val = b.val; omega)
    | ⟨1, _⟩ => by first | rfl | (show s.val + 0 = s.val; omega) | (show 0 + s.val = s.val; omega)
    | ⟨2, _⟩ => by first | rfl | (show l.val + 32 = 32 + l.val; omega)))

theorem cos_apply (l : Fin 32) : val_main_v45 (F := Ideal) (ix3 b s l) = val_main_v40 (F := Ideal) (ix2 s l) := by
  rw [val_main_v45_apply, val_main_v44_apply]; exact congrArg _ (eq_ix2 _)
theorem sin_apply (l : Fin 32) : val_main_v48 (F := Ideal) (ix3 b s l) = val_main_v41 (F := Ideal) (ix2 s l) := by
  rw [val_main_v48_apply, val_main_v47_apply]; exact congrArg _ (eq_ix2 _)
theorem sin_apply' (l : Fin 32) : val_main_v52 (F := Ideal) (ix3 b s l) = val_main_v41 (F := Ideal) (ix2 s l) := by
  rw [val_main_v52_apply, val_main_v51_apply]; exact congrArg _ (eq_ix2 _)
theorem cos_apply' (l : Fin 32) : val_main_v55 (F := Ideal) (ix3 b s l) = val_main_v40 (F := Ideal) (ix2 s l) := by
  rw [val_main_v55_apply, val_main_v54_apply]; exact congrArg _ (eq_ix2 _)

theorem kr_apply (j : Fin 64) :
    val_main_v58 (F := Ideal) x w (ix3 b s j)
      = turned (fun l => val_main_v40 (F := Ideal) (ix2 s l)) (fun l => val_main_v41 (F := Ideal) (ix2 s l)) (pr x w b s) j := by
  unfold val_main_v58
  refine turned_halves (val_main_v50 (F := Ideal) x w) (val_main_v57 (F := Ideal) x w) b s _ _ (pr x w b s)
    concatenates_S4x4096x32_S4x4096x32_S4x4096x64_d2 (fun l => ?_) (fun l => ?_) j
  · rw [val_main_v50_apply, val_main_v46_apply, val_main_v49_apply, low_apply, high_apply, cos_apply, sin_apply]
    rfl
  · rw [val_main_v57_apply, val_main_v53_apply, val_main_v56_apply, low_apply, high_apply, cos_apply', sin_apply']
    rfl

/-! ## The results -/

variable (r : Fin 16384) (hr : r.val = 4096 * b.val + s.val)
include hr

theorem res_ckv (j : Fin 512) : val_main_v73 (F := Ideal) x w gkv (ix2 r j)
    = normed 0x44000000#32 (fun j : Fin 512 => proj x w b s ⟨1536 + j.val, by omega⟩) (gkv (ix2 (0 : Fin 1) j)) j :=
  (flat_at (val_main_v27 (F := Ideal) x w gkv) shapeCasts_S4x4096x512_S16384x512 b s j r hr).trans (ckv_apply x w gkv b s j)

theorem res_kr (j : Fin 64) : val_main_v74 (F := Ideal) x w (ix2 r j)
    = turned (fun l => val_main_v40 (F := Ideal) (ix2 s l)) (fun l => val_main_v41 (F := Ideal) (ix2 s l)) (pr x w b s) j :=
  (flat_at (val_main_v58 (F := Ideal) x w) shapeCasts_S4x4096x64_S16384x64 b s j r hr).trans (kr_apply x w b s j)

theorem res_kb (j : Fin 256) : val_main_v75 (F := Ideal) x w (ix2 r j) = proj x w b s ⟨3136 + j.val, by omega⟩ :=
  (flat_at (val_main_v7 (F := Ideal) x w) shapeCasts_S4x4096x256_S16384x256 b s j r hr).trans
    (slice_at x w 3136 (by omega) slices_S4x4096x8848_S4x4096x256_0_0_3136 b s j)

theorem res_vb (j : Fin 256) : val_main_v76 (F := Ideal) x w (ix2 r j) = proj x w b s ⟨3392 + j.val, by omega⟩ :=
  (flat_at (val_main_v8 (F := Ideal) x w) shapeCasts_S4x4096x256_S16384x256 b s j r hr).trans
    (slice_at x w 3392 (by omega) slices_S4x4096x8848_S4x4096x256_0_0_3392 b s j)

theorem res_ki (j : Fin 64) : val_main_v77 (F := Ideal) x w gki (ix2 r j)
    = normed 0x42800000#32 (fun j : Fin 64 => proj x w b s ⟨4672 + j.val, by omega⟩) (gki (ix2 (0 : Fin 1) j)) j :=
  (flat_at (val_main_v72 (F := Ideal) x w gki) shapeCasts_S4x4096x64_S16384x64 b s j r hr).trans (ki_apply x w gki b s j)

end Cert.Reference2Ideal.Small
-- ==== Proof.SmallEqual.lean ====
/- The projections' two programs: both end holding the same five arrays. -/
module

public import proofs.«01_k».proof.Defs
public import proofs.«01_k».proof.Proof.Gen.Reference2Ideal.Run
public import proofs.«01_k».proof.Proof.SmallValue
public import proofs.«01_k».proof.Proof.SmallRef

@[expose] public section

set_option maxRecDepth 16384

noncomputable section

namespace Cert.Small

open Idealize.ShloMosaic hiding ix0 ix1 ix2 ix3 ix4 ix5
open Idealize.ShloMosaic.TcCoe Idealize.ShloMosaic.ValueIdx Idealize.SL.Sem
open Cert.Kernel2Ideal.Small Cert.Reference2Ideal.Small

/-- An array of flat rows whose entries are those of `f` is `rowsOf f`. -/
theorem rowsOf_ext {n : ℕ} (f : Fin 4 → Fin 4096 → Fin n → EReal) (y : (⟨2, ![16384, n]⟩ : Shape).Idx → EReal)
    (h : ∀ (b : Fin 4) (s : Fin 4096) (r : Fin 16384), r.val = 4096 * b.val + s.val → ∀ j : Fin n, y (ix2 r j) = f b s j) : y = rowsOf f := by
  funext i
  obtain ⟨r, j, rfl⟩ : ∃ (r : Fin 16384) (j : Fin n), i = ix2 r j := ⟨i 0, i 1, ValueIdx.eq_ix2 i⟩
  exact h ⟨r.val / 4096, by omega⟩ ⟨r.val % 4096, by omega⟩ r (by show r.val = 4096 * (r.val / 4096) + r.val % 4096; omega) j

section
variable (m : (ℓ : Loc Cert.Kernel2Ideal.nD Cert.Kernel2Ideal.τ Cert.Kernel2Ideal.sig) → Buf (Elt Ideal) ℓ) (c : Dev Cert.Kernel2Ideal.nD)

open Cert.Reference2Ideal.Read

theorem same_ckv : val_main_v73 (F := Ideal) (acts m c) (wIn m c) (gKv m c) = rowsOf (ckv m c) :=
  rowsOf_ext _ _ fun b s r hr j => res_ckv _ _ _ b s r hr j
theorem same_kr : val_main_v74 (F := Ideal) (acts m c) (wIn m c) = rowsOf (kr m c) :=
  rowsOf_ext _ _ fun b s r hr j => res_kr _ _ b s r hr j
theorem same_kb : val_main_v75 (F := Ideal) (acts m c) (wIn m c) = rowsOf (kb m c) :=
  rowsOf_ext _ _ fun b s r hr j => res_kb _ _ b s r hr j
theorem same_vb : val_main_v76 (F := Ideal) (acts m c) (wIn m c) = rowsOf (vb m c) :=
  rowsOf_ext _ _ fun b s r hr j => res_vb _ _ b s r hr j
theorem same_ki : val_main_v77 (F := Ideal) (acts m c) (wIn m c) (gKi m c) = rowsOf (ki m c) :=
  rowsOf_ext _ _ fun b s r hr j => res_ki _ _ _ b s r hr j

end

theorem equal : Cert.algebraic_Kernel2Ideal_Reference2Ideal := fun m ρ m' ρ' _ ha => by
  refine ⟨fun c => rowsOf (ckv m c), fun c => rowsOf (kr m c), fun c => rowsOf (kb m c), fun c => rowsOf (vb m c),
    fun c => rowsOf (ki m c), ?_, ?_⟩
  · refine (θ_run Cert.Kernel2Ideal.defs _ _).mono (fun _ h c => ?_) (Cert.Kernel2Ideal.Value.run_blocks m ρ)
    obtain ⟨h0, h1, h2, h3, h4, -, -, -, -, -, -, hk⟩ := h c
    exact ⟨h0.trans (out6 m c), h1.trans (out7 m c), h2.trans (out8 m c), h3.trans (out9 m c), h4.trans (out10 m c), hk⟩
  · refine (θ_run Cert.Reference2Ideal.defs _ _).mono (fun r h c => ?_) (Cert.Reference2Ideal.Value.run m' ρ')
    obtain rfl : c = 0 := Subsingleton.elim _ _
    obtain ⟨a0, a1, a2, a3⟩ := ha 0
    obtain ⟨h0, h1, h2, h3, h4, hk⟩ := h 0
    refine ⟨h0.trans ?_, h1.trans ?_, h2.trans ?_, h3.trans ?_, h4.trans ?_, hk⟩
    · rw [a0, a1, a2]; exact (Cert.Reference2Ideal.Read.val_main_v73_eq _ _ _).trans (same_ckv m 0)
    · rw [Cert.Reference2Ideal.Read.val_main_v74_eq, a0, a1]; exact same_kr m 0
    · rw [a0, a1]; exact (Cert.Reference2Ideal.Read.val_main_v75_eq _ _).trans (same_kb m 0)
    · rw [a0, a1]; exact (Cert.Reference2Ideal.Read.val_main_v76_eq _ _).trans (same_vb m 0)
    · rw [a0, a1, a3]; exact (Cert.Reference2Ideal.Read.val_main_v77_eq _ _ _).trans (same_ki m 0)

end Cert.Small

end
-- ==== Proof.Merge.lean ====
/- The gated sum of the two branches: what the call leaves in its array, entry by entry, and the plain program's array,
   which is the same. -/
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import proofs.«01_k».proof.Proof.SmallEqual

@[expose] public section

set_option maxRecDepth 16384

noncomputable section

namespace Cert.Kernel3Ideal.Merge

open Cert.Kernel3Ideal.Gen Cert.Small
open Cert.Kernel2Ideal.Small (flat rowsOf rowsOf_flat)
open Idealize.ShloMosaic hiding ix0 ix1 ix2 ix3 ix4 ix5
open Idealize.ShloMosaic.TcCoe Idealize.ShloMosaic.ValueIdx
open Idealize.SL.Sem

/-- A branch's row times column `n` of its output weight. -/
def branch (o : (⟨3, ![4, 4096, 1024]⟩ : Shape).Idx → EReal) (w : (⟨3, ![1, 1024, 2048]⟩ : Shape).Idx → EReal)
    (b : Fin 4) (s : Fin 4096) (n : Fin 2048) : EReal := ∑ k : Fin 1024, o (ix3 b s k) * w (ix3 (0 : Fin 1) k n)

/-- The gated sum: each branch times the logistic of its gate's column of the input product. -/
def merged (x : (⟨3, ![4, 4096, 2048]⟩ : Shape).Idx → EReal) (oa ob : (⟨3, ![4, 4096, 1024]⟩ : Shape).Idx → EReal)
    (w : (⟨3, ![1, 2048, 8848]⟩ : Shape).Idx → EReal) (wa wb : (⟨3, ![1, 1024, 2048]⟩ : Shape).Idx → EReal)
    (b : Fin 4) (s : Fin 4096) (n : Fin 2048) : EReal :=
  Ideal.logistic (proj x w b s ⟨4752 + n.val, by omega⟩) * branch oa wa b s n
    + Ideal.logistic (proj x w b s ⟨6800 + n.val, by omega⟩) * branch ob wb b s n

/-! ## What the body leaves, from its blocks -/

theorem ld_h (x : Vec Ideal S512x2048 .bf16) : View.ld x r0_0 = x := View.ld_unit_lit _ _ (by decide)
theorem ld_g (x : Vec Ideal S2048x512 .bf16) : View.ld x r0_1 = x := View.ld_unit_lit _ _ (by decide)
theorem ld_o (x : Vec Ideal S512x1024 .bf16) : View.ld x r0_2 = x := View.ld_unit_lit _ _ (by decide)
theorem ld_w (x : Vec Ideal S1024x512 .bf16) : View.ld x r0_3 = x := View.ld_unit_lit _ _ (by decide)

theorem dot_h (x : Vec Ideal S512x2048 .bf16) (w : Vec Ideal S2048x512 .bf16) (a j : Fin 512) :
    (matmul (φ₁ := .bf16) (φ₂ := .bf16) dot_S512x2048_S2048x512_S512x512_1_0_0_1_n_n none (x : FVec Ideal S512x2048 .bf16) (w : FVec Ideal S2048x512 .bf16) (constant S512x512 .f32 0x00000000#32) : FVec Ideal S512x512 .f32) (ix2 a j)
      = (∑ k : Fin 2048, (x (ix2 a k) : EReal) * w (ix2 k j) : EReal) := by
  refine (Ideal.matmul_plain_apply (M := 512) (K := 2048) (N := 512) none x w _ a j).trans ?_
  have z : constant (F := Ideal) S512x512 .f32 0x00000000#32 (ix2 a j) = (0 : EReal) := Ideal.ofBits_zero_f32
  rw [z, zero_add]

theorem dot_o (x : Vec Ideal S512x1024 .bf16) (w : Vec Ideal S1024x512 .bf16) (a j : Fin 512) :
    (matmul (φ₁ := .bf16) (φ₂ := .bf16) dot_S512x1024_S1024x512_S512x512_1_0_0_1_n_n none (x : FVec Ideal S512x1024 .bf16) (w : FVec Ideal S1024x512 .bf16) (constant S512x512 .f32 0x00000000#32) : FVec Ideal S512x512 .f32) (ix2 a j)
      = (∑ k : Fin 1024, (x (ix2 a k) : EReal) * w (ix2 k j) : EReal) := by
  refine (Ideal.matmul_plain_apply (M := 512) (K := 1024) (N := 512) none x w _ a j).trans ?_
  have z : constant (F := Ideal) S512x512 .f32 0x00000000#32 (ix2 a j) = (0 : EReal) := Ideal.ofBits_zero_f32
  rw [z, zero_add]

theorem out_apply (x0 : Vec Ideal S512x2048 .bf16) (x1 x2 : Vec Ideal S512x1024 .bf16) (x3 x4 : Vec Ideal S2048x512 .bf16)
    (x5 x6 : Vec Ideal S1024x512 .bf16) (a j : Fin 512) :
    out0_7 x0 x1 x2 x3 x4 x5 x6 (ix2 a j)
      = Ideal.logistic (∑ k : Fin 2048, x0 (ix2 a k) * x3 (ix2 k j)) * (∑ k : Fin 1024, x1 (ix2 a k) * x5 (ix2 k j))
        + Ideal.logistic (∑ k : Fin 2048, x0 (ix2 a k) * x4 (ix2 k j)) * ∑ k : Fin 1024, x2 (ix2 a k) * x6 (ix2 k j) := by
  unfold out0_7
  simp only [ld_h, ld_g, ld_o, ld_w]
  have e : (View.canon [⟨r0_4, k0_pay1 x0 x3 x4 x1 x5 x2 x6⟩] : Vec Ideal S512x512 .bf16) = k0_pay1 x0 x3 x4 x1 x5 x2 x6 := View.canon_cons_unit_lit _ _ _ (by decide)
  rw [e]
  unfold k0_pay1
  simp only [shapeCast_self]
  exact congrArg₂ (· + ·) (congrArg₂ (· * ·) (congrArg Ideal.logistic (dot_h x0 x3 a j)) (dot_o x1 x5 a j))
    (congrArg₂ (· * ·) (congrArg Ideal.logistic (dot_h x0 x4 a j)) (dot_o x2 x6 a j))

/-! ## What the call is handed -/

variable (m : (ℓ : Loc nD τ sig) → Buf (Elt Ideal) ℓ)

abbrev acts (c : Dev nD) : FVec Ideal S4x4096x2048 .f32 := m ((c : Thread nD τ).loc main_arg0)
abbrev oA (c : Dev nD) : FVec Ideal S4x4096x1024 .f32 := m ((c : Thread nD τ).loc main_arg1)
abbrev oB (c : Dev nD) : FVec Ideal S4x4096x1024 .f32 := m ((c : Thread nD τ).loc main_arg2)
abbrev wIn (c : Dev nD) : FVec Ideal S1x2048x8848 .f32 := m ((c : Thread nD τ).loc main_arg3)
abbrev wA (c : Dev nD) : FVec Ideal S1x1024x2048 .f32 := m ((c : Thread nD τ).loc main_arg4)
abbrev wB (c : Dev nD) : FVec Ideal S1x1024x2048 .f32 := m ((c : Thread nD τ).loc main_arg5)

theorem V_h (c : Dev nD) : (V m c main_v10 : FVec Ideal S16384x2048 .bf16) = shapeCast S16384x2048 (acts m c) shapeCasts_S4x4096x2048_S16384x2048 := by
  show StableHlo.after hostOps0 (fun b => m (c, b)) (Proc.devRef .tc main_v10) = _
  after_reads_simp
  rfl
theorem V_oA (c : Dev nD) : (V m c main_v12 : FVec Ideal S16384x1024 .bf16) = shapeCast S16384x1024 (oA m c) shapeCasts_S4x4096x1024_S16384x1024 := by
  show StableHlo.after hostOps0 (fun b => m (c, b)) (Proc.devRef .tc main_v12) = _
  after_reads_simp
  rfl
theorem V_oB (c : Dev nD) : (V m c main_v14 : FVec Ideal S16384x1024 .bf16) = shapeCast S16384x1024 (oB m c) shapeCasts_S4x4096x1024_S16384x1024 := by
  show StableHlo.after hostOps0 (fun b => m (c, b)) (Proc.devRef .tc main_v14) = _
  after_reads_simp
  rfl
theorem V_gA (c : Dev nD) : (V m c main_v2 : FVec Ideal S2048x2048 .bf16)
    = extractStridedSlice S2048x2048 ![0, 4752] (Cert.Kernel2Ideal.Small.wide (wIn m c)) slices_S2048x8848_S2048x2048_0_4752 := by
  show StableHlo.after hostOps0 (fun b => m (c, b)) (Proc.devRef .tc main_v2) = _
  after_reads_simp
  rfl
theorem V_gB (c : Dev nD) : (V m c main_v4 : FVec Ideal S2048x2048 .bf16)
    = extractStridedSlice S2048x2048 ![0, 6800] (Cert.Kernel2Ideal.Small.wide (wIn m c)) slices_S2048x8848_S2048x2048_0_6800 := by
  show StableHlo.after hostOps0 (fun b => m (c, b)) (Proc.devRef .tc main_v4) = _
  after_reads_simp
  rfl
theorem V_wA (c : Dev nD) : (V m c main_v6 : FVec Ideal S1024x2048 .bf16) = shapeCast S1024x2048 (wA m c) shapeCasts_S1x1024x2048_S1024x2048 := by
  show StableHlo.after hostOps0 (fun b => m (c, b)) (Proc.devRef .tc main_v6) = _
  after_reads_simp
  rfl
theorem V_wB (c : Dev nD) : (V m c main_v8 : FVec Ideal S1024x2048 .bf16) = shapeCast S1024x2048 (wB m c) shapeCasts_S1x1024x2048_S1024x2048 := by
  show StableHlo.after hostOps0 (fun b => m (c, b)) (Proc.devRef .tc main_v8) = _
  after_reads_simp
  rfl

/-- Flat rows read at a sequence's position. -/
theorem rows_apply {n : ℕ} (y : (⟨3, ![4, 4096, n]⟩ : Shape).Idx → EReal) (h : (⟨3, ![4, 4096, n]⟩ : Shape).ShapeCasts (⟨2, ![16384, n]⟩ : Shape))
    (b : Fin 4) (s : Fin 4096) (k : Fin n) : shapeCast (⟨2, ![16384, n]⟩ : Shape) y h (ix2 (flat b s) k) = y (ix3 b s k) :=
  Cert.Small.flat_at y h b s k (flat b s) rfl

theorem wo_apply (w : (⟨3, ![1, 1024, 2048]⟩ : Shape).Idx → EReal) (h : (⟨3, ![1, 1024, 2048]⟩ : Shape).ShapeCasts (⟨2, ![1024, 2048]⟩ : Shape))
    (k : Fin 1024) (n : Fin 2048) : shapeCast (⟨2, ![1024, 2048]⟩ : Shape) w h (ix2 k n) = w (ix3 (0 : Fin 1) k n) := by
  refine shapeCast_apply w h _ _ ?_
  rw [Shape.rowMajor_val_three, Shape.rowMajor_val_two]
  show (0 * 1024 + k.val) * 2048 + n.val = k.val * 2048 + n.val
  omega

/-! ## The blocks of a tile -/

theorem at_rows : ∀ t : Fin cfg0.N, cc0_transform_0 (grid0.coords t) = ![t.val % 32, 0] := by decide +kernel
theorem at_cols : ∀ t : Fin cfg0.N, cc0_transform_3 (grid0.coords t) = ![0, t.val / 32] := by decide +kernel
theorem at_out : ∀ t : Fin cfg0.N, cc0_transform_7 (grid0.coords t) = ![t.val % 32, t.val / 32] := by decide +kernel

/-- Row `a` and column `j` of tile `t`. -/
def seqOf (t : Fin cfg0.N) : Fin 4 := ⟨t.val % 32 / 8, by omega⟩
def posOf (t : Fin cfg0.N) (a : Fin 512) : Fin 4096 := ⟨512 * (t.val % 32 % 8) + a.val, by omega⟩
def colOf (t : Fin cfg0.N) (j : Fin 512) : Fin 2048 := ⟨512 * (t.val / 32) + j.val, by have h : t.val < 128 := t.isLt; omega⟩

theorem flat_of (t : Fin cfg0.N) (a : Fin 512) : (flat (seqOf t) (posOf t a)).val = t.val % 32 * 512 + 1 * a.val := by
  show 4096 * (t.val % 32 / 8) + (512 * (t.val % 32 % 8) + a.val) = t.val % 32 * 512 + 1 * a.val
  omega

/-- Where a row of a tile lies in an array of flat rows, and a column in a weight. -/
theorem row_emb {n : ℕ} (t : Fin cfg0.N) (a : Fin 512) (k : Fin n) (i : (⟨2, ![16384, n]⟩ : Shape).Idx)
    (h0 : (i 0).val = cc0_transform_0 (grid0.coords t) 0 * 512 + 1 * a.val) (h1 : (i 1).val = cc0_transform_0 (grid0.coords t) 1 * n + 1 * k.val) :
    i = ix2 (flat (seqOf t) (posOf t a)) k := by
  rw [at_rows] at h0 h1
  funext b; apply Fin.ext
  match b with
  | ⟨0, _⟩ => exact h0.trans (flat_of t a).symm
  | ⟨1, _⟩ => exact h1.trans (by show 0 * n + 1 * k.val = k.val; omega)
theorem col_emb {n : ℕ} (t : Fin cfg0.N) (k : Fin n) (j : Fin 512) (i : (⟨2, ![n, 2048]⟩ : Shape).Idx)
    (h0 : (i 0).val = cc0_transform_3 (grid0.coords t) 0 * n + 1 * k.val) (h1 : (i 1).val = cc0_transform_3 (grid0.coords t) 1 * 512 + 1 * j.val) :
    i = ix2 k (colOf t j) := by
  rw [at_cols] at h0 h1
  funext b; apply Fin.ext
  match b with
  | ⟨0, _⟩ => exact h0.trans (by show 0 * n + 1 * k.val = k.val; omega)
  | ⟨1, _⟩ => exact h1.trans (by show t.val / 32 * 512 + 1 * j.val = 512 * (t.val / 32) + j.val; omega)
theorem out_emb (t : Fin cfg0.N) (a j : Fin 512) (i : (⟨2, ![16384, 2048]⟩ : Shape).Idx)
    (h0 : (i 0).val = cc0_transform_7 (grid0.coords t) 0 * 512 + 1 * a.val) (h1 : (i 1).val = cc0_transform_7 (grid0.coords t) 1 * 512 + 1 * j.val) :
    i = ix2 (flat (seqOf t) (posOf t a)) (colOf t j) := by
  rw [at_out] at h0 h1
  funext b; apply Fin.ext
  match b with
  | ⟨0, _⟩ => exact h0.trans (flat_of t a).symm
  | ⟨1, _⟩ => exact h1.trans (by show t.val / 32 * 512 + 1 * j.val = 512 * (t.val / 32) + j.val; omega)

attribute [local irreducible] StableHlo.after

theorem blk_h (c : Dev nD) (t : Fin cfg0.N) (a : Fin 512) (k : Fin 2048) :
    (iblk m c 0 t : Vec Ideal S512x2048 .bf16) (ix2 a k) = acts m c (ix3 (seqOf t) (posOf t a) k) := by
  rw [← rows_apply (acts m c) shapeCasts_S4x4096x2048_S16384x2048]
  have e := V_h m c
  refine (congrArg (V m c main_v10) (row_emb t a k (((cfg0.win 0).blk t).view.emb (ix2 a k)) rfl rfl)).trans (congrFun e _)

theorem blk_oA (c : Dev nD) (t : Fin cfg0.N) (a : Fin 512) (k : Fin 1024) :
    (iblk m c 1 t : Vec Ideal S512x1024 .bf16) (ix2 a k) = oA m c (ix3 (seqOf t) (posOf t a) k) := by
  rw [← rows_apply (oA m c) shapeCasts_S4x4096x1024_S16384x1024]
  have e := V_oA m c
  refine (congrArg (V m c main_v12) (row_emb t a k (((cfg0.win 1).blk t).view.emb (ix2 a k)) rfl rfl)).trans (congrFun e _)

theorem blk_oB (c : Dev nD) (t : Fin cfg0.N) (a : Fin 512) (k : Fin 1024) :
    (iblk m c 2 t : Vec Ideal S512x1024 .bf16) (ix2 a k) = oB m c (ix3 (seqOf t) (posOf t a) k) := by
  rw [← rows_apply (oB m c) shapeCasts_S4x4096x1024_S16384x1024]
  have e := V_oB m c
  refine (congrArg (V m c main_v14) (row_emb t a k (((cfg0.win 2).blk t).view.emb (ix2 a k)) rfl rfl)).trans (congrFun e _)

theorem blk_gA (c : Dev nD) (t : Fin cfg0.N) (k : Fin 2048) (j : Fin 512) :
    (iblk m c 3 t : Vec Ideal S2048x512 .bf16) (ix2 k j) = wIn m c (ix3 (0 : Fin 1) k ⟨4752 + (colOf t j).val, by omega⟩) := by
  rw [← Cert.Kernel2Ideal.Small.slice_apply 4752 (wIn m c) slices_S2048x8848_S2048x2048_0_4752 k (colOf t j) (by omega)]
  have e := V_gA m c
  refine (congrArg (V m c main_v2) (col_emb t k j (((cfg0.win 3).blk t).view.emb (ix2 k j)) rfl rfl)).trans (congrFun e _)

theorem blk_gB (c : Dev nD) (t : Fin cfg0.N) (k : Fin 2048) (j : Fin 512) :
    (iblk m c 4 t : Vec Ideal S2048x512 .bf16) (ix2 k j) = wIn m c (ix3 (0 : Fin 1) k ⟨6800 + (colOf t j).val, by omega⟩) := by
  rw [← Cert.Kernel2Ideal.Small.slice_apply 6800 (wIn m c) slices_S2048x8848_S2048x2048_0_6800 k (colOf t j) (by omega)]
  have e := V_gB m c
  refine (congrArg (V m c main_v4) (col_emb t k j (((cfg0.win 4).blk t).view.emb (ix2 k j)) rfl rfl)).trans (congrFun e _)

theorem blk_wA (c : Dev nD) (t : Fin cfg0.N) (k : Fin 1024) (j : Fin 512) :
    (iblk m c 5 t : Vec Ideal S1024x512 .bf16) (ix2 k j) = wA m c (ix3 (0 : Fin 1) k (colOf t j)) := by
  rw [← wo_apply (wA m c) shapeCasts_S1x1024x2048_S1024x2048]
  have e := V_wA m c
  refine (congrArg (V m c main_v6) (col_emb t k j (((cfg0.win 5).blk t).view.emb (ix2 k j)) rfl rfl)).trans (congrFun e _)

theorem blk_wB (c : Dev nD) (t : Fin cfg0.N) (k : Fin 1024) (j : Fin 512) :
    (iblk m c 6 t : Vec Ideal S1024x512 .bf16) (ix2 k j) = wB m c (ix3 (0 : Fin 1) k (colOf t j)) := by
  rw [← wo_apply (wB m c) shapeCasts_S1x1024x2048_S1024x2048]
  have e := V_wB m c
  refine (congrArg (V m c main_v8) (col_emb t k j (((cfg0.win 6).blk t).view.emb (ix2 k j)) rfl rfl)).trans (congrFun e _)

/-- The array the call leaves. -/
abbrev result (c : Dev nD) : (⟨2, ![16384, 2048]⟩ : Shape).Idx → EReal :=
  rowsOf (merged (acts m c) (oA m c) (oB m c) (wIn m c) (wA m c) (wB m c))

theorem tile (c : Dev nD) (t : Fin cfg0.N) (a j : Fin 512) :
    ((dats m 0 c).after 7 t : Vec Ideal S512x512 .bf16) (ix2 a j)
      = merged (acts m c) (oA m c) (oB m c) (wIn m c) (wA m c) (wB m c) (seqOf t) (posOf t a) (colOf t j) := by
  rw [after0_7, out_apply]
  unfold merged proj branch
  simp only [blk_h, blk_oA, blk_oB, blk_gA, blk_gB, blk_wA, blk_wB]

theorem out (c : Dev nD) : (dats m 0 c).arrAt 7 cfg0.N = (result m c : Vec Ideal S16384x2048 .bf16) := by
  refine (dats m 0 c).arrAt_eq_of_covers 7 (result m c : Vec Ideal S16384x2048 .bf16) (by decide +kernel) fun t _ y => ?_
  obtain ⟨a, j, rfl⟩ : ∃ (a : Fin 512) (j : Fin 512), y = (ix2 a j : S512x512.Idx) := ⟨y 0, y 1, ValueIdx.eq_ix2 y⟩
  refine (tile m c t a j).trans ?_
  refine (rowsOf_flat _ _ _ (colOf t j)).symm.trans (congrArg (result m c) ?_)
  exact (out_emb t a j _ rfl rfl).symm

end Cert.Kernel3Ideal.Merge

/-! ## The plain program -/

namespace Cert.Reference3Ideal.Merge

open Cert.Reference3Ideal.Gen Cert.Reference3Ideal.Read Cert.Small
open Cert.Kernel3Ideal.Merge (branch merged)
open Cert.Kernel2Ideal.Small (rowsOf)
open Idealize.ShloMosaic hiding ix0 ix1 ix2 ix3 ix4 ix5
open Idealize.ShloMosaic.TcCoe Idealize.ShloMosaic.ValueIdx
open Idealize.SL.Sem

variable (x : (⟨S4x4096x2048, .f32⟩ : BufTy).Contents (Elt Ideal)) (oa ob : (⟨S4x4096x1024, .f32⟩ : BufTy).Contents (Elt Ideal))
  (w : (⟨S1x2048x8848, .f32⟩ : BufTy).Contents (Elt Ideal)) (wa wb : (⟨S1x1024x2048, .f32⟩ : BufTy).Contents (Elt Ideal))

/-- `1 / (1 + exp (-p))` with the constant ones is the logistic. -/
theorem logistic_eq (p : EReal) :
    Ideal.div (Ideal.ofBits .f32 0x3F800000#32) (Ideal.ofBits .f32 0x3F800000#32 + Ideal.exp (-p)) = Ideal.logistic p := by
  rw [Ideal.ofBits_one_f32]
  rfl

variable (b : Fin 4) (s : Fin 4096) (n : Fin 2048)

theorem gA_apply : val_main_v11 (F := Ideal) x w (ix3 b s n) = proj x w b s ⟨4752 + n.val, by omega⟩ :=
  Cert.Reference2Ideal.Small.slice_at x w 4752 (by omega) slices_S4x4096x8848_S4x4096x2048_0_0_4752 b s n
theorem gB_apply : val_main_v12 (F := Ideal) x w (ix3 b s n) = proj x w b s ⟨6800 + n.val, by omega⟩ :=
  Cert.Reference2Ideal.Small.slice_at x w 6800 (by omega) slices_S4x4096x8848_S4x4096x2048_0_0_6800 b s n

theorem oA_apply : val_main_v20 (F := Ideal) oa wa (ix3 b s n) = branch oa wa b s n := by
  rw [val_main_v20_apply]
  refine Finset.sum_congr rfl fun k _ => congrArg₂ (· * ·) (congrArg oa (ValueIdx.eq_ix3 _)) ?_
  exact (congrArg (val_main_v19 (F := Ideal) wa) (ValueIdx.eq_ix2 _)).trans (Cert.Kernel3Ideal.Merge.wo_apply wa shapeCasts_S1x1024x2048_S1024x2048 k n)
theorem oB_apply : val_main_v29 (F := Ideal) ob wb (ix3 b s n) = branch ob wb b s n := by
  rw [val_main_v29_apply]
  refine Finset.sum_congr rfl fun k _ => congrArg₂ (· * ·) (congrArg ob (ValueIdx.eq_ix3 _)) ?_
  exact (congrArg (val_main_v28 (F := Ideal) wb) (ValueIdx.eq_ix2 _)).trans (Cert.Kernel3Ideal.Merge.wo_apply wb shapeCasts_S1x1024x2048_S1024x2048 k n)

theorem sum_apply : val_main_v31 (F := Ideal) x oa ob w wa wb (ix3 b s n) = merged x oa ob w wa wb b s n := by
  rw [val_main_v31_apply, val_main_v21_apply, val_main_v30_apply, oA_apply, oB_apply, val_main_v18_apply, val_main_v27_apply,
    val_main_v16_apply, val_main_v25_apply, val_main_v14_apply, val_main_v23_apply, val_main_v13_apply, val_main_v22_apply, gA_apply, gB_apply]
  unfold merged
  rw [← logistic_eq, ← logistic_eq]
  rfl

theorem same : val_main_v33 (F := Ideal) x oa ob w wa wb = rowsOf (merged x oa ob w wa wb) :=
  rowsOf_ext _ _ fun b s r hr j =>
    (Cert.Small.flat_at (val_main_v31 (F := Ideal) x oa ob w wa wb) shapeCasts_S4x4096x2048_S16384x2048 b s j r hr).trans
      (sum_apply x oa ob w wa wb b s j)

end Cert.Reference3Ideal.Merge

namespace Cert.Merge

open Idealize.ShloMosaic hiding ix0 ix1 ix2 ix3 ix4 ix5
open Idealize.ShloMosaic.TcCoe Idealize.ShloMosaic.ValueIdx Idealize.SL.Sem

theorem equal : Cert.algebraic_Kernel3Ideal_Reference3Ideal := fun m ρ m' ρ' _ ha => by
  refine ⟨fun c => Cert.Kernel3Ideal.Merge.result m c, ?_, ?_⟩
  · refine (θ_run Cert.Kernel3Ideal.defs _ _).mono (fun _ h c => ?_) (Cert.Kernel3Ideal.Value.run_blocks m ρ)
    exact ⟨(h c).1.trans (Cert.Kernel3Ideal.Merge.out m c), (h c).2⟩
  · refine (θ_run Cert.Reference3Ideal.defs _ _).mono (fun r h c => ⟨(h c).1.trans ?_, (h c).2⟩) (Cert.Reference3Ideal.Value.run m' ρ')
    obtain rfl : c = 0 := Subsingleton.elim _ _
    obtain ⟨a0, a1, a2, a3, a4, a5⟩ := ha 0
    rw [a0, a1, a2, a3, a4, a5]
    exact (Cert.Reference3Ideal.Read.val_main_v33_eq _ _ _ _ _ _).trans (Cert.Reference3Ideal.Merge.same _ _ _ _ _ _)

end Cert.Merge

end
-- ==== Proof.KvUp.lean ====
/- The up-projection of the compressed keys and values: what the call leaves in its array, entry by entry, and the plain
   program's array, which is the same. -/
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import proofs.«01_k».proof.Proof.Merge
public import Idealize.ShloMosaic.Lib.ValueLayout

@[expose] public section

set_option maxRecDepth 16384

noncomputable section

namespace Cert.KvUp

open Idealize.ShloMosaic hiding ix0 ix1 ix2 ix3 ix4 ix5
open Idealize.ShloMosaic.TcCoe Idealize.ShloMosaic.ValueIdx
open Idealize.SL.Sem

/-- Two arrays of 1024 columns side by side, read in the one that a column falls in. -/
theorem beside {R : ℕ} (p q : (⟨2, ![R, 1024]⟩ : Shape).Idx → EReal)
    (h : Shape.Concatenates [(⟨2, ![R, 1024]⟩ : Shape), (⟨2, ![R, 1024]⟩ : Shape)] (⟨2, ![R, 2048]⟩ : Shape) 1) (r : Fin R) (n : Fin 2048) :
    concatenate (⟨2, ![R, 2048]⟩ : Shape) 1 [⟨(⟨2, ![R, 1024]⟩ : Shape), p⟩, ⟨(⟨2, ![R, 1024]⟩ : Shape), q⟩] h (ix2 r n)
      = if h : n.val < 1024 then p (ix2 r ⟨n.val, h⟩) else q (ix2 r ⟨n.val - 1024, by omega⟩) := by
  split
  · next h0 =>
    refine concatenate_pair_apply_left 1 _ _ h _ rfl (ix2 r ⟨n.val, h0⟩) (fun b => ?_)
    match b with
    | ⟨0, _⟩ => rfl
    | ⟨1, _⟩ => rfl
  · next h0 =>
    refine concatenate_pair_apply_right 1 _ _ h _ rfl rfl (ix2 r ⟨n.val - 1024, by omega⟩) (fun b hb => ?_) ?_
    · match b with
      | ⟨0, _⟩ => rfl
      | ⟨1, _⟩ => exact absurd rfl hb
    · show n.val - 1024 + 1024 = n.val; omega

/-- Column `n` of an up-projection: head `n / 128`, place `n % 128`. -/
def head (w : (⟨4, ![1, 512, 8, 128]⟩ : Shape).Idx → EReal) (k : Fin 512) (n : Fin 1024) : EReal :=
  w (ix4 (0 : Fin 1) k (⟨n.val / 128, by omega⟩ : Fin 8) (⟨n.val % 128, by omega⟩ : Fin 128))

/-- Both up-projections' columns: the keys' first, then the values'. -/
def weight (u v : (⟨4, ![1, 512, 8, 128]⟩ : Shape).Idx → EReal) (k : Fin 512) (n : Fin 2048) : EReal :=
  if h : n.val < 1024 then head u k ⟨n.val, h⟩ else head v k ⟨n.val - 1024, by omega⟩

/-- A position's keys and values. -/
def up (x : (⟨3, ![4, 4096, 512]⟩ : Shape).Idx → EReal) (u v : (⟨4, ![1, 512, 8, 128]⟩ : Shape).Idx → EReal)
    (b : Fin 4) (s : Fin 4096) (n : Fin 2048) : EReal := ∑ k : Fin 512, x (ix3 b s k) * weight u v k n

end Cert.KvUp

namespace Cert.Kernel7Ideal.KvUp

open Cert.Kernel7Ideal.Gen Cert.KvUp
open Cert.Kernel2Ideal.Small (flat rowsOf rowsOf_flat)
open Cert.Kernel3Ideal.Merge (rows_apply)
open Idealize.ShloMosaic hiding ix0 ix1 ix2 ix3 ix4 ix5
open Idealize.ShloMosaic.TcCoe Idealize.ShloMosaic.ValueIdx
open Idealize.SL.Sem

/-! ## What the body leaves, from its blocks -/

theorem ld_x (x : Vec Ideal S512x512 .bf16) : View.ld x r0_0 = x := View.ld_unit_lit _ _ (by decide)
theorem ld_s (x : Vec Ideal S1x512 .f32) : View.ld x r0_1 = x := View.ld_unit_lit _ _ (by decide)

theorem dot_x (x w : Vec Ideal S512x512 .bf16) (a j : Fin 512) :
    (matmul (φ₁ := .bf16) (φ₂ := .bf16) dot_S512x512_S512x512_S512x512_1_0_0_1_n_n none (x : FVec Ideal S512x512 .bf16) (w : FVec Ideal S512x512 .bf16) (constant S512x512 .f32 0x00000000#32) : FVec Ideal S512x512 .f32) (ix2 a j)
      = (∑ k : Fin 512, (x (ix2 a k) : EReal) * w (ix2 k j) : EReal) := by
  refine (Ideal.matmul_plain_apply (M := 512) (K := 512) (N := 512) none x w _ a j).trans ?_
  have z : constant (F := Ideal) S512x512 .f32 0x00000000#32 (ix2 a j) = (0 : EReal) := Ideal.ofBits_zero_f32
  rw [z, zero_add]

theorem out_apply (x0 x1 : Vec Ideal S512x512 .bf16) (x2 : Vec Ideal S1x512 .f32) (a j : Fin 512) :
    out0_3 x0 x1 x2 (ix2 a j) = (∑ k : Fin 512, x0 (ix2 a k) * x1 (ix2 k j)) * x2 (ix2 (0 : Fin 1) j) := by
  unfold out0_3
  simp only [ld_x, ld_s]
  have e : (View.canon [⟨r0_0, k0_pay1 x0 x1 x2⟩] : Vec Ideal S512x512 .bf16) = k0_pay1 x0 x1 x2 := View.canon_cons_unit_lit _ _ _ (by decide)
  rw [e]
  unfold k0_pay1
  simp only [shapeCast_self]
  exact congrArg₂ (· * ·) (dot_x x0 x1 a j) (broadcastTo_1b_ab_apply x2 broadcasts_S1x512_S512x512 a j)

/-! ## What the call is handed -/

/-- One up-projection with its heads side by side. -/
def flatW (w : FVec Ideal S1x512x8x128 .f32) : FVec Ideal S512x1024 .f32 :=
  shapeCast S512x1024 (shapeCast S512x8x128 w shapeCasts_S1x512x8x128_S512x8x128) shapeCasts_S512x8x128_S512x1024

theorem flatW_apply (w : FVec Ideal S1x512x8x128 .f32) (k : Fin 512) (n : Fin 1024) : flatW w (ix2 k n) = head w k n := by
  unfold flatW
  refine (shapeCast_apply _ _ _ (ix3 k (⟨n.val / 128, by omega⟩ : Fin 8) (⟨n.val % 128, by omega⟩ : Fin 128)) ?_).trans ?_
  · rw [Shape.rowMajor_val_three, Shape.rowMajor_val_two]
    show (k.val * 8 + n.val / 128) * 128 + n.val % 128 = k.val * 1024 + n.val
    omega
  refine shapeCast_apply _ _ _ (ix4 (0 : Fin 1) k (⟨n.val / 128, by omega⟩ : Fin 8) (⟨n.val % 128, by omega⟩ : Fin 128)) ?_
  rw [Shape.rowMajor_val_three, Shape.rowMajor_val_four]
  show ((0 * 512 + k.val) * 8 + n.val / 128) * 128 + n.val % 128 = (k.val * 8 + n.val / 128) * 128 + n.val % 128
  omega

/-- The call's weight. -/
def both (u v : FVec Ideal S1x512x8x128 .f32) : FVec Ideal S512x2048 .f32 :=
  concatenate S512x2048 1 [⟨S512x1024, flatW u⟩, ⟨S512x1024, flatW v⟩] concatenates_S512x1024_S512x1024_S512x2048_d1

theorem both_apply (u v : FVec Ideal S1x512x8x128 .f32) (k : Fin 512) (n : Fin 2048) : both u v (ix2 k n) = weight u v k n := by
  refine (beside (flatW u) (flatW v) concatenates_S512x1024_S512x1024_S512x2048_d1 k n).trans ?_
  unfold weight
  simp only [flatW_apply]

variable (m : (ℓ : Loc nD τ sig) → Buf (Elt Ideal) ℓ)

abbrev acts (c : Dev nD) : FVec Ideal S4x4096x512 .f32 := m ((c : Thread nD τ).loc main_arg0)
abbrev wK (c : Dev nD) : FVec Ideal S1x512x8x128 .f32 := m ((c : Thread nD τ).loc main_arg1)
abbrev wV (c : Dev nD) : FVec Ideal S1x512x8x128 .f32 := m ((c : Thread nD τ).loc main_arg2)

theorem V_x (c : Dev nD) : (V m c main_v7 : FVec Ideal S16384x512 .bf16) = shapeCast S16384x512 (acts m c) shapeCasts_S4x4096x512_S16384x512 := by
  show StableHlo.after hostOps0 (fun b => m (c, b)) (Proc.devRef .tc main_v7) = _
  after_reads_simp
  rfl
theorem V_w (c : Dev nD) : (V m c main_v5 : FVec Ideal S512x2048 .bf16) = both (wK m c) (wV m c) := by
  show StableHlo.after hostOps0 (fun b => m (c, b)) (Proc.devRef .tc main_v5) = _
  after_reads_simp
  rfl

/-- The row of ones the host code scales by. -/
def ones : FVec Ideal S2048 .f32 := broadcastInDim S2048 ![] bcast_S_S2048 (constant S_ .f32 0x3F800000#32)

theorem V_s (c : Dev nD) : (V m c main_v9 : FVec Ideal S1x2048 .f32) = shapeCast S1x2048 ones shapeCasts_S2048_S1x2048 := by
  show StableHlo.after hostOps0 (fun b => m (c, b)) (Proc.devRef .tc main_v9) = _
  after_reads_simp
  rfl

theorem s_apply (c : Dev nD) (n : Fin 2048) : (V m c main_v9 : FVec Ideal S1x2048 .f32) (ix2 (0 : Fin 1) n) = (1 : EReal) := by
  rw [V_s]
  refine (shapeCast_apply ones _ _ (ix1 n) ?_).trans ?_
  · rw [Shape.rowMajor_val_one, Shape.rowMajor_val_two]
    show n.val = 0 * 2048 + n.val
    omega
  exact Ideal.ofBits_one_f32

/-! ## The blocks of a tile -/

theorem at_rows : ∀ t : Fin cfg0.N, cc0_transform_0 (grid0.coords t) = ![t.val % 32, 0] := by decide +kernel
theorem at_cols : ∀ t : Fin cfg0.N, cc0_transform_1 (grid0.coords t) = ![0, t.val / 32] := by decide +kernel
theorem at_scl : ∀ t : Fin cfg0.N, cc0_transform_2 (grid0.coords t) = ![0, t.val / 32] := by decide +kernel
theorem at_out : ∀ t : Fin cfg0.N, cc0_transform_3 (grid0.coords t) = ![t.val % 32, t.val / 32] := by decide +kernel

/-- Row `a` and column `j` of tile `t`. -/
def seqOf (t : Fin cfg0.N) : Fin 4 := ⟨t.val % 32 / 8, by omega⟩
def posOf (t : Fin cfg0.N) (a : Fin 512) : Fin 4096 := ⟨512 * (t.val % 32 % 8) + a.val, by omega⟩
def colOf (t : Fin cfg0.N) (j : Fin 512) : Fin 2048 := ⟨512 * (t.val / 32) + j.val, by have h : t.val < 128 := t.isLt; omega⟩

theorem flat_of (t : Fin cfg0.N) (a : Fin 512) : (flat (seqOf t) (posOf t a)).val = t.val % 32 * 512 + 1 * a.val := by
  show 4096 * (t.val % 32 / 8) + (512 * (t.val % 32 % 8) + a.val) = t.val % 32 * 512 + 1 * a.val
  omega

attribute [local irreducible] StableHlo.after

theorem blk_x (c : Dev nD) (t : Fin cfg0.N) (a : Fin 512) (k : Fin 512) :
    (iblk m c 0 t : Vec Ideal S512x512 .bf16) (ix2 a k) = acts m c (ix3 (seqOf t) (posOf t a) k) := by
  rw [← rows_apply (acts m c) shapeCasts_S4x4096x512_S16384x512, ← V_x]
  show V m c main_v7 (((cfg0.win 0).blk t).view.emb (ix2 a k)) = _
  refine congrArg (V m c main_v7) (funext fun b => Fin.ext ?_)
  have e := at_rows t
  match b with
  | ⟨0, _⟩ => exact (congrArg (fun f : Fin 2 → ℕ => f 0 * 512 + 1 * a.val) e).trans (flat_of t a).symm
  | ⟨1, _⟩ => exact (congrArg (fun f : Fin 2 → ℕ => f 1 * 512 + 1 * k.val) e).trans (by show 0 * 512 + 1 * k.val = k.val; omega)

theorem blk_w (c : Dev nD) (t : Fin cfg0.N) (k : Fin 512) (j : Fin 512) :
    (iblk m c 1 t : Vec Ideal S512x512 .bf16) (ix2 k j) = weight (wK m c) (wV m c) k (colOf t j) := by
  rw [← both_apply (wK m c) (wV m c) k (colOf t j), ← V_w]
  show V m c main_v5 (((cfg0.win 1).blk t).view.emb (ix2 k j)) = _
  refine congrArg (V m c main_v5) (funext fun b => Fin.ext ?_)
  have e := at_cols t
  match b with
  | ⟨0, _⟩ => exact (congrArg (fun f : Fin 2 → ℕ => f 0 * 512 + 1 * k.val) e).trans (by show 0 * 512 + 1 * k.val = k.val; omega)
  | ⟨1, _⟩ => exact (congrArg (fun f : Fin 2 → ℕ => f 1 * 512 + 1 * j.val) e).trans (by show t.val / 32 * 512 + 1 * j.val = 512 * (t.val / 32) + j.val; omega)

theorem blk_s (c : Dev nD) (t : Fin cfg0.N) (j : Fin 512) :
    (iblk m c 2 t : Vec Ideal S1x512 .f32) (ix2 (0 : Fin 1) j) = (1 : EReal) := by
  rw [← s_apply m c (colOf t j)]
  show V m c main_v9 (((cfg0.win 2).blk t).view.emb (ix2 (0 : Fin 1) j)) = _
  refine congrArg (V m c main_v9) (funext fun b => Fin.ext ?_)
  have e := at_scl t
  match b with
  | ⟨0, _⟩ => exact (congrArg (fun f : Fin 2 → ℕ => f 0 * 1 + 1 * 0) e).trans rfl
  | ⟨1, _⟩ => exact (congrArg (fun f : Fin 2 → ℕ => f 1 * 512 + 1 * j.val) e).trans (by show t.val / 32 * 512 + 1 * j.val = 512 * (t.val / 32) + j.val; omega)

/-- The array the call leaves. -/
abbrev result (c : Dev nD) : (⟨2, ![16384, 2048]⟩ : Shape).Idx → EReal := rowsOf (up (acts m c) (wK m c) (wV m c))

theorem tile (c : Dev nD) (t : Fin cfg0.N) (a j : Fin 512) :
    ((dats m 0 c).after 3 t : Vec Ideal S512x512 .bf16) (ix2 a j) = up (acts m c) (wK m c) (wV m c) (seqOf t) (posOf t a) (colOf t j) := by
  rw [after0_3, out_apply]
  unfold up
  simp only [blk_x, blk_w, blk_s, mul_one]

theorem out_emb (t : Fin cfg0.N) (a j : Fin 512) (i : (⟨2, ![16384, 2048]⟩ : Shape).Idx)
    (h0 : (i 0).val = cc0_transform_3 (grid0.coords t) 0 * 512 + 1 * a.val) (h1 : (i 1).val = cc0_transform_3 (grid0.coords t) 1 * 512 + 1 * j.val) :
    i = ix2 (flat (seqOf t) (posOf t a)) (colOf t j) := by
  rw [at_out] at h0 h1
  funext b; apply Fin.ext
  match b with
  | ⟨0, _⟩ => exact h0.trans (flat_of t a).symm
  | ⟨1, _⟩ => exact h1.trans (by show t.val / 32 * 512 + 1 * j.val = 512 * (t.val / 32) + j.val; omega)

theorem out (c : Dev nD) : (dats m 0 c).arrAt 3 cfg0.N = (result m c : Vec Ideal S16384x2048 .bf16) := by
  refine (dats m 0 c).arrAt_eq_of_covers 3 (result m c : Vec Ideal S16384x2048 .bf16) (by decide +kernel) fun t _ y => ?_
  obtain ⟨a, j, rfl⟩ : ∃ (a : Fin 512) (j : Fin 512), y = (ix2 a j : S512x512.Idx) := ⟨y 0, y 1, ValueIdx.eq_ix2 y⟩
  refine (tile m c t a j).trans ?_
  refine (rowsOf_flat _ _ _ (colOf t j)).symm.trans (congrArg (result m c) ?_)
  exact (out_emb t a j _ rfl rfl).symm

end Cert.Kernel7Ideal.KvUp

/-! ## The plain program -/

namespace Cert.Reference7Ideal.KvUp

open Cert.Reference7Ideal.Gen Cert.Reference7Ideal.Read Cert.KvUp
open Cert.Small (rowsOf_ext)
open Cert.Kernel2Ideal.Small (rowsOf)
open Idealize.ShloMosaic hiding ix0 ix1 ix2 ix3 ix4 ix5
open Idealize.ShloMosaic.TcCoe Idealize.ShloMosaic.ValueIdx
open Idealize.SL.Sem

variable (x : (⟨S4x4096x512, .f32⟩ : BufTy).Contents (Elt Ideal)) (u v : (⟨S1x512x8x128, .f32⟩ : BufTy).Contents (Elt Ideal))

theorem drop_apply (k : Fin 512) (h : Fin 8) (d : Fin 128) : val_main_v0 (F := Ideal) u (ix3 k h d) = u (ix4 (0 : Fin 1) k h d) := by
  unfold val_main_v0
  refine shapeCast_apply u _ _ _ ?_
  rw [Shape.rowMajor_val_three, Shape.rowMajor_val_four]
  show ((0 * 512 + k.val) * 8 + h.val) * 128 + d.val = (k.val * 8 + h.val) * 128 + d.val
  omega

theorem heads_apply (b : Fin 4) (s : Fin 4096) (h : Fin 8) (d : Fin 128) :
    val_main_v1 (F := Ideal) x u (ix4 b s h d) = ∑ k : Fin 512, x (ix3 b s k) * u (ix4 (0 : Fin 1) k h d) := by
  rw [val_main_v1_apply]
  refine Finset.sum_congr rfl fun k _ => congrArg₂ (· * ·) (congrArg x (ValueIdx.eq_ix3 _)) ?_
  exact (congrArg (val_main_v0 (F := Ideal) u) (ValueIdx.eq_ix3 _)).trans (drop_apply u k h d)

theorem flat_apply (b : Fin 4) (s : Fin 4096) (r : Fin 16384) (hr : r.val = 4096 * b.val + s.val) (n : Fin 1024) :
    val_main_v4 (F := Ideal) x u (ix2 r n) = ∑ k : Fin 512, x (ix3 b s k) * head u k n := by
  unfold val_main_v4
  refine (shapeCast_apply (val_main_v1 (F := Ideal) x u) _ _ (ix4 b s (⟨n.val / 128, by omega⟩ : Fin 8) (⟨n.val % 128, by omega⟩ : Fin 128)) ?_).trans (heads_apply x u b s _ _)
  rw [Shape.rowMajor_val_four, Shape.rowMajor_val_two]
  show ((b.val * 4096 + s.val) * 8 + n.val / 128) * 128 + n.val % 128 = r.val * 1024 + n.val
  omega

theorem same : val_main_v7 (F := Ideal) x u v = rowsOf (up x u v) := by
  refine rowsOf_ext _ _ fun b s r hr n => ?_
  refine (beside (val_main_v4 (F := Ideal) x u) (val_main_v4 (F := Ideal) x v) concatenates_S16384x1024_S16384x1024_S16384x2048_d1 r n).trans ?_
  unfold up weight
  simp only [flat_apply x _ b s r hr]
  split <;> rfl

end Cert.Reference7Ideal.KvUp

namespace Cert.KvUp

open Idealize.ShloMosaic hiding ix0 ix1 ix2 ix3 ix4 ix5
open Idealize.ShloMosaic.TcCoe Idealize.ShloMosaic.ValueIdx Idealize.SL.Sem

theorem equal : Cert.algebraic_Kernel7Ideal_Reference7Ideal := fun m ρ m' ρ' _ ha => by
  refine ⟨fun c => Cert.Kernel7Ideal.KvUp.result m c, ?_, ?_⟩
  · refine (θ_run Cert.Kernel7Ideal.defs _ _).mono (fun _ h c => ?_) (Cert.Kernel7Ideal.Value.run_blocks m ρ)
    exact ⟨(h c).1.trans (Cert.Kernel7Ideal.KvUp.out m c), (h c).2⟩
  · refine (θ_run Cert.Reference7Ideal.defs _ _).mono (fun r h c => ⟨(h c).1.trans ?_, (h c).2⟩) (Cert.Reference7Ideal.Value.run m' ρ')
    obtain rfl : c = 0 := Subsingleton.elim _ _
    obtain ⟨a0, a1, a2⟩ := ha 0
    rw [a0, a1, a2]
    exact (Cert.Reference7Ideal.Read.val_main_v7_eq _ _ _).trans (Cert.Reference7Ideal.KvUp.same _ _ _)

end Cert.KvUp

end
-- ==== Proof.OutProj.lean ====
/- The output projection with the residual sum and the modulated norm after it: what the call leaves in its two arrays,
   entry by entry, and the plain program's arrays, which are the same. -/
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import proofs.«01_k».proof.Proof.Merge
public import Idealize.ShloMosaic.Lib.ValueLayoutCasts

@[expose] public section

set_option maxRecDepth 16384

noncomputable section

namespace Cert.OutProj

open Cert.Small
open Idealize.ShloMosaic hiding ix0 ix1 ix2 ix3 ix4 ix5
open Idealize.ShloMosaic.TcCoe Idealize.ShloMosaic.ValueIdx
open Idealize.SL.Sem

/-- A position's residual sum: its input plus the gate times the projected branches. The gate is the third of the six
    modulation rows. -/
def resid (x g : (⟨3, ![4, 4096, 2048]⟩ : Shape).Idx → EReal) (md : (⟨2, ![4, 12288]⟩ : Shape).Idx → EReal)
    (w : (⟨3, ![1, 2048, 2048]⟩ : Shape).Idx → EReal) (b : Fin 4) (s : Fin 4096) (j : Fin 2048) : EReal :=
  x (ix3 b s j) + md (ix2 b ⟨4096 + j.val, by omega⟩) * ∑ k : Fin 2048, g (ix3 b s k) * w (ix3 (0 : Fin 1) k j)

/-- A row normed and modulated: `u` is the norm's gain, `sc` and `sh` the scale and the shift. -/
def modulated (p : Fin 2048 → EReal) (u sc sh : EReal) (j : Fin 2048) : EReal :=
  normed 0x45000000#32 p u j * (Ideal.ofBits .f32 0x3F800000#32 + sc) + sh

/-- A position's residual sum, normed and modulated by the fifth and the fourth modulation rows. -/
def hidden (x g : (⟨3, ![4, 4096, 2048]⟩ : Shape).Idx → EReal) (md : (⟨2, ![4, 12288]⟩ : Shape).Idx → EReal)
    (w : (⟨3, ![1, 2048, 2048]⟩ : Shape).Idx → EReal) (u : (⟨2, ![1, 2048]⟩ : Shape).Idx → EReal) (b : Fin 4) (s : Fin 4096) (j : Fin 2048) : EReal :=
  modulated (resid x g md w b s) (u (ix2 (0 : Fin 1) j)) (md (ix2 b ⟨8192 + j.val, by omega⟩)) (md (ix2 b ⟨6144 + j.val, by omega⟩)) j

/-- One column broadcast over many. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.OutProj

namespace Cert.Kernel6Ideal.OutProj

open Cert.Kernel6Ideal.Gen Cert.Small Cert.OutProj
open Cert.Kernel2Ideal.Small (flat rowsOf rowsOf_flat)
open Cert.Kernel3Ideal.Merge (rows_apply)
open Idealize.ShloMosaic hiding ix0 ix1 ix2 ix3 ix4 ix5
open Idealize.ShloMosaic.TcCoe Idealize.ShloMosaic.ValueIdx
open Idealize.SL.Sem

/-! ## What the body leaves, from its blocks -/

section
variable (x0 : Vec Ideal S256x2048 .f32) (x1 : Vec Ideal S256x2048 .bf16) (x2 : Vec Ideal S2048x2048 .bf16) (x3 : Vec Ideal S1x1x2048 .f32)
  (x4 : Vec Ideal S1x2048 .f32) (x5 x6 : Vec Ideal S1x1x2048 .f32) (x7 x8 : Vec Ideal S128x2048 .bf16) (x9 : Vec Ideal S128x1 .f32)

omit x0 x1 x2 x3 x4 x5 x6 x7 x8 x9 in
theorem ld_x (x : Vec Ideal S256x2048 .f32) : View.ld x r0_0 = x := View.ld_unit_lit _ _ (by decide)
omit x0 x1 x2 x3 x4 x5 x6 x7 x8 x9 in
theorem ld_g (x : Vec Ideal S256x2048 .bf16) : View.ld x r0_0 = x := View.ld_unit_lit _ _ (by decide)
omit x0 x1 x2 x3 x4 x5 x6 x7 x8 x9 in
theorem ld_m (x : Vec Ideal S1x1x2048 .f32) : View.ld x r0_1 = x := View.ld_unit_lit _ _ (by decide)
omit x0 x1 x2 x3 x4 x5 x6 x7 x8 x9 in
theorem ld_w (x : Vec Ideal S2048x2048 .bf16) : View.ld x r0_2 = x := View.ld_unit_lit _ _ (by decide)
omit x0 x1 x2 x3 x4 x5 x6 x7 x8 x9 in
theorem ld_u (x : Vec Ideal S1x2048 .f32) : View.ld x r0_3 = x := View.ld_unit_lit _ _ (by decide)

/-- A row of the residual sum, from the blocks. -/
def row (a : Fin 256) (j : Fin 2048) : EReal :=
  x0 (ix2 a j) + x3 (ix3 (0 : Fin 1) (0 : Fin 1) j) * ∑ k : Fin 2048, x1 (ix2 a k) * x2 (ix2 k j)

omit x0 x1 x2 x3 x4 x5 x6 x7 x8 x9 in
theorem mod_row (v : Vec Ideal S1x1x2048 .f32) (a : Fin 256) (j : Fin 2048) :
    broadcastTo S256x2048 (shapeCast S1x2048 v shapeCasts_S1x1x2048_S1x2048) broadcasts_S1x2048_S256x2048 (ix2 a j) = v (ix3 (0 : Fin 1) (0 : Fin 1) j) :=
  (broadcastTo_1b_ab_apply _ broadcasts_S1x2048_S256x2048 a j).trans (shapeCast_1ab_ab_apply v shapeCasts_S1x1x2048_S1x2048 (0 : Fin 1) j)

omit x0 x1 x2 x3 x4 x5 x6 x7 x8 x9 in
theorem dot_g (g : Vec Ideal S256x2048 .bf16) (w : Vec Ideal S2048x2048 .bf16) (a : Fin 256) (j : Fin 2048) :
    (matmul (φ₁ := .bf16) (φ₂ := .bf16) dot_S256x2048_S2048x2048_S256x2048_1_0_0_1_n_n none (g : FVec Ideal S256x2048 .bf16) (w : FVec Ideal S2048x2048 .bf16) (constant S256x2048 .f32 0x00000000#32) : FVec Ideal S256x2048 .f32) (ix2 a j)
      = (∑ k : Fin 2048, (g (ix2 a k) : EReal) * w (ix2 k j) : EReal) := by
  refine (Ideal.matmul_plain_apply (M := 256) (K := 2048) (N := 2048) none g w _ a j).trans ?_
  have z : constant (F := Ideal) S256x2048 .f32 0x00000000#32 (ix2 a j) = (0 : EReal) := Ideal.ofBits_zero_f32
  rw [z, zero_add]

theorem sum_apply (a : Fin 256) (j : Fin 2048) : k0_pay3 x0 x3 x1 x2 (ix2 a j) = row x0 x1 x2 x3 a j := by
  unfold k0_pay3 row
  simp only [shapeCast_self]
  exact congrArg (x0 (ix2 a j) + ·) (congrArg₂ (· * ·) (mod_row x3 a j) (dot_g x1 x2 a j))

theorem squares (a : Fin 256) :
    multiReduction (F := Ideal) (φ := .f32) .add [1] S256 (mulf (k0_pay3 x0 x3 x1 x2) (k0_pay3 x0 x3 x1 x2)) 0x00000000#32 reduces_S256x2048_S256 (.inl rfl) rfl (ix1 a)
      = ∑ l : Fin 2048, row x0 x1 x2 x3 a l * row x0 x1 x2 x3 a l := by
  refine (Ideal.multiReduction_add_single _ _ reduces_S256x2048_S256 _ _ _).trans (Finset.sum_congr rfl fun (l : Fin 2048) _ => ?_)
  have e : k0_pay3 x0 x3 x1 x2 (reduces_S256x2048_S256.lift (ix1 a) l) = row x0 x1 x2 x3 a l := by
    rw [← sum_apply]
    refine congrArg (k0_pay3 x0 x3 x1 x2) (funext fun b => Fin.ext ?_)
    match b with
    | ⟨0, _⟩ => rfl
    | ⟨1, _⟩ => rfl
  exact congrArg₂ (· * ·) e e

theorem scaled_apply (a : Fin 256) (j : Fin 2048) :
    k0_pay4 x0 x3 x1 x2 x4 x5 (ix2 a j)
      = normed 0x45000000#32 (row x0 x1 x2 x3 a) (x4 (ix2 (0 : Fin 1) j)) j * (Ideal.ofBits .f32 0x3F800000#32 + x5 (ix3 (0 : Fin 1) (0 : Fin 1) j)) := by
  have e := squares x0 x1 x2 x3 a
  have e1 := sum_apply x0 x1 x2 x3 a j
  unfold k0_pay4
  simp only [shapeCast_self]
  generalize k0_pay3 x0 x3 x1 x2 = y at e e1 ⊢
  refine congrArg₂ (· * ·) (congrArg₂ (· * ·) (congrArg₂ (· * ·) e1 ?_) (broadcastTo_1b_ab_apply x4 broadcasts_S1x2048_S256x2048 a j)) ?_
  · refine (broadcastTo_a1_ab_apply _ broadcasts_S256x1_S256x2048 a j).trans ?_
    refine congrArg (fun z => Ideal.rsqrt (Ideal.div z _ + _)) ?_
    exact (shapeCast_a_a1_apply _ shapeCasts_S256_S256x1 a (0 : Fin 1)).trans e
  · refine (broadcastTo_1b_ab_apply _ broadcasts_S1x2048_S256x2048 a j).trans ?_
    exact congrArg (Ideal.ofBits .f32 0x3F800000#32 + ·) (shapeCast_1ab_ab_apply x5 shapeCasts_S1x1x2048_S1x2048 (0 : Fin 1) j)

theorem out10_apply (a : Fin 256) (j : Fin 2048) : out0_10 x0 x1 x2 x3 x4 x5 x6 x7 x8 x9 (ix2 a j) = row x0 x1 x2 x3 a j := by
  unfold out0_10
  simp only [ld_x, ld_g, ld_m, ld_w]
  have e : (View.canon [⟨r0_0, k0_pay3 x0 x3 x1 x2⟩] : Vec Ideal S256x2048 .f32) = k0_pay3 x0 x3 x1 x2 := View.canon_cons_unit_lit _ _ _ (by decide)
  rw [e, sum_apply]

theorem out11_apply (a : Fin 256) (j : Fin 2048) :
    out0_11 x0 x1 x2 x3 x4 x5 x6 x7 x8 x9 (ix2 a j)
      = modulated (row x0 x1 x2 x3 a) (x4 (ix2 (0 : Fin 1) j)) (x5 (ix3 (0 : Fin 1) (0 : Fin 1) j)) (x6 (ix3 (0 : Fin 1) (0 : Fin 1) j)) j := by
  unfold out0_11 k0_pay5
  simp only [ld_x, ld_g, ld_m, ld_w, ld_u]
  have e : (View.canon [⟨r0_0, k0_pay1 (k0_pay4 x0 x3 x1 x2 x4 x5) x6⟩] : Vec Ideal S256x2048 .f32) = k0_pay1 (k0_pay4 x0 x3 x1 x2 x4 x5) x6 :=
    View.canon_cons_unit_lit _ _ _ (by decide)
  rw [e]
  unfold k0_pay1
  exact congrArg₂ (· + ·) (scaled_apply x0 x1 x2 x3 x4 x5 a j) (mod_row x6 a j)

end

/-! ## What the call is handed -/

variable (m : (ℓ : Loc nD τ sig) → Buf (Elt Ideal) ℓ)

abbrev inp (c : Dev nD) : FVec Ideal S4x4096x2048 .f32 := m ((c : Thread nD τ).loc main_arg0)
abbrev mrg (c : Dev nD) : FVec Ideal S4x4096x2048 .f32 := m ((c : Thread nD τ).loc main_arg1)
abbrev mdl (c : Dev nD) : FVec Ideal S4x12288 .f32 := m ((c : Thread nD τ).loc main_arg2)
abbrev wOut (c : Dev nD) : FVec Ideal S1x2048x2048 .f32 := m ((c : Thread nD τ).loc main_arg3)
abbrev gain (c : Dev nD) : FVec Ideal S1x2048 .f32 := m ((c : Thread nD τ).loc main_arg4)

theorem V_x (c : Dev nD) : (V m c main_v17 : FVec Ideal S16384x2048 .f32) = shapeCast S16384x2048 (inp m c) shapeCasts_S4x4096x2048_S16384x2048 := by
  show StableHlo.after hostOps0 (fun b => m (c, b)) (Proc.devRef .tc main_v17) = _
  after_reads_simp
  rfl
theorem V_g (c : Dev nD) : (V m c main_v19 : FVec Ideal S16384x2048 .bf16) = shapeCast S16384x2048 (mrg m c) shapeCasts_S4x4096x2048_S16384x2048 := by
  show StableHlo.after hostOps0 (fun b => m (c, b)) (Proc.devRef .tc main_v19) = _
  after_reads_simp
  rfl
theorem V_w (c : Dev nD) : (V m c main_v2 : FVec Ideal S2048x2048 .bf16) = shapeCast S2048x2048 (wOut m c) shapeCasts_S1x2048x2048_S2048x2048 := by
  show StableHlo.after hostOps0 (fun b => m (c, b)) (Proc.devRef .tc main_v2) = _
  after_reads_simp
  rfl
theorem V_m (c : Dev nD) : (V m c main_v0 : FVec Ideal S4x1x12288 .f32) = shapeCast S4x1x12288 (mdl m c) shapeCasts_S4x12288_S4x1x12288 := by
  show StableHlo.after hostOps0 (fun b => m (c, b)) (Proc.devRef .tc main_v0) = _
  after_reads_simp
  rfl
theorem V_u (c : Dev nD) : (V m c main_v21 : FVec Ideal S1x2048 .f32)
    = shapeCast S1x2048 (shapeCast S2048 (gain m c) shapeCasts_S1x2048_S2048) shapeCasts_S2048_S1x2048 := by
  show StableHlo.after hostOps0 (fun b => m (c, b)) (Proc.devRef .tc main_v21) = _
  after_reads_simp
  rfl

theorem w_apply (c : Dev nD) (k j : Fin 2048) : (V m c main_v2 : FVec Ideal S2048x2048 .bf16) (ix2 k j) = wOut m c (ix3 (0 : Fin 1) k j) := by
  rw [V_w]; exact shapeCast_1ab_ab_apply (wOut m c) shapeCasts_S1x2048x2048_S2048x2048 k j
theorem m_apply (c : Dev nD) (b : Fin 4) (n : Fin 12288) : (V m c main_v0 : FVec Ideal S4x1x12288 .f32) (ix3 b (0 : Fin 1) n) = mdl m c (ix2 b n) := by
  rw [V_m]
  refine shapeCast_apply (mdl m c) _ _ _ ?_
  rw [Shape.rowMajor_val_three, Shape.rowMajor_val_two]
  show b.val * 12288 + n.val = (b.val * 1 + 0) * 12288 + n.val
  omega
theorem u_apply (c : Dev nD) (j : Fin 2048) : (V m c main_v21 : FVec Ideal S1x2048 .f32) (ix2 (0 : Fin 1) j) = gain m c (ix2 (0 : Fin 1) j) := by
  rw [V_u]
  exact (shapeCast_a_1a_apply _ shapeCasts_S2048_S1x2048 (0 : Fin 1) j).trans (shapeCast_1a_a_apply (gain m c) shapeCasts_S1x2048_S2048 j)

/-! ## The blocks of a tile -/

theorem at_x : ∀ t : Fin cfg0.N, cc0_transform_0 (grid0.coords t) = ![t.val, 0] := by decide +kernel
theorem at_g : ∀ t : Fin cfg0.N, cc0_transform_1 (grid0.coords t) = ![t.val, 0] := by decide +kernel
theorem at_w : ∀ t : Fin cfg0.N, cc0_transform_2 (grid0.coords t) = ![0, 0] := by decide +kernel
theorem at_gt : ∀ t : Fin cfg0.N, cc0_transform_3 (grid0.coords t) = ![t.val / 16, 0, 2] := by decide +kernel
theorem at_u : ∀ t : Fin cfg0.N, cc0_transform_4 (grid0.coords t) = ![0, 0] := by decide +kernel
theorem at_sc : ∀ t : Fin cfg0.N, cc0_transform_5 (grid0.coords t) = ![t.val / 16, 0, 4] := by decide +kernel
theorem at_sh : ∀ t : Fin cfg0.N, cc0_transform_6 (grid0.coords t) = ![t.val / 16, 0, 3] := by decide +kernel
theorem at_10 : ∀ t : Fin cfg0.N, cc0_transform_10 (grid0.coords t) = ![t.val, 0] := by decide +kernel
theorem at_11 : ∀ t : Fin cfg0.N, cc0_transform_11 (grid0.coords t) = ![t.val, 0] := by decide +kernel

/-- Row `a` of tile `t`. -/
def seqOf (t : Fin cfg0.N) : Fin 4 := ⟨t.val / 16, by have h : t.val < 64 := t.isLt; omega⟩
def posOf (t : Fin cfg0.N) (a : Fin 256) : Fin 4096 := ⟨256 * (t.val % 16) + a.val, by omega⟩

/-- Where a tile's row lies in an array of flat rows. -/
theorem row_emb (t : Fin cfg0.N) (a : Fin 256) (k : Fin 2048) (f : Fin 2 → ℕ) (hf : f = ![t.val, 0]) (i : (⟨2, ![16384, 2048]⟩ : Shape).Idx)
    (h0 : (i 0).val = f 0 * 256 + 1 * a.val) (h1 : (i 1).val = f 1 * 2048 + 1 * k.val) : i = ix2 (flat (seqOf t) (posOf t a)) k := by
  subst hf
  funext b; apply Fin.ext
  match b with
  | ⟨0, _⟩ => exact h0.trans (by show t.val * 256 + 1 * a.val = 4096 * (t.val / 16) + (256 * (t.val % 16) + a.val); omega)
  | ⟨1, _⟩ => exact h1.trans (by show 0 * 2048 + 1 * k.val = k.val; omega)

/-- Where a tile's modulation row lies, the `q`-th of the six. -/
theorem mod_emb (t : Fin cfg0.N) (q : ℕ) (hq : q < 6) (j : Fin 2048) (f : Fin 3 → ℕ) (hf : f = ![t.val / 16, 0, q]) (i : (⟨3, ![4, 1, 12288]⟩ : Shape).Idx)
    (h0 : (i 0).val = f 0 * 1 + 1 * 0) (h2 : (i 2).val = f 2 * 2048 + 1 * j.val) :
    i = ix3 (seqOf t) (0 : Fin 1) (⟨q * 2048 + j.val, by omega⟩ : Fin 12288) := by
  subst hf
  funext b; apply Fin.ext
  match b with
  | ⟨0, _⟩ => exact h0.trans (by show t.val / 16 * 1 + 1 * 0 = t.val / 16; omega)
  | ⟨1, _⟩ => have h : (i 1).val < 1 := (i 1).isLt; show (i 1).val = 0; omega
  | ⟨2, _⟩ => exact h2.trans (by show q * 2048 + 1 * j.val = q * 2048 + j.val; omega)

attribute [local irreducible] StableHlo.after

theorem blk_x (c : Dev nD) (t : Fin cfg0.N) (a : Fin 256) (k : Fin 2048) :
    (iblk m c 0 t : Vec Ideal S256x2048 .f32) (ix2 a k) = inp m c (ix3 (seqOf t) (posOf t a) k) := by
  rw [← rows_apply (inp m c) shapeCasts_S4x4096x2048_S16384x2048, ← V_x]
  show V m c main_v17 (((cfg0.win 0).blk t).view.emb (ix2 a k)) = _
  exact congrArg (V m c main_v17) (row_emb t a k _ (at_x t) _ rfl rfl)

theorem blk_g (c : Dev nD) (t : Fin cfg0.N) (a : Fin 256) (k : Fin 2048) :
    (iblk m c 1 t : Vec Ideal S256x2048 .bf16) (ix2 a k) = mrg m c (ix3 (seqOf t) (posOf t a) k) := by
  rw [← rows_apply (mrg m c) shapeCasts_S4x4096x2048_S16384x2048, ← V_g]
  show V m c main_v19 (((cfg0.win 1).blk t).view.emb (ix2 a k)) = _
  exact congrArg (V m c main_v19) (row_emb t a k _ (at_g t) _ rfl rfl)

theorem blk_w (c : Dev nD) (t : Fin cfg0.N) (k j : Fin 2048) :
    (iblk m c 2 t : Vec Ideal S2048x2048 .bf16) (ix2 k j) = wOut m c (ix3 (0 : Fin 1) k j) := by
  rw [← w_apply]
  show V m c main_v2 (((cfg0.win 2).blk t).view.emb (ix2 k j)) = _
  refine congrArg (V m c main_v2) (funext fun b => Fin.ext ?_)
  have e := at_w t
  match b with
  | ⟨0, _⟩ => exact (congrArg (fun f : Fin 2 → ℕ => f 0 * 2048 + 1 * k.val) e).trans (by show 0 * 2048 + 1 * k.val = k.val; omega)
  | ⟨1, _⟩ => exact (congrArg (fun f : Fin 2 → ℕ => f 1 * 2048 + 1 * j.val) e).trans (by show 0 * 2048 + 1 * j.val = j.val; omega)

theorem blk_u (c : Dev nD) (t : Fin cfg0.N) (j : Fin 2048) :
    (iblk m c 4 t : Vec Ideal S1x2048 .f32) (ix2 (0 : Fin 1) j) = gain m c (ix2 (0 : Fin 1) j) := by
  rw [← u_apply]
  show V m c main_v21 (((cfg0.win 4).blk t).view.emb (ix2 (0 : Fin 1) j)) = _
  refine congrArg (V m c main_v21) (funext fun b => Fin.ext ?_)
  have e := at_u t
  match b with
  | ⟨0, _⟩ => exact (congrArg (fun f : Fin 2 → ℕ => f 0 * 1 + 1 * 0) e).trans rfl
  | ⟨1, _⟩ => exact (congrArg (fun f : Fin 2 → ℕ => f 1 * 2048 + 1 * j.val) e).trans (by show 0 * 2048 + 1 * j.val = j.val; omega)

theorem blk_gt (c : Dev nD) (t : Fin cfg0.N) (j : Fin 2048) :
    (iblk m c 3 t : Vec Ideal S1x1x2048 .f32) (ix3 (0 : Fin 1) (0 : Fin 1) j) = mdl m c (ix2 (seqOf t) ⟨4096 + j.val, by omega⟩) := by
  rw [← m_apply]
  show V m c main_v0 (((cfg0.win 3).blk t).view.emb (ix3 (0 : Fin 1) (0 : Fin 1) j)) = _
  exact congrArg (V m c main_v0) (mod_emb t 2 (by omega) j _ (at_gt t) _ rfl rfl)

theorem blk_sc (c : Dev nD) (t : Fin cfg0.N) (j : Fin 2048) :
    (iblk m c 5 t : Vec Ideal S1x1x2048 .f32) (ix3 (0 : Fin 1) (0 : Fin 1) j) = mdl m c (ix2 (seqOf t) ⟨8192 + j.val, by omega⟩) := by
  rw [← m_apply]
  show V m c main_v0 (((cfg0.win 5).blk t).view.emb (ix3 (0 : Fin 1) (0 : Fin 1) j)) = _
  exact congrArg (V m c main_v0) (mod_emb t 4 (by omega) j _ (at_sc t) _ rfl rfl)

theorem blk_sh (c : Dev nD) (t : Fin cfg0.N) (j : Fin 2048) :
    (iblk m c 6 t : Vec Ideal S1x1x2048 .f32) (ix3 (0 : Fin 1) (0 : Fin 1) j) = mdl m c (ix2 (seqOf t) ⟨6144 + j.val, by omega⟩) := by
  rw [← m_apply]
  show V m c main_v0 (((cfg0.win 6).blk t).view.emb (ix3 (0 : Fin 1) (0 : Fin 1) j)) = _
  exact congrArg (V m c main_v0) (mod_emb t 3 (by omega) j _ (at_sh t) _ rfl rfl)

/-- The two arrays the call leaves. -/
abbrev sums (c : Dev nD) : (⟨2, ![16384, 2048]⟩ : Shape).Idx → EReal := rowsOf (resid (inp m c) (mrg m c) (mdl m c) (wOut m c))
abbrev hiddens (c : Dev nD) : (⟨2, ![16384, 2048]⟩ : Shape).Idx → EReal := rowsOf (hidden (inp m c) (mrg m c) (mdl m c) (wOut m c) (gain m c))

theorem row_eq (c : Dev nD) (t : Fin cfg0.N) (a : Fin 256) (j : Fin 2048) :
    row (iblk m c 0 t) (iblk m c 1 t) (iblk m c 2 t) (iblk m c 3 t) a j = resid (inp m c) (mrg m c) (mdl m c) (wOut m c) (seqOf t) (posOf t a) j := by
  unfold row resid
  simp only [blk_x, blk_g, blk_w, blk_gt]

theorem tile10 (c : Dev nD) (t : Fin cfg0.N) (a : Fin 256) (j : Fin 2048) :
    ((dats m 0 c).after 10 t : Vec Ideal S256x2048 .f32) (ix2 a j) = resid (inp m c) (mrg m c) (mdl m c) (wOut m c) (seqOf t) (posOf t a) j := by
  rw [after0_10, out10_apply, row_eq]

theorem tile11 (c : Dev nD) (t : Fin cfg0.N) (a : Fin 256) (j : Fin 2048) :
    ((dats m 0 c).after 11 t : Vec Ideal S256x2048 .f32) (ix2 a j)
      = hidden (inp m c) (mrg m c) (mdl m c) (wOut m c) (gain m c) (seqOf t) (posOf t a) j := by
  rw [after0_11, out11_apply, blk_u, blk_sc, blk_sh]
  unfold Cert.OutProj.hidden
  exact congrArg (fun p : Fin 2048 → EReal => modulated p _ _ _ j) (funext fun l => row_eq m c t a l)

theorem out10 (c : Dev nD) : (dats m 0 c).arrAt 10 cfg0.N = (sums m c : Vec Ideal S16384x2048 .f32) := by
  refine (dats m 0 c).arrAt_eq_of_covers 10 (sums m c : Vec Ideal S16384x2048 .f32) (by decide +kernel) fun t _ y => ?_
  obtain ⟨a, j, rfl⟩ : ∃ (a : Fin 256) (j : Fin 2048), y = (ix2 a j : S256x2048.Idx) := ⟨y 0, y 1, ValueIdx.eq_ix2 y⟩
  refine (tile10 m c t a j).trans ?_
  refine (rowsOf_flat _ _ _ j).symm.trans (congrArg (sums m c) ?_)
  exact (row_emb t a j _ (at_10 t) _ rfl rfl).symm

theorem out11 (c : Dev nD) : (dats m 0 c).arrAt 11 cfg0.N = (hiddens m c : Vec Ideal S16384x2048 .f32) := by
  refine (dats m 0 c).arrAt_eq_of_covers 11 (hiddens m c : Vec Ideal S16384x2048 .f32) (by decide +kernel) fun t _ y => ?_
  obtain ⟨a, j, rfl⟩ : ∃ (a : Fin 256) (j : Fin 2048), y = (ix2 a j : S256x2048.Idx) := ⟨y 0, y 1, ValueIdx.eq_ix2 y⟩
  refine (tile11 m c t a j).trans ?_
  refine (rowsOf_flat _ _ _ j).symm.trans (congrArg (hiddens m c) ?_)
  exact (row_emb t a j _ (at_11 t) _ rfl rfl).symm

end Cert.Kernel6Ideal.OutProj

/-! ## The plain program -/

namespace Cert.Reference6Ideal.OutProj

open Cert.Reference6Ideal.Gen Cert.Reference6Ideal.Read Cert.Small Cert.OutProj
open Cert.Kernel2Ideal.Small (rowsOf)
open Idealize.ShloMosaic hiding ix0 ix1 ix2 ix3 ix4 ix5 eq_ix1 eq_ix2 eq_ix3 eq_ix4 eq_ix5
open Idealize.ShloMosaic.TcCoe Idealize.ShloMosaic.ValueIdx
open Idealize.SL.Sem

variable (x g : (⟨S4x4096x2048, .f32⟩ : BufTy).Contents (Elt Ideal)) (md : (⟨S4x12288, .f32⟩ : BufTy).Contents (Elt Ideal))
  (w : (⟨S1x2048x2048, .f32⟩ : BufTy).Contents (Elt Ideal)) (u : (⟨S1x2048, .f32⟩ : BufTy).Contents (Elt Ideal))
  (b : Fin 4) (s : Fin 4096)

theorem gate_apply (j : Fin 2048) : val_main_v9 (F := Ideal) md (ix3 b s j) = md (ix2 b ⟨4096 + j.val, by omega⟩) := by
  rw [val_main_v9_apply, val_main_v3_apply, val_main_v0_apply]
  exact congrArg md (eq_ix2 _)
theorem scale_apply (j : Fin 2048) : val_main_v28 (F := Ideal) md (ix3 b s j) = Ideal.ofBits .f32 0x3F800000#32 + md (ix2 b ⟨8192 + j.val, by omega⟩) := by
  rw [val_main_v28_apply, val_main_v27_apply, val_main_v26_apply, val_main_v5_apply, val_main_v0_apply]
  exact congrArg (Ideal.ofBits .f32 0x3F800000#32 + ·) (congrArg md (eq_ix2 _))
theorem shift_apply (j : Fin 2048) : val_main_v30 (F := Ideal) md (ix3 b s j) = md (ix2 b ⟨6144 + j.val, by omega⟩) := by
  rw [val_main_v30_apply, val_main_v4_apply, val_main_v0_apply]
  exact congrArg md (eq_ix2 _)
theorem gain_apply (j : Fin 2048) : val_main_v24 (F := Ideal) u (ix3 b s j) = u (ix2 (0 : Fin 1) j) := by
  rw [val_main_v24_apply, val_main_v23_apply, val_main_v12_apply]
  exact congrArg u (funext fun a => Fin.ext (match a with | ⟨0, _⟩ => rfl | ⟨1, _⟩ => Nat.mod_eq_of_lt j.isLt))

theorem w_apply (k j : Fin 2048) : val_main_v7 (F := Ideal) w (ix2 k j) = w (ix3 (0 : Fin 1) k j) := by
  unfold val_main_v7
  exact shapeCast_1ab_ab_apply w shapeCasts_S1x2048x2048_S2048x2048 k j

theorem resid_apply (j : Fin 2048) : val_main_v11 (F := Ideal) x g md w (ix3 b s j) = resid x g md w b s j := by
  rw [val_main_v11_apply, val_main_v10_apply, gate_apply, val_main_v8_apply]
  refine congrArg (x (ix3 b s j) + ·) (congrArg (md (ix2 b ⟨4096 + j.val, by omega⟩) * ·) ?_)
  refine Finset.sum_congr rfl fun k _ => congrArg₂ (· * ·) (congrArg g (eq_ix3 _)) ?_
  exact (congrArg (val_main_v7 (F := Ideal) w) (eq_ix2 _)).trans (w_apply w k j)

theorem hidden_apply (j : Fin 2048) : val_main_v31 (F := Ideal) x g md w u (ix3 b s j) = hidden x g md w u b s j := by
  have q : val_main_v14 (F := Ideal) x g md w (ix2 b s) = ∑ l : Fin 2048, resid x g md w b s l * resid x g md w b s l := by
    rw [val_main_v14_apply]
    have z : val_main_cst (F := Ideal) (Shape.Idx.first h_S_) = (0 : EReal) := Ideal.ofBits_zero_f32
    rw [z, zero_add]
    refine Finset.sum_congr rfl fun l _ => ?_
    have i : idx_main_v14 (ix2 b s) l = (ix3 b s l : S4x4096x2048.Idx) := eq_ix3 _
    rw [i]
    exact congrArg₂ (· * ·) (resid_apply x g md w b s l) (resid_apply x g md w b s l)
  rw [val_main_v31_apply, shift_apply, val_main_v29_apply, scale_apply, val_main_v25_apply, gain_apply, val_main_v22_apply, resid_apply,
    val_main_v21_apply, val_main_v20_apply, val_main_v19_apply, val_main_v17_apply, val_main_v15_apply, val_main_v16_apply, val_main_v18_apply]
  have i : idx_main_v15 (idx_main_v21 (ix3 b s j)) = (ix2 b s : S4x4096.Idx) := eq_ix2 _
  rw [i, q]
  rfl

theorem same_sums : val_main_v32 (F := Ideal) x g md w = rowsOf (resid x g md w) :=
  rowsOf_ext _ _ fun b s r hr j =>
    (flat_at (val_main_v11 (F := Ideal) x g md w) shapeCasts_S4x4096x2048_S16384x2048 b s j r hr).trans (resid_apply x g md w b s j)
theorem same_hiddens : val_main_v33 (F := Ideal) x g md w u = rowsOf (hidden x g md w u) :=
  rowsOf_ext _ _ fun b s r hr j =>
    (flat_at (val_main_v31 (F := Ideal) x g md w u) shapeCasts_S4x4096x2048_S16384x2048 b s j r hr).trans (hidden_apply x g md w u b s j)

end Cert.Reference6Ideal.OutProj

namespace Cert.OutProj

open Cert.Kernel6Ideal.OutProj
open Idealize.ShloMosaic hiding ix0 ix1 ix2 ix3 ix4 ix5
open Idealize.ShloMosaic.TcCoe Idealize.ShloMosaic.ValueIdx Idealize.SL.Sem

theorem equal : Cert.algebraic_Kernel6Ideal_Reference6Ideal := fun m ρ m' ρ' _ ha => by
  refine ⟨fun c => sums m c, fun c => hiddens m c, ?_, ?_⟩
  · refine (θ_run Cert.Kernel6Ideal.defs _ _).mono (fun _ h c => ?_) (Cert.Kernel6Ideal.Value.run_blocks m ρ)
    obtain ⟨h0, h1, -, hk⟩ := h c
    exact ⟨h0.trans (out10 m c), h1.trans (out11 m c), hk⟩
  · refine (θ_run Cert.Reference6Ideal.defs _ _).mono (fun r h c => ?_) (Cert.Reference6Ideal.Value.run m' ρ')
    obtain rfl : c = 0 := Subsingleton.elim _ _
    obtain ⟨a0, a1, a2, a3, a4, -, -, -, -⟩ := ha 0
    obtain ⟨h0, h1, hk⟩ := h 0
    refine ⟨h0.trans ?_, h1.trans ?_, hk⟩
    · rw [a0, a1, a2, a3]
      exact (Cert.Reference6Ideal.Read.val_main_v32_eq _ _ _ _).trans (Cert.Reference6Ideal.OutProj.same_sums _ _ _ _)
    · rw [a0, a1, a2, a3, a4]
      exact (Cert.Reference6Ideal.Read.val_main_v33_eq _ _ _ _ _).trans (Cert.Reference6Ideal.OutProj.same_hiddens _ _ _ _ _)

end Cert.OutProj

end
-- ==== Proof.Query.lean ====
/- The scaled projection of the queries: what the call leaves in its array, entry by entry, and the plain program's array,
   which is the same. -/
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import proofs.«01_k».proof.Proof.Merge
public import Idealize.ShloMosaic.Lib.ValueLayout

@[expose] public section

set_option maxRecDepth 16384

noncomputable section

namespace Cert.Query

open Cert.Small
open Idealize.ShloMosaic hiding ix0 ix1 ix2 ix3 ix4 ix5
open Idealize.ShloMosaic.TcCoe Idealize.ShloMosaic.ValueIdx
open Idealize.SL.Sem

/-- The column of the input weight that column `n` of the queries comes from: the first 128 of each of 8 heads' 192 columns,
    then two runs of 1024. -/
def col (n : Fin 3072) : Fin 8848 :=
  if h : n.val < 1024 then ⟨n.val / 128 * 192 + n.val % 128, by omega⟩
  else if h : n.val < 2048 then ⟨2112 + (n.val - 1024), by omega⟩ else ⟨3648 + (n.val - 2048), by omega⟩

theorem col_heads (l : Fin 1024) : col ⟨l.val, by omega⟩ = ⟨l.val / 128 * 192 + l.val % 128, by omega⟩ := by
  unfold col; rw [dif_pos l.isLt]
theorem col_b (l : Fin 1024) : col ⟨1024 + l.val, by omega⟩ = ⟨2112 + l.val, by omega⟩ := by
  unfold col
  rw [dif_neg (by show ¬ 1024 + l.val < 1024; omega), dif_pos (by show 1024 + l.val < 2048; omega)]
  exact Fin.ext (by show 2112 + (1024 + l.val - 1024) = 2112 + l.val; omega)
theorem col_i (l : Fin 1024) : col ⟨2048 + l.val, by omega⟩ = ⟨3648 + l.val, by omega⟩ := by
  unfold col
  rw [dif_neg (by show ¬ 2048 + l.val < 1024; omega), dif_neg (by show ¬ 2048 + l.val < 2048; omega)]
  exact Fin.ext (by show 3648 + (2048 + l.val - 2048) = 3648 + l.val; omega)

/-- Three arrays of 1024 columns side by side, read in the one that a column falls in. -/
theorem beside {R : ℕ} (p q u : (⟨2, ![R, 1024]⟩ : Shape).Idx → EReal)
    (h : Shape.Concatenates [(⟨2, ![R, 1024]⟩ : Shape), (⟨2, ![R, 1024]⟩ : Shape), (⟨2, ![R, 1024]⟩ : Shape)] (⟨2, ![R, 3072]⟩ : Shape) 1)
    (r : Fin R) (f : Fin 8848 → EReal) (hp : ∀ l : Fin 1024, p (ix2 r l) = f ⟨l.val / 128 * 192 + l.val % 128, by omega⟩)
    (hq : ∀ l : Fin 1024, q (ix2 r l) = f ⟨2112 + l.val, by omega⟩) (hu : ∀ l : Fin 1024, u (ix2 r l) = f ⟨3648 + l.val, by omega⟩) (n : Fin 3072) :
    concatenate (⟨2, ![R, 3072]⟩ : Shape) 1 [⟨(⟨2, ![R, 1024]⟩ : Shape), p⟩, ⟨(⟨2, ![R, 1024]⟩ : Shape), q⟩, ⟨(⟨2, ![R, 1024]⟩ : Shape), u⟩] h (ix2 r n)
      = f (col n) := by
  have at_piece : ∀ (i : ℕ) (hi : i < 3) (v : (⟨2, ![R, 1024]⟩ : Shape).Idx → EReal)
      (hv : ([⟨(⟨2, ![R, 1024]⟩ : Shape), p⟩, ⟨(⟨2, ![R, 1024]⟩ : Shape), q⟩, ⟨(⟨2, ![R, 1024]⟩ : Shape), u⟩] : List ((s : Shape) × (s.Idx → EReal)))[i] = ⟨⟨2, ![R, 1024]⟩, v⟩)
      (hpre : ((([⟨(⟨2, ![R, 1024]⟩ : Shape), p⟩, ⟨(⟨2, ![R, 1024]⟩ : Shape), q⟩, ⟨(⟨2, ![R, 1024]⟩ : Shape), u⟩] : List ((s : Shape) × (s.Idx → EReal))).take i).map (·.1)
        |>.map fun s => if h : s.rank = (⟨2, ![R, 3072]⟩ : Shape).rank then s.size ((1 : Fin 2).cast h.symm) else 0).sum = i * 1024)
      (l : Fin 1024) (hn : i * 1024 + l.val = n.val),
      concatenate (⟨2, ![R, 3072]⟩ : Shape) 1 [⟨(⟨2, ![R, 1024]⟩ : Shape), p⟩, ⟨(⟨2, ![R, 1024]⟩ : Shape), q⟩, ⟨(⟨2, ![R, 1024]⟩ : Shape), u⟩] h (ix2 r n) = v (ix2 r l) := by
    intro i hi v hv hpre l hn
    refine concatenate_apply_piece (t := ⟨2, ![R, 3072]⟩) 1 [⟨(⟨2, ![R, 1024]⟩ : Shape), p⟩, ⟨(⟨2, ![R, 1024]⟩ : Shape), q⟩, ⟨(⟨2, ![R, 1024]⟩ : Shape), u⟩] h (ix2 r n) i hi ⟨2, ![R, 1024]⟩ v hv rfl (i * 1024) hpre (ix2 r l) (fun b hb => ?_) hn
    match b with
    | ⟨0, _⟩ => rfl
    | ⟨1, _⟩ => exact absurd rfl hb
  by_cases h0 : n.val < 1024
  · rw [at_piece 0 (by decide) p rfl rfl ⟨n.val, h0⟩ (by show 0 * 1024 + n.val = n.val; omega), hp]
    exact congrArg f (col_heads ⟨n.val, h0⟩).symm
  by_cases h1 : n.val < 2048
  · rw [at_piece 1 (by decide) q rfl rfl ⟨n.val - 1024, by omega⟩ (by show 1 * 1024 + (n.val - 1024) = n.val; omega), hq]
    refine congrArg f ((col_b ⟨n.val - 1024, by omega⟩).symm.trans (congrArg col (Fin.ext ?_)))
    show 1024 + (n.val - 1024) = n.val; omega
  · rw [at_piece 2 (by decide) u rfl rfl ⟨n.val - 2048, by omega⟩ (by show 2 * 1024 + (n.val - 2048) = n.val; omega), hu]
    refine congrArg f ((col_i ⟨n.val - 2048, by omega⟩).symm.trans (congrArg col (Fin.ext ?_)))
    show 2048 + (n.val - 2048) = n.val; omega

/-- A position's scaled query. -/
def query (x : (⟨3, ![4, 4096, 2048]⟩ : Shape).Idx → EReal) (w : (⟨3, ![1, 2048, 8848]⟩ : Shape).Idx → EReal) (q : (⟨1, ![3072]⟩ : Shape).Idx → EReal)
    (b : Fin 4) (s : Fin 4096) (n : Fin 3072) : EReal := proj x w b s (col n) * q (ix1 n)

end Cert.Query

namespace Cert.Kernel5Ideal.Query

open Cert.Kernel5Ideal.Gen Cert.Small Cert.Query
open Cert.Kernel2Ideal.Small (flat rowsOf rowsOf_flat wide slice_apply)
open Cert.Kernel3Ideal.Merge (rows_apply)
open Idealize.ShloMosaic hiding ix0 ix1 ix2 ix3 ix4 ix5
open Idealize.ShloMosaic.TcCoe Idealize.ShloMosaic.ValueIdx
open Idealize.SL.Sem

/-! ## What the body leaves, from its blocks -/

theorem ld_x (x : Vec Ideal S512x2048 .bf16) : View.ld x r0_0 = x := View.ld_unit_lit _ _ (by decide)
theorem ld_w (x : Vec Ideal S2048x512 .bf16) : View.ld x r0_1 = x := View.ld_unit_lit _ _ (by decide)
theorem ld_s (x : Vec Ideal S1x512 .f32) : View.ld x r0_2 = x := View.ld_unit_lit _ _ (by decide)

theorem out_apply (x0 : Vec Ideal S512x2048 .bf16) (x1 : Vec Ideal S2048x512 .bf16) (x2 : Vec Ideal S1x512 .f32) (a j : Fin 512) :
    out0_3 x0 x1 x2 (ix2 a j) = (∑ k : Fin 2048, x0 (ix2 a k) * x1 (ix2 k j)) * x2 (ix2 (0 : Fin 1) j) := by
  unfold out0_3
  simp only [ld_x, ld_w, ld_s]
  have e : (View.canon [⟨r0_3, k0_pay1 x0 x1 x2⟩] : Vec Ideal S512x512 .bf16) = k0_pay1 x0 x1 x2 := View.canon_cons_unit_lit _ _ _ (by decide)
  rw [e]
  unfold k0_pay1
  simp only [shapeCast_self]
  exact congrArg₂ (· * ·) (Cert.Kernel3Ideal.Merge.dot_h x0 x1 a j) (broadcastTo_1b_ab_apply x2 broadcasts_S1x512_S512x512 a j)

/-! ## What the call is handed -/

/-- The heads' columns without their rotated parts. -/
def nope (w : FVec Ideal S1x2048x8848 .f32) : FVec Ideal S2048x1024 .f32 :=
  shapeCast S2048x1024 (extractStridedSlice S2048x8x128 ![0, 0, 0]
    (shapeCast S2048x8x192 (extractStridedSlice S2048x1536 ![0, 0] (wide w) slices_S2048x8848_S2048x1536_0_0) shapeCasts_S2048x1536_S2048x8x192)
    slices_S2048x8x192_S2048x8x128_0_0_0) shapeCasts_S2048x8x128_S2048x1024

theorem nope_apply (w : FVec Ideal S1x2048x8848 .f32) (k : Fin 2048) (l : Fin 1024) :
    nope w (ix2 k l) = w (ix3 (0 : Fin 1) k ⟨l.val / 128 * 192 + l.val % 128, by omega⟩) := by
  unfold nope
  refine (shapeCast_apply _ _ _ (ix3 k (⟨l.val / 128, by omega⟩ : Fin 8) (⟨l.val % 128, by omega⟩ : Fin 128)) ?_).trans ?_
  · rw [Shape.rowMajor_val_three, Shape.rowMajor_val_two]
    show (k.val * 8 + l.val / 128) * 128 + l.val % 128 = k.val * 1024 + l.val
    omega
  refine (extractStridedSlice_apply _ _ _ _ (ix3 k (⟨l.val / 128, by omega⟩ : Fin 8) (⟨l.val % 128, by omega⟩ : Fin 192)) (fun a => ?_)).trans ?_
  · match a with
    | ⟨0, _⟩ => show k.val = 0 + k.val; omega
    | ⟨1, _⟩ => show l.val / 128 = 0 + l.val / 128; omega
    | ⟨2, _⟩ => show l.val % 128 = 0 + l.val % 128; omega
  refine (shapeCast_apply _ _ _ (ix2 k (⟨l.val / 128 * 192 + l.val % 128, by omega⟩ : Fin 1536)) ?_).trans ?_
  · rw [Shape.rowMajor_val_three, Shape.rowMajor_val_two]
    show k.val * 1536 + (l.val / 128 * 192 + l.val % 128) = (k.val * 8 + l.val / 128) * 192 + l.val % 128
    omega
  refine (slice_apply 0 w _ k (⟨l.val / 128 * 192 + l.val % 128, by omega⟩ : Fin 1536) (by show 0 + (l.val / 128 * 192 + l.val % 128) < 8848; omega)).trans ?_
  exact congrArg (fun n => w (ix3 (0 : Fin 1) k n)) (Fin.ext (by show 0 + (l.val / 128 * 192 + l.val % 128) = l.val / 128 * 192 + l.val % 128; omega))

/-- The queries' weight. -/
def weight (w : FVec Ideal S1x2048x8848 .f32) : FVec Ideal S2048x3072 .f32 :=
  concatenate S2048x3072 1 [⟨S2048x1024, nope w⟩,
    ⟨S2048x1024, extractStridedSlice S2048x1024 ![0, 2112] (wide w) slices_S2048x8848_S2048x1024_0_2112⟩,
    ⟨S2048x1024, extractStridedSlice S2048x1024 ![0, 3648] (wide w) slices_S2048x8848_S2048x1024_0_3648⟩]
    concatenates_S2048x1024_S2048x1024_S2048x1024_S2048x3072_d1

theorem weight_apply (w : FVec Ideal S1x2048x8848 .f32) (k : Fin 2048) (n : Fin 3072) : weight w (ix2 k n) = w (ix3 (0 : Fin 1) k (col n)) :=
  beside _ _ _ _ k (fun c => w (ix3 (0 : Fin 1) k c)) (fun l => nope_apply w k l) (fun l => slice_apply 2112 w _ k l (by omega))
    (fun l => slice_apply 3648 w _ k l (by omega)) n

variable (m : (ℓ : Loc nD τ sig) → Buf (Elt Ideal) ℓ)

abbrev acts (c : Dev nD) : FVec Ideal S4x4096x2048 .f32 := m ((c : Thread nD τ).loc main_arg0)
abbrev wIn (c : Dev nD) : FVec Ideal S1x2048x8848 .f32 := m ((c : Thread nD τ).loc main_arg1)
abbrev scl (c : Dev nD) : FVec Ideal S3072 .f32 := m ((c : Thread nD τ).loc main_arg2)

theorem V_x (c : Dev nD) : (V m c main_v10 : FVec Ideal S16384x2048 .bf16) = shapeCast S16384x2048 (acts m c) shapeCasts_S4x4096x2048_S16384x2048 := by
  show StableHlo.after hostOps0 (fun b => m (c, b)) (Proc.devRef .tc main_v10) = _
  after_reads_simp
  rfl
theorem V_w (c : Dev nD) : (V m c main_v8 : FVec Ideal S2048x3072 .bf16) = weight (wIn m c) := by
  show StableHlo.after hostOps0 (fun b => m (c, b)) (Proc.devRef .tc main_v8) = _
  after_reads_simp
  rfl
theorem V_s (c : Dev nD) : (V m c main_v11 : FVec Ideal S1x3072 .f32) = shapeCast S1x3072 (scl m c) shapeCasts_S3072_S1x3072 := by
  show StableHlo.after hostOps0 (fun b => m (c, b)) (Proc.devRef .tc main_v11) = _
  after_reads_simp
  rfl

theorem s_apply (c : Dev nD) (n : Fin 3072) : (V m c main_v11 : FVec Ideal S1x3072 .f32) (ix2 (0 : Fin 1) n) = scl m c (ix1 n) := by
  rw [V_s]
  refine shapeCast_apply (scl m c) _ _ _ ?_
  rw [Shape.rowMajor_val_one, Shape.rowMajor_val_two]
  show n.val = 0 * 3072 + n.val
  omega

/-! ## The blocks of a tile -/

theorem at_rows : ∀ t : Fin cfg0.N, cc0_transform_0 (grid0.coords t) = ![t.val % 32, 0] := by decide +kernel
theorem at_cols : ∀ t : Fin cfg0.N, cc0_transform_1 (grid0.coords t) = ![0, t.val / 32] := by decide +kernel
theorem at_scl : ∀ t : Fin cfg0.N, cc0_transform_2 (grid0.coords t) = ![0, t.val / 32] := by decide +kernel
theorem at_out : ∀ t : Fin cfg0.N, cc0_transform_3 (grid0.coords t) = ![t.val % 32, t.val / 32] := by decide +kernel

/-- Row `a` and column `j` of tile `t`. -/
def seqOf (t : Fin cfg0.N) : Fin 4 := ⟨t.val % 32 / 8, by omega⟩
def posOf (t : Fin cfg0.N) (a : Fin 512) : Fin 4096 := ⟨512 * (t.val % 32 % 8) + a.val, by omega⟩
def colOf (t : Fin cfg0.N) (j : Fin 512) : Fin 3072 := ⟨512 * (t.val / 32) + j.val, by have h : t.val < 192 := t.isLt; omega⟩

theorem flat_of (t : Fin cfg0.N) (a : Fin 512) : (flat (seqOf t) (posOf t a)).val = t.val % 32 * 512 + 1 * a.val := by
  show 4096 * (t.val % 32 / 8) + (512 * (t.val % 32 % 8) + a.val) = t.val % 32 * 512 + 1 * a.val
  omega

attribute [local irreducible] StableHlo.after

theorem blk_x (c : Dev nD) (t : Fin cfg0.N) (a : Fin 512) (k : Fin 2048) :
    (iblk m c 0 t : Vec Ideal S512x2048 .bf16) (ix2 a k) = acts m c (ix3 (seqOf t) (posOf t a) k) := by
  rw [← rows_apply (acts m c) shapeCasts_S4x4096x2048_S16384x2048, ← V_x]
  show V m c main_v10 (((cfg0.win 0).blk t).view.emb (ix2 a k)) = _
  refine congrArg (V m c main_v10) (funext fun b => Fin.ext ?_)
  have e := at_rows t
  match b with
  | ⟨0, _⟩ => exact (congrArg (fun f : Fin 2 → ℕ => f 0 * 512 + 1 * a.val) e).trans (flat_of t a).symm
  | ⟨1, _⟩ => exact (congrArg (fun f : Fin 2 → ℕ => f 1 * 2048 + 1 * k.val) e).trans (by show 0 * 2048 + 1 * k.val = k.val; omega)

theorem blk_w (c : Dev nD) (t : Fin cfg0.N) (k : Fin 2048) (j : Fin 512) :
    (iblk m c 1 t : Vec Ideal S2048x512 .bf16) (ix2 k j) = wIn m c (ix3 (0 : Fin 1) k (col (colOf t j))) := by
  rw [← weight_apply (wIn m c) k (colOf t j), ← V_w]
  show V m c main_v8 (((cfg0.win 1).blk t).view.emb (ix2 k j)) = _
  refine congrArg (V m c main_v8) (funext fun b => Fin.ext ?_)
  have e := at_cols t
  match b with
  | ⟨0, _⟩ => exact (congrArg (fun f : Fin 2 → ℕ => f 0 * 2048 + 1 * k.val) e).trans (by show 0 * 2048 + 1 * k.val = k.val; omega)
  | ⟨1, _⟩ => exact (congrArg (fun f : Fin 2 → ℕ => f 1 * 512 + 1 * j.val) e).trans (by show t.val / 32 * 512 + 1 * j.val = 512 * (t.val / 32) + j.val; omega)

theorem blk_s (c : Dev nD) (t : Fin cfg0.N) (j : Fin 512) :
    (iblk m c 2 t : Vec Ideal S1x512 .f32) (ix2 (0 : Fin 1) j) = scl m c (ix1 (colOf t j)) := by
  rw [← s_apply]
  show V m c main_v11 (((cfg0.win 2).blk t).view.emb (ix2 (0 : Fin 1) j)) = _
  refine congrArg (V m c main_v11) (funext fun b => Fin.ext ?_)
  have e := at_scl t
  match b with
  | ⟨0, _⟩ => exact (congrArg (fun f : Fin 2 → ℕ => f 0 * 1 + 1 * 0) e).trans rfl
  | ⟨1, _⟩ => exact (congrArg (fun f : Fin 2 → ℕ => f 1 * 512 + 1 * j.val) e).trans (by show t.val / 32 * 512 + 1 * j.val = 512 * (t.val / 32) + j.val; omega)

/-- The array the call leaves. -/
abbrev result (c : Dev nD) : (⟨2, ![16384, 3072]⟩ : Shape).Idx → EReal := rowsOf (query (acts m c) (wIn m c) (scl m c))

theorem tile (c : Dev nD) (t : Fin cfg0.N) (a j : Fin 512) :
    ((dats m 0 c).after 3 t : Vec Ideal S512x512 .bf16) (ix2 a j) = query (acts m c) (wIn m c) (scl m c) (seqOf t) (posOf t a) (colOf t j) := by
  rw [after0_3, out_apply]
  unfold query proj
  simp only [blk_x, blk_w, blk_s]

theorem out_emb (t : Fin cfg0.N) (a j : Fin 512) (i : (⟨2, ![16384, 3072]⟩ : Shape).Idx)
    (h0 : (i 0).val = cc0_transform_3 (grid0.coords t) 0 * 512 + 1 * a.val) (h1 : (i 1).val = cc0_transform_3 (grid0.coords t) 1 * 512 + 1 * j.val) :
    i = ix2 (flat (seqOf t) (posOf t a)) (colOf t j) := by
  rw [at_out] at h0 h1
  funext b; apply Fin.ext
  match b with
  | ⟨0, _⟩ => exact h0.trans (flat_of t a).symm
  | ⟨1, _⟩ => exact h1.trans (by show t.val / 32 * 512 + 1 * j.val = 512 * (t.val / 32) + j.val; omega)

theorem out (c : Dev nD) : (dats m 0 c).arrAt 3 cfg0.N = (result m c : Vec Ideal S16384x3072 .bf16) := by
  refine (dats m 0 c).arrAt_eq_of_covers 3 (result m c : Vec Ideal S16384x3072 .bf16) (by decide +kernel) fun t _ y => ?_
  obtain ⟨a, j, rfl⟩ : ∃ (a : Fin 512) (j : Fin 512), y = (ix2 a j : S512x512.Idx) := ⟨y 0, y 1, ValueIdx.eq_ix2 y⟩
  refine (tile m c t a j).trans ?_
  refine (rowsOf_flat _ _ _ (colOf t j)).symm.trans (congrArg (result m c) ?_)
  exact (out_emb t a j _ rfl rfl).symm

end Cert.Kernel5Ideal.Query

/-! ## The plain program -/

namespace Cert.Reference5Ideal.Query

open Cert.Reference5Ideal.Gen Cert.Reference5Ideal.Read Cert.Small Cert.Query
open Cert.Kernel2Ideal.Small (rowsOf)
open Idealize.ShloMosaic hiding ix0 ix1 ix2 ix3 ix4 ix5
open Idealize.ShloMosaic.TcCoe Idealize.ShloMosaic.ValueIdx
open Idealize.SL.Sem

variable (x : (⟨S4x4096x2048, .f32⟩ : BufTy).Contents (Elt Ideal)) (w : (⟨S1x2048x8848, .f32⟩ : BufTy).Contents (Elt Ideal))
  (q : (⟨S3072, .f32⟩ : BufTy).Contents (Elt Ideal))

theorem full_apply (b : Fin 4) (s : Fin 4096) (n : Fin 8848) : val_main_v1 (F := Ideal) x w (ix3 b s n) = proj x w b s n :=
  Cert.Reference2Ideal.Small.full_apply x w b s n

variable (b : Fin 4) (s : Fin 4096) (r : Fin 16384) (hr : r.val = 4096 * b.val + s.val)
include hr

theorem heads_apply (l : Fin 1024) :
    val_main_v15 (F := Ideal) x w (ix2 r l) = proj x w b s ⟨l.val / 128 * 192 + l.val % 128, by omega⟩ := by
  unfold val_main_v15
  refine (shapeCast_apply (val_main_v14 (F := Ideal) x w) _ _ (ix4 b s (⟨l.val / 128, by omega⟩ : Fin 8) (⟨l.val % 128, by omega⟩ : Fin 128)) ?_).trans ?_
  · rw [Shape.rowMajor_val_four, Shape.rowMajor_val_two]
    show ((b.val * 4096 + s.val) * 8 + l.val / 128) * 128 + l.val % 128 = r.val * 1024 + l.val
    omega
  unfold val_main_v14
  refine (extractStridedSlice_apply _ _ _ _ (ix4 b s (⟨l.val / 128, by omega⟩ : Fin 8) (⟨l.val % 128, by omega⟩ : Fin 192)) (fun a => ?_)).trans ?_
  · match a with
    | ⟨0, _⟩ => show b.val = 0 + b.val; omega
    | ⟨1, _⟩ => show s.val = 0 + s.val; omega
    | ⟨2, _⟩ => show l.val / 128 = 0 + l.val / 128; omega
    | ⟨3, _⟩ => show l.val % 128 = 0 + l.val % 128; omega
  unfold val_main_v13
  refine (shapeCast_apply (val_main_v2 (F := Ideal) x w) _ _ (ix3 b s (⟨l.val / 128 * 192 + l.val % 128, by omega⟩ : Fin 1536)) ?_).trans ?_
  · rw [Shape.rowMajor_val_three, Shape.rowMajor_val_four]
    show (b.val * 4096 + s.val) * 1536 + (l.val / 128 * 192 + l.val % 128) = ((b.val * 4096 + s.val) * 8 + l.val / 128) * 192 + l.val % 128
    omega
  refine (slice_proj x w (val_main_v1 (F := Ideal) x w) (full_apply x w) 0 (by omega) slices_S4x4096x8848_S4x4096x1536_0_0_0 b s (⟨l.val / 128 * 192 + l.val % 128, by omega⟩ : Fin 1536)).trans ?_
  exact congrArg (proj x w b s) (Fin.ext (by show 0 + (l.val / 128 * 192 + l.val % 128) = l.val / 128 * 192 + l.val % 128; omega))

theorem all_apply (n : Fin 3072) : val_main_v18 (F := Ideal) x w (ix2 r n) = proj x w b s (col n) :=
  beside (val_main_v15 (F := Ideal) x w) (val_main_v16 (F := Ideal) x w) (val_main_v17 (F := Ideal) x w)
    concatenates_S16384x1024_S16384x1024_S16384x1024_S16384x3072_d1 r (proj x w b s) (heads_apply x w b s r hr)
    (fun l => (flat_at (val_main_v5 (F := Ideal) x w) shapeCasts_S4x4096x1024_S16384x1024 b s l r hr).trans
      (slice_proj x w _ (full_apply x w) 2112 (by omega) slices_S4x4096x8848_S4x4096x1024_0_0_2112 b s l))
    (fun l => (flat_at (val_main_v8 (F := Ideal) x w) shapeCasts_S4x4096x1024_S16384x1024 b s l r hr).trans
      (slice_proj x w _ (full_apply x w) 3648 (by omega) slices_S4x4096x8848_S4x4096x1024_0_0_3648 b s l)) n

theorem scaled_apply (n : Fin 3072) : val_main_v22 (F := Ideal) x w q (ix2 r n) = query x w q b s n := by
  have e : val_main_v20 (F := Ideal) q (ix2 r n) = q (ix1 n) := by
    rw [val_main_v20_apply, val_main_v19_apply]
    exact congrArg q (funext fun a => Fin.ext (match a with | ⟨0, _⟩ => rfl))
  show val_main_v21 (F := Ideal) x w q (ix2 r n) = _
  rw [val_main_v21_apply, all_apply x w b s r hr n, e]
  rfl

omit hr in
theorem same : val_main_v22 (F := Ideal) x w q = rowsOf (query x w q) :=
  rowsOf_ext _ _ fun b s r hr j => scaled_apply x w q b s r hr j

end Cert.Reference5Ideal.Query

namespace Cert.Query

open Idealize.ShloMosaic hiding ix0 ix1 ix2 ix3 ix4 ix5
open Idealize.ShloMosaic.TcCoe Idealize.ShloMosaic.ValueIdx Idealize.SL.Sem

theorem equal : Cert.algebraic_Kernel5Ideal_Reference5Ideal := fun m ρ m' ρ' _ ha => by
  refine ⟨fun c => Cert.Kernel5Ideal.Query.result m c, ?_, ?_⟩
  · refine (θ_run Cert.Kernel5Ideal.defs _ _).mono (fun _ h c => ?_) (Cert.Kernel5Ideal.Value.run_blocks m ρ)
    exact ⟨(h c).1.trans (Cert.Kernel5Ideal.Query.out m c), (h c).2⟩
  · refine (θ_run Cert.Reference5Ideal.defs _ _).mono (fun r h c => ⟨(h c).1.trans ?_, (h c).2⟩) (Cert.Reference5Ideal.Value.run m' ρ')
    obtain rfl : c = 0 := Subsingleton.elim _ _
    obtain ⟨a0, a1, a2⟩ := ha 0
    rw [a0, a1, a2]
    exact (Cert.Reference5Ideal.Read.val_main_v22_eq _ _ _).trans (Cert.Reference5Ideal.Query.same _ _ _)

end Cert.Query

end
-- ==== Proof.SampleRef.lean ====
/- The five arrays of the plain program on the sample batch, entry by entry. -/
module

public import proofs.«01_k».proof.Proof.Gen.Reference4Ideal.Read
public import proofs.«01_k».proof.Proof.SmallSpec
public import Idealize.ShloMosaic.PureOps.Ideal.Laws

@[expose] public section

set_option maxRecDepth 16384

noncomputable section

namespace Cert.Reference4Ideal.Sample

open Cert.Reference4Ideal.Gen Cert.Reference4Ideal.Read Cert.Small
open Idealize.ShloMosaic Idealize.ShloMosaic.TcCoe Idealize.ShloMosaic.ValueIdx
open Idealize.SL.Sem

variable (x : (⟨S128x8x2048, .f32⟩ : BufTy).Contents (Elt Ideal)) (w : (⟨S1x2048x8848, .f32⟩ : BufTy).Contents (Elt Ideal))
  (gkv : (⟨S1x512, .f32⟩ : BufTy).Contents (Elt Ideal)) (gki : (⟨S1x64, .f32⟩ : BufTy).Contents (Elt Ideal))

theorem full_apply (b : Fin 128) (s : Fin 8) (n : Fin 8848) : val_main_v4 (F := Ideal) x w (ix3 b s n) = proj x w b s n := by
  rw [val_main_v4_apply]
  refine Finset.sum_congr rfl fun k _ => congrArg₂ (· * ·) (congrArg x (eq_ix3 _)) ?_
  have e : val_main_v3 (F := Ideal) w (ix2 k n) = w (ix3 (0 : Fin 1) k n) := by
    unfold val_main_v3
    refine shapeCast_apply w shapeCasts_S1x2048x8848_S2048x8848 _ _ ?_
    rw [Shape.rowMajor_val_three, Shape.rowMajor_val_two]
    show (0 * 2048 + k.val) * 8848 + n.val = k.val * 8848 + n.val
    omega
  exact (congrArg (val_main_v3 (F := Ideal) w) (eq_ix2 _)).trans e

variable (b : Fin 128) (s : Fin 8)

/-- The columns from `o` on of a position's product. -/
abbrev cols {n : ℕ} (o : ℕ) (ho : o + n ≤ 8848) (j : Fin n) : EReal := proj x w b s ⟨o + j.val, by omega⟩

theorem ckv_apply (j : Fin 512) :
    val_main_v29 (F := Ideal) x w gkv (ix3 b s j) = normed 0x44000000#32 (cols x w b s 1536 (by omega)) (gkv (ix2 (0 : Fin 1) j)) j := by
  have e : ∀ l : Fin 512, val_main_v6 (F := Ideal) x w (ix3 b s l) = cols x w b s 1536 (by omega) l := fun l =>
    slice_proj x w _ (full_apply x w) 1536 (by omega) slices_S128x8x8848_S128x8x512_0_0_1536 b s l
  have q : val_main_v18 (F := Ideal) x w (ix2 b s) = ∑ l : Fin 512, cols x w b s 1536 (by omega) l * cols x w b s 1536 (by omega) l := by
    rw [val_main_v18_apply]
    have z : val_main_cst (F := Ideal) (Shape.Idx.first h_S_) = (0 : EReal) := Ideal.ofBits_zero_f32
    rw [z, zero_add]
    refine Finset.sum_congr rfl fun l _ => ?_
    have i : idx_main_v18 (ix2 b s) l = (ix3 b s l : S128x8x512.Idx) := eq_ix3 _
    rw [i]
    exact congrArg₂ (· * ·) (e l) (e l)
  have g : val_main_v28 (F := Ideal) gkv (ix3 b s j) = gkv (ix2 (0 : Fin 1) j) := by
    rw [val_main_v28_apply, val_main_v27_apply, val_main_v16_apply]
    exact congrArg gkv (funext fun a => Fin.ext (match a with | ⟨0, _⟩ => rfl | ⟨1, _⟩ => Nat.mod_eq_of_lt j.isLt))
  rw [val_main_v29_apply, val_main_v26_apply, val_main_v25_apply, val_main_v24_apply, val_main_v23_apply, val_main_v21_apply,
    val_main_v19_apply, val_main_v20_apply, val_main_v22_apply, g, e]
  have i : idx_main_v19 (idx_main_v25 (ix3 b s j)) = (ix2 b s : S128x8.Idx) := eq_ix2 _
  rw [i, q]
  rfl

theorem ki_apply (j : Fin 64) :
    val_main_v74 (F := Ideal) x w gki (ix3 b s j) = normed 0x42800000#32 (cols x w b s 4672 (by omega)) (gki (ix2 (0 : Fin 1) j)) j := by
  have e : ∀ l : Fin 64, val_main_v12 (F := Ideal) x w (ix3 b s l) = cols x w b s 4672 (by omega) l := fun l =>
    slice_proj x w _ (full_apply x w) 4672 (by omega) slices_S128x8x8848_S128x8x64_0_0_4672 b s l
  have q : val_main_v63 (F := Ideal) x w (ix2 b s) = ∑ l : Fin 64, cols x w b s 4672 (by omega) l * cols x w b s 4672 (by omega) l := by
    rw [val_main_v63_apply]
    have z : val_main_cst_4 (F := Ideal) (Shape.Idx.first h_S_) = (0 : EReal) := Ideal.ofBits_zero_f32
    rw [z, zero_add]
    refine Finset.sum_congr rfl fun l _ => ?_
    have i : idx_main_v63 (ix2 b s) l = (ix3 b s l : S128x8x64.Idx) := eq_ix3 _
    rw [i]
    exact congrArg₂ (· * ·) (e l) (e l)
  have g : val_main_v73 (F := Ideal) gki (ix3 b s j) = gki (ix2 (0 : Fin 1) j) := by
    rw [val_main_v73_apply, val_main_v72_apply, val_main_v61_apply]
    exact congrArg gki (funext fun a => Fin.ext (match a with | ⟨0, _⟩ => rfl | ⟨1, _⟩ => Nat.mod_eq_of_lt j.isLt))
  rw [val_main_v74_apply, val_main_v71_apply, val_main_v70_apply, val_main_v69_apply, val_main_v68_apply, val_main_v66_apply,
    val_main_v64_apply, val_main_v65_apply, val_main_v67_apply, g, e]
  have i : idx_main_v64 (idx_main_v70 (ix3 b s j)) = (ix2 b s : S128x8.Idx) := eq_ix2 _
  rw [i, q]
  rfl

/-- The columns that are rotated. -/
abbrev pr (j : Fin 64) : EReal := cols x w b s 2048 (by omega) j

theorem pr_apply (j : Fin 64) : val_main_v7 (F := Ideal) x w (ix3 b s j) = pr x w b s j :=
  slice_proj x w _ (full_apply x w) 2048 (by omega) slices_S128x8x8848_S128x8x64_0_0_2048 b s j

theorem low_apply (l : Fin 32) : val_main_v44 (F := Ideal) x w (ix3 b s l) = pr x w b s ⟨l.val, by omega⟩ := by
  rw [val_main_v44_apply, ← pr_apply]
  exact congrArg (val_main_v7 (F := Ideal) x w) (funext fun a => Fin.ext (match a with
    | ⟨0, _⟩ => by first | rfl | (show b.val + 0 = b.val; omega) | (show 0 + b.val = b.val; omega)
    | ⟨1, _⟩ => by first | rfl | (show s.val + 0 = s.val; omega) | (show 0 + s.val = s.val; omega)
    | ⟨2, _⟩ => by first | rfl | (show l.val + 0 = l.val; omega) | (show 0 + l.val = l.val; omega)))

theorem high_apply (l : Fin 32) : val_main_v45 (F := Ideal) x w (ix3 b s l) = pr x w b s ⟨32 + l.val, by omega⟩ := by
  rw [val_main_v45_apply, ← pr_apply]
  exact congrArg (val_main_v7 (F := Ideal) x w) (funext fun a => Fin.ext (match a with
    | ⟨0, _⟩ => by first | rfl | (show b.val + 0 = b.val; omega) | (show 0 + b.val = b.val; omega)
    | ⟨1, _⟩ => by first | rfl | (show s.val + 0 = s.val; omega) | (show 0 + s.val = s.val; omega)
    | ⟨2, _⟩ => by first | rfl | (show l.val + 32 = 32 + l.val; omega)))

theorem kr_apply (j : Fin 64) :
    val_main_v60 (F := Ideal) x w (ix3 b s j)
      = turned (fun l => val_main_v42 (F := Ideal) (ix2 s l)) (fun l => val_main_v43 (F := Ideal) (ix2 s l)) (pr x w b s) j := by
  have c1 : ∀ l : Fin 32, val_main_v47 (F := Ideal) (ix3 b s l) = val_main_v42 (F := Ideal) (ix2 s l) := fun l => by
    rw [val_main_v47_apply, val_main_v46_apply]; exact congrArg _ (eq_ix2 _)
  have s1 : ∀ l : Fin 32, val_main_v50 (F := Ideal) (ix3 b s l) = val_main_v43 (F := Ideal) (ix2 s l) := fun l => by
    rw [val_main_v50_apply, val_main_v49_apply]; exact congrArg _ (eq_ix2 _)
  have s2 : ∀ l : Fin 32, val_main_v54 (F := Ideal) (ix3 b s l) = val_main_v43 (F := Ideal) (ix2 s l) := fun l => by
    rw [val_main_v54_apply, val_main_v53_apply]; exact congrArg _ (eq_ix2 _)
  have c2 : ∀ l : Fin 32, val_main_v57 (F := Ideal) (ix3 b s l) = val_main_v42 (F := Ideal) (ix2 s l) := fun l => by
    rw [val_main_v57_apply, val_main_v56_apply]; exact congrArg _ (eq_ix2 _)
  unfold val_main_v60
  refine turned_halves (val_main_v52 (F := Ideal) x w) (val_main_v59 (F := Ideal) x w) b s _ _ (pr x w b s)
    concatenates_S128x8x32_S128x8x32_S128x8x64_d2 (fun l => ?_) (fun l => ?_) j
  · rw [val_main_v52_apply, val_main_v48_apply, val_main_v51_apply, low_apply, high_apply, c1, s1]
    rfl
  · rw [val_main_v59_apply, val_main_v55_apply, val_main_v58_apply, low_apply, high_apply, c2, s2]
    rfl

/-! ## The results -/

variable (r : Fin 1024) (hr : r.val = 8 * b.val + s.val)
include hr

theorem res_ckv (j : Fin 512) : val_main_v75 (F := Ideal) x w gkv (ix2 r j)
    = normed 0x44000000#32 (cols x w b s 1536 (by omega)) (gkv (ix2 (0 : Fin 1) j)) j :=
  (flat_at (val_main_v29 (F := Ideal) x w gkv) shapeCasts_S128x8x512_S1024x512 b s j r hr).trans (ckv_apply x w gkv b s j)

theorem res_kr (j : Fin 64) : val_main_v76 (F := Ideal) x w (ix2 r j)
    = turned (fun l => val_main_v42 (F := Ideal) (ix2 s l)) (fun l => val_main_v43 (F := Ideal) (ix2 s l)) (pr x w b s) j :=
  (flat_at (val_main_v60 (F := Ideal) x w) shapeCasts_S128x8x64_S1024x64 b s j r hr).trans (kr_apply x w b s j)

theorem res_kb (j : Fin 256) : val_main_v77 (F := Ideal) x w (ix2 r j) = cols x w b s 3136 (by omega) j :=
  (flat_at (val_main_v9 (F := Ideal) x w) shapeCasts_S128x8x256_S1024x256 b s j r hr).trans
    (slice_proj x w _ (full_apply x w) 3136 (by omega) slices_S128x8x8848_S128x8x256_0_0_3136 b s j)

theorem res_vb (j : Fin 256) : val_main_v78 (F := Ideal) x w (ix2 r j) = cols x w b s 3392 (by omega) j :=
  (flat_at (val_main_v10 (F := Ideal) x w) shapeCasts_S128x8x256_S1024x256 b s j r hr).trans
    (slice_proj x w _ (full_apply x w) 3392 (by omega) slices_S128x8x8848_S128x8x256_0_0_3392 b s j)

theorem res_ki (j : Fin 64) : val_main_v79 (F := Ideal) x w gki (ix2 r j)
    = normed 0x42800000#32 (cols x w b s 4672 (by omega)) (gki (ix2 (0 : Fin 1) j)) j :=
  (flat_at (val_main_v74 (F := Ideal) x w gki) shapeCasts_S128x8x64_S1024x64 b s j r hr).trans (ki_apply x w gki b s j)

end Cert.Reference4Ideal.Sample
-- ==== Proof.Sample.lean ====
/- The small projection's call on the sample batch: row `8 b + s` of its five arrays holds what the layer's text says of
   new token `s` of sequence `b`. The body is the prompt's, so its lemmas are used again. -/
module

public import proofs.«01_k».proof.Defs
public import proofs.«01_k».proof.Proof.Gen.Kernel4Ideal.Value
public import proofs.«01_k».proof.Proof.Gen.Reference4Ideal.Run
public import proofs.«01_k».proof.Proof.SmallValue
public import proofs.«01_k».proof.Proof.SampleRef

@[expose] public section

set_option maxRecDepth 16384

noncomputable section

namespace Cert.Kernel4Ideal.Sample

open Cert.Kernel4Ideal.Gen Cert.Small
open Cert.Kernel2Ideal.Small (packed swapped prod packed_ckv packed_kr packed_swap packed_kb packed_vb packed_ki swapped_left swapped_right)
open Cert.Reference4Ideal.Sample (cols)
open Idealize.ShloMosaic hiding ix0 ix1 ix2 ix3 ix4 ix5
open Idealize.ShloMosaic.TcCoe Idealize.ShloMosaic.ValueIdx
open Idealize.SL.Sem

/-! ## The body is the prompt's -/

section
variable (x0 : Vec Ideal S512x2048 .bf16) (x1 : Vec Ideal S2048x1280 .bf16) (x2 x3 : Vec Ideal S512x64 .f32)
  (x4 : Vec Ideal S1x512 .f32) (x5 : Vec Ideal S1x64 .f32)

theorem same6 : out0_6 x0 x1 x2 x3 x4 x5 = Cert.Kernel2Ideal.Gen.out0_6 x0 x1 x2 x3 x4 x5 := rfl
theorem same7 : out0_7 x0 x1 x2 x3 x4 x5 = Cert.Kernel2Ideal.Gen.out0_7 x0 x1 x2 x3 x4 x5 := rfl
theorem same8 : out0_8 x0 x1 x2 x3 x4 x5 = Cert.Kernel2Ideal.Gen.out0_8 x0 x1 x2 x3 x4 x5 := rfl
theorem same9 : out0_9 x0 x1 x2 x3 x4 x5 = Cert.Kernel2Ideal.Gen.out0_9 x0 x1 x2 x3 x4 x5 := rfl
theorem same10 : out0_10 x0 x1 x2 x3 x4 x5 = Cert.Kernel2Ideal.Gen.out0_10 x0 x1 x2 x3 x4 x5 := rfl
end

/-! ## The arrays the call is handed -/

/-- The rotation's cosine and sine at a new token and a frequency. -/
abbrev cosT : FVec Ideal S8x32 .f32 := Cert.Reference4Ideal.Read.val_main_v42 (F := Ideal)
abbrev sinT : FVec Ideal S8x32 .f32 := Cert.Reference4Ideal.Read.val_main_v43 (F := Ideal)

/-- A table of 64 columns from two of 32. -/
def pair (x y : FVec Ideal S8x32 .f32) : FVec Ideal S8x64 .f32 :=
  concatenate S8x64 1 [⟨S8x32, x⟩, ⟨S8x32, y⟩] concatenates_S8x32_S8x32_S8x64_d1

/-- A table of 8 rows over and over. -/
def tiled (x : FVec Ideal S8x64 .f32) : FVec Ideal S512x64 .f32 :=
  shapeCast S512x64 (broadcastInDim S64x8x1x64 ![0, 1, 2, 3] bcast_S1x8x1x64_S64x8x1x64_0_1_2_3 (shapeCast S1x8x1x64 x shapeCasts_S8x64_S1x8x1x64))
    shapeCasts_S64x8x1x64_S512x64

theorem tiled_apply (x : FVec Ideal S8x64 .f32) (a : Fin 512) (j : Fin 64) (s : Fin 8) (hs : s.val = a.val % 8) :
    tiled x (ix2 a j) = x (ix2 s j) := by
  unfold tiled
  refine (shapeCast_apply _ shapeCasts_S64x8x1x64_S512x64 _ (ix4 (⟨a.val / 8, by omega⟩ : Fin 64) s (0 : Fin 1) j) ?_).trans ?_
  · rw [Shape.rowMajor_val_four, Shape.rowMajor_val_two]
    show ((a.val / 8 * 8 + s.val) * 1 + 0) * 64 + j.val = a.val * 64 + j.val
    omega
  refine (broadcastInDim_apply _ _ _ _ (ix4 (0 : Fin 1) s (0 : Fin 1) j) (fun b => ?_)).trans ?_
  · match b with
    | ⟨0, _⟩ => rfl
    | ⟨1, _⟩ => rfl
    | ⟨2, _⟩ => rfl
    | ⟨3, _⟩ => rfl
  refine shapeCast_apply x shapeCasts_S8x64_S1x8x1x64 _ _ ?_
  rw [Shape.rowMajor_val_four, Shape.rowMajor_val_two]
  show s.val * 64 + j.val = ((0 * 8 + s.val) * 1 + 0) * 64 + j.val
  omega

variable (m : (ℓ : Loc nD τ sig) → Buf (Elt Ideal) ℓ)

abbrev acts (c : Dev nD) : FVec Ideal S128x8x2048 .f32 := m ((c : Thread nD τ).loc main_arg0)
abbrev wIn (c : Dev nD) : FVec Ideal S1x2048x8848 .f32 := m ((c : Thread nD τ).loc main_arg1)
abbrev gKv (c : Dev nD) : FVec Ideal S1x512 .f32 := m ((c : Thread nD τ).loc main_arg2)
abbrev gKi (c : Dev nD) : FVec Ideal S1x64 .f32 := m ((c : Thread nD τ).loc main_arg3)

theorem V_cos (c : Dev nD) : (V m c main_v22 : FVec Ideal S512x64 .f32) = tiled (pair cosT cosT) := by
  show StableHlo.after hostOps0 (fun b => m (c, b)) (Proc.devRef .tc main_v22) = _
  after_reads_simp
  rfl

theorem V_sin (c : Dev nD) : (V m c main_v25 : FVec Ideal S512x64 .f32) = tiled (pair (Host.negf sinT) sinT) := by
  show StableHlo.after hostOps0 (fun b => m (c, b)) (Proc.devRef .tc main_v25) = _
  after_reads_simp
  rfl

set_option maxHeartbeats 1600000 in
theorem V_packed (c : Dev nD) : (V m c main_v39 : FVec Ideal S2048x1280 .bf16) = packed (wIn m c) := by
  show StableHlo.after hostOps0 (fun b => m (c, b)) (Proc.devRef .tc main_v39) = _
  after_reads_simp
  rfl

theorem V_rows (c : Dev nD) : (V m c main_v41 : FVec Ideal S1024x2048 .bf16) = shapeCast S1024x2048 (acts m c) shapeCasts_S128x8x2048_S1024x2048 := by
  show StableHlo.after hostOps0 (fun b => m (c, b)) (Proc.devRef .tc main_v41) = _
  after_reads_simp
  rfl

theorem V_kv (c : Dev nD) : (V m c main_v44 : FVec Ideal S1x512 .f32) = gKv m c := by
  have e : (V m c main_v44 : FVec Ideal S1x512 .f32) = shapeCast S1x512 (shapeCast S512 (gKv m c) shapeCasts_S1x512_S512) shapeCasts_S512_S1x512 := by
    show StableHlo.after hostOps0 (fun b => m (c, b)) (Proc.devRef .tc main_v44) = _
    after_reads_simp
    rfl
  rw [e, shapeCast_shapeCast]

theorem V_ki (c : Dev nD) : (V m c main_v45 : FVec Ideal S1x64 .f32) = gKi m c := by
  have e : (V m c main_v45 : FVec Ideal S1x64 .f32) = shapeCast S1x64 (shapeCast S64 (gKi m c) shapeCasts_S1x64_S64) shapeCasts_S64_S1x64 := by
    show StableHlo.after hostOps0 (fun b => m (c, b)) (Proc.devRef .tc main_v45) = _
    after_reads_simp
    rfl
  rw [e, shapeCast_shapeCast]

/-! ## The blocks of a tile -/

theorem at_rows : ∀ t : Fin cfg0.N, cc0_transform_0 (grid0.coords t) = ![t.val, 0] := by decide +kernel

/-- The array's row that is row `a` of tile `t`, and the sequence and token of a row. -/
def row (t : Fin cfg0.N) (a : Fin 512) : Fin 1024 := ⟨t.val * 512 + 1 * a.val, by have h : t.val < 2 := t.isLt; omega⟩
theorem row_val (t : Fin cfg0.N) (a : Fin 512) : (row t a).val = t.val * 512 + 1 * a.val := rfl
def seqOf (r : Fin 1024) : Fin 128 := ⟨r.val / 8, by omega⟩
def tokOf (r : Fin 1024) : Fin 8 := ⟨r.val % 8, by omega⟩

attribute [local irreducible] StableHlo.after

theorem blk_rows (c : Dev nD) (t : Fin cfg0.N) (a : Fin 512) (k : Fin 2048) :
    (iblk m c 0 t : Vec Ideal S512x2048 .bf16) (ix2 a k) = acts m c (ix3 (seqOf (row t a)) (tokOf (row t a)) k) := by
  have e : (V m c main_v41 : FVec Ideal S1024x2048 .bf16) (ix2 (row t a) k) = acts m c (ix3 (seqOf (row t a)) (tokOf (row t a)) k) := by
    rw [V_rows]
    exact flat_at (acts m c) _ _ _ k _ (by show (row t a).val = 8 * ((row t a).val / 8) + (row t a).val % 8; omega)
  rw [← e]
  clear e
  show V m c main_v41 (((cfg0.win 0).blk t).view.emb (ix2 a k)) = _
  refine congrArg (V m c main_v41) (funext fun b => Fin.ext ?_)
  have e := at_rows t
  match b with
  | ⟨0, _⟩ => exact (congrArg (fun f : Fin 2 → ℕ => f 0 * 512 + 1 * a.val) e).trans (row_val t a).symm
  | ⟨1, _⟩ => exact (congrArg (fun f : Fin 2 → ℕ => f 1 * 2048 + 1 * k.val) e).trans (by show 0 * 2048 + 1 * k.val = k.val; omega)

theorem blk_weight (c : Dev nD) (t : Fin cfg0.N) (k : Fin 2048) (n : Fin 1280) :
    (iblk m c 1 t : Vec Ideal S2048x1280 .bf16) (ix2 k n) = packed (wIn m c) (ix2 k n) := by
  rw [← V_packed]
  show V m c main_v39 (((cfg0.win 1).blk t).view.emb (ix2 k n)) = _
  refine congrArg (V m c main_v39) (funext fun b => Fin.ext ?_)
  match b with
  | ⟨0, _⟩ => show 0 * 2048 + 1 * k.val = k.val; omega
  | ⟨1, _⟩ => show 0 * 1280 + 1 * n.val = n.val; omega

theorem tok_row (t : Fin cfg0.N) (a : Fin 512) : (tokOf (row t a)).val = a.val % 8 := by
  show (t.val * 512 + 1 * a.val) % 8 = a.val % 8
  omega

theorem blk_cos (c : Dev nD) (t : Fin cfg0.N) (a : Fin 512) (j : Fin 64) :
    (iblk m c 2 t : Vec Ideal S512x64 .f32) (ix2 a j) = pair cosT cosT (ix2 (tokOf (row t a)) j) := by
  rw [← tiled_apply (pair cosT cosT) a j _ (tok_row t a), ← V_cos m c]
  show V m c main_v22 (((cfg0.win 2).blk t).view.emb (ix2 a j)) = _
  refine congrArg (V m c main_v22) (funext fun b => Fin.ext ?_)
  match b with
  | ⟨0, _⟩ => show 0 * 512 + 1 * a.val = a.val; omega
  | ⟨1, _⟩ => show 0 * 64 + 1 * j.val = j.val; omega

theorem blk_sin (c : Dev nD) (t : Fin cfg0.N) (a : Fin 512) (j : Fin 64) :
    (iblk m c 3 t : Vec Ideal S512x64 .f32) (ix2 a j) = pair (Host.negf sinT) sinT (ix2 (tokOf (row t a)) j) := by
  rw [← tiled_apply (pair (Host.negf sinT) sinT) a j _ (tok_row t a), ← V_sin m c]
  show V m c main_v25 (((cfg0.win 3).blk t).view.emb (ix2 a j)) = _
  refine congrArg (V m c main_v25) (funext fun b => Fin.ext ?_)
  match b with
  | ⟨0, _⟩ => show 0 * 512 + 1 * a.val = a.val; omega
  | ⟨1, _⟩ => show 0 * 64 + 1 * j.val = j.val; omega

theorem blk_kv (c : Dev nD) (t : Fin cfg0.N) (j : Fin 512) :
    (iblk m c 4 t : Vec Ideal S1x512 .f32) (ix2 (0 : Fin 1) j) = gKv m c (ix2 (0 : Fin 1) j) := by
  rw [← V_kv]
  show V m c main_v44 (((cfg0.win 4).blk t).view.emb (ix2 (0 : Fin 1) j)) = _
  refine congrArg (V m c main_v44) (funext fun b => Fin.ext ?_)
  match b with
  | ⟨0, _⟩ => rfl
  | ⟨1, _⟩ => show 0 * 512 + 1 * j.val = j.val; omega

theorem blk_ki (c : Dev nD) (t : Fin cfg0.N) (j : Fin 64) :
    (iblk m c 5 t : Vec Ideal S1x64 .f32) (ix2 (0 : Fin 1) j) = gKi m c (ix2 (0 : Fin 1) j) := by
  rw [← V_ki]
  show V m c main_v45 (((cfg0.win 5).blk t).view.emb (ix2 (0 : Fin 1) j)) = _
  refine congrArg (V m c main_v45) (funext fun b => Fin.ext ?_)
  match b with
  | ⟨0, _⟩ => rfl
  | ⟨1, _⟩ => show 0 * 64 + 1 * j.val = j.val; omega

/-- A product with a column of the packed weight that is column `n` of the input weight. -/
theorem prod_eq (c : Dev nD) (t : Fin cfg0.N) (a : Fin 512) (n : Fin 1280) (n' : Fin 8848)
    (h : ∀ k, packed (wIn m c) (ix2 k n) = wIn m c (ix3 (0 : Fin 1) k n')) :
    prod (iblk m c 0 t) (iblk m c 1 t) a n = proj (acts m c) (wIn m c) (seqOf (row t a)) (tokOf (row t a)) n' :=
  Finset.sum_congr rfl fun k _ => congrArg₂ (· * ·) (blk_rows m c t a k) ((blk_weight m c t k n).trans (h k))

/-! ## The arrays -/

abbrev part (c : Dev nD) (r : Fin 1024) {n : ℕ} (o : ℕ) (ho : o + n ≤ 8848) (j : Fin n) : EReal :=
  cols (acts m c) (wIn m c) (seqOf r) (tokOf r) o ho j

def ckv (c : Dev nD) (r : Fin 1024) (j : Fin 512) : EReal :=
  normed 0x44000000#32 (part m c r 1536 (by omega)) (gKv m c (ix2 (0 : Fin 1) j)) j
def kr (c : Dev nD) (r : Fin 1024) (j : Fin 64) : EReal :=
  turned (fun l => cosT (ix2 (tokOf r) l)) (fun l => sinT (ix2 (tokOf r) l)) (part m c r 2048 (by omega)) j
def kb (c : Dev nD) (r : Fin 1024) (j : Fin 256) : EReal := part m c r 3136 (by omega) j
def vb (c : Dev nD) (r : Fin 1024) (j : Fin 256) : EReal := part m c r 3392 (by omega) j
def ki (c : Dev nD) (r : Fin 1024) (j : Fin 64) : EReal :=
  normed 0x42800000#32 (part m c r 4672 (by omega)) (gKi m c (ix2 (0 : Fin 1) j)) j

/-- An array from its rows. -/
def arr {n : ℕ} (f : Fin 1024 → Fin n → EReal) : (⟨2, ![1024, n]⟩ : Shape).Idx → EReal := fun i => f (i 0) (i 1)

theorem tile6 (c : Dev nD) (t : Fin cfg0.N) (a : Fin 512) (j : Fin 512) :
    ((dats m 0 c).after 6 t : Vec Ideal S512x512 .f32) (ix2 a j) = ckv m c (row t a) j := by
  rw [after0_6, same6]
  refine (Cert.Kernel2Ideal.Small.out6_apply _ _ _ _ _ _ a j).trans ?_
  rw [blk_kv]
  have e := fun l : Fin 512 => prod_eq m c t a ⟨l.val, by omega⟩ ⟨1536 + l.val, by omega⟩ (fun k => packed_ckv (wIn m c) k l)
  unfold ckv
  exact congrArg (fun p : Fin 512 → EReal => normed 0x44000000#32 p (gKv m c (ix2 (0 : Fin 1) j)) j) (funext e)

theorem tile7 (c : Dev nD) (t : Fin cfg0.N) (a : Fin 512) (j : Fin 64) :
    ((dats m 0 c).after 7 t : Vec Ideal S512x64 .f32) (ix2 a j) = kr m c (row t a) j := by
  rw [after0_7, same7]
  refine (Cert.Kernel2Ideal.Small.out7_apply _ _ _ _ _ _ a j).trans ?_
  rw [blk_cos, blk_sin, prod_eq m c t a ⟨512 + j.val, by omega⟩ ⟨2048 + j.val, by omega⟩ (fun k => packed_kr (wIn m c) k j)]
  unfold kr pair
  rcases halves j with ⟨l, rfl⟩ | ⟨l, rfl⟩
  · rw [prod_eq m c t a ⟨576 + l.val, by omega⟩ ⟨2080 + l.val, by omega⟩
      (fun k => (packed_swap (wIn m c) k ⟨l.val, by omega⟩).trans (swapped_left (wIn m c) k l)), beside_left, beside_left, turned_left]
    have e : Host.negf sinT (ix2 (tokOf (row t a)) l) = -(sinT (ix2 (tokOf (row t a)) l) : EReal) := rfl
    rw [e, mul_neg, ← sub_eq_add_neg]
    have e' : (⟨2080 + l.val, by omega⟩ : Fin 8848) = ⟨2048 + (32 + l.val), by omega⟩ := Fin.ext (by show 2080 + l.val = 2048 + (32 + l.val); omega)
    rw [e']
  · rw [prod_eq m c t a ⟨576 + (32 + l.val), by omega⟩ ⟨2048 + l.val, by omega⟩
      (fun k => (packed_swap (wIn m c) k ⟨32 + l.val, by omega⟩).trans (swapped_right (wIn m c) k l)), beside_right, beside_right, turned_right, add_comm]

theorem tile8 (c : Dev nD) (t : Fin cfg0.N) (a : Fin 512) (j : Fin 256) :
    ((dats m 0 c).after 8 t : Vec Ideal S512x256 .f32) (ix2 a j) = kb m c (row t a) j := by
  rw [after0_8, same8]
  exact (Cert.Kernel2Ideal.Small.out8_apply _ _ _ _ _ _ a j).trans
    (prod_eq m c t a ⟨640 + j.val, by omega⟩ ⟨3136 + j.val, by omega⟩ (fun k => packed_kb (wIn m c) k j))

theorem tile9 (c : Dev nD) (t : Fin cfg0.N) (a : Fin 512) (j : Fin 256) :
    ((dats m 0 c).after 9 t : Vec Ideal S512x256 .f32) (ix2 a j) = vb m c (row t a) j := by
  rw [after0_9, same9]
  exact (Cert.Kernel2Ideal.Small.out9_apply _ _ _ _ _ _ a j).trans
    (prod_eq m c t a ⟨896 + j.val, by omega⟩ ⟨3392 + j.val, by omega⟩ (fun k => packed_vb (wIn m c) k j))

theorem tile10 (c : Dev nD) (t : Fin cfg0.N) (a : Fin 512) (j : Fin 64) :
    ((dats m 0 c).after 10 t : Vec Ideal S512x64 .f32) (ix2 a j) = ki m c (row t a) j := by
  rw [after0_10, same10]
  refine (Cert.Kernel2Ideal.Small.out10_apply _ _ _ _ _ _ a j).trans ?_
  rw [blk_ki]
  have e := fun l : Fin 64 => prod_eq m c t a ⟨1152 + l.val, by omega⟩ ⟨4672 + l.val, by omega⟩ (fun k => packed_ki (wIn m c) k l)
  unfold ki
  exact congrArg (fun p : Fin 64 → EReal => normed 0x42800000#32 p (gKi m c (ix2 (0 : Fin 1) j)) j) (funext e)

/-- An array's entry at the place a tile's entry lies. -/
theorem emb_val {n : ℕ} (f : Fin 1024 → Fin n → EReal) (t : Fin cfg0.N) (a : Fin 512) (j : Fin n) (i : (⟨2, ![1024, n]⟩ : Shape).Idx)
    (h0 : (i 0).val = cc0_transform_0 (grid0.coords t) 0 * 512 + 1 * a.val) (h1 : (i 1).val = cc0_transform_0 (grid0.coords t) 1 * n + 1 * j.val) :
    f (row t a) j = arr f i := by
  rw [at_rows] at h0 h1
  have e : i = ix2 (row t a) j := by
    funext b; apply Fin.ext
    match b with
    | ⟨0, _⟩ => exact h0
    | ⟨1, _⟩ => exact h1.trans (by show 0 * n + 1 * j.val = j.val; omega)
  rw [e]
  rfl

theorem out6 (c : Dev nD) : (dats m 0 c).arrAt 6 cfg0.N = (arr (ckv m c) : Vec Ideal S1024x512 .f32) := by
  refine (dats m 0 c).arrAt_eq_of_covers 6 (arr (ckv m c) : Vec Ideal S1024x512 .f32) (by decide +kernel) fun t _ y => ?_
  obtain ⟨a, j, rfl⟩ : ∃ (a : Fin 512) (j : Fin 512), y = (ix2 a j : S512x512.Idx) := ⟨y 0, y 1, ValueIdx.eq_ix2 y⟩
  exact (tile6 m c t a j).trans (emb_val (ckv m c) t a j _ rfl rfl)

theorem out7 (c : Dev nD) : (dats m 0 c).arrAt 7 cfg0.N = (arr (kr m c) : Vec Ideal S1024x64 .f32) := by
  refine (dats m 0 c).arrAt_eq_of_covers 7 (arr (kr m c) : Vec Ideal S1024x64 .f32) (by decide +kernel) fun t _ y => ?_
  obtain ⟨a, j, rfl⟩ : ∃ (a : Fin 512) (j : Fin 64), y = (ix2 a j : S512x64.Idx) := ⟨y 0, y 1, ValueIdx.eq_ix2 y⟩
  exact (tile7 m c t a j).trans (emb_val (kr m c) t a j _ rfl rfl)

theorem out8 (c : Dev nD) : (dats m 0 c).arrAt 8 cfg0.N = (arr (kb m c) : Vec Ideal S1024x256 .f32) := by
  refine (dats m 0 c).arrAt_eq_of_covers 8 (arr (kb m c) : Vec Ideal S1024x256 .f32) (by decide +kernel) fun t _ y => ?_
  obtain ⟨a, j, rfl⟩ : ∃ (a : Fin 512) (j : Fin 256), y = (ix2 a j : S512x256.Idx) := ⟨y 0, y 1, ValueIdx.eq_ix2 y⟩
  exact (tile8 m c t a j).trans (emb_val (kb m c) t a j _ rfl rfl)

theorem out9 (c : Dev nD) : (dats m 0 c).arrAt 9 cfg0.N = (arr (vb m c) : Vec Ideal S1024x256 .f32) := by
  refine (dats m 0 c).arrAt_eq_of_covers 9 (arr (vb m c) : Vec Ideal S1024x256 .f32) (by decide +kernel) fun t _ y => ?_
  obtain ⟨a, j, rfl⟩ : ∃ (a : Fin 512) (j : Fin 256), y = (ix2 a j : S512x256.Idx) := ⟨y 0, y 1, ValueIdx.eq_ix2 y⟩
  exact (tile9 m c t a j).trans (emb_val (vb m c) t a j _ rfl rfl)

theorem out10 (c : Dev nD) : (dats m 0 c).arrAt 10 cfg0.N = (arr (ki m c) : Vec Ideal S1024x64 .f32) := by
  refine (dats m 0 c).arrAt_eq_of_covers 10 (arr (ki m c) : Vec Ideal S1024x64 .f32) (by decide +kernel) fun t _ y => ?_
  obtain ⟨a, j, rfl⟩ : ∃ (a : Fin 512) (j : Fin 64), y = (ix2 a j : S512x64.Idx) := ⟨y 0, y 1, ValueIdx.eq_ix2 y⟩
  exact (tile10 m c t a j).trans (emb_val (ki m c) t a j _ rfl rfl)

/-! ## The two programs -/

/-- An array of rows whose entries are those of `f` is `arr f`. -/
theorem arr_ext {n : ℕ} (f : Fin 1024 → Fin n → EReal) (y : (⟨2, ![1024, n]⟩ : Shape).Idx → EReal)
    (h : ∀ r : Fin 1024, r.val = 8 * (seqOf r).val + (tokOf r).val → ∀ j : Fin n, y (ix2 r j) = f r j) : y = arr f := by
  funext i
  obtain ⟨r, j, rfl⟩ : ∃ (r : Fin 1024) (j : Fin n), i = ix2 r j := ⟨i 0, i 1, ValueIdx.eq_ix2 i⟩
  exact h r (by show r.val = 8 * (r.val / 8) + r.val % 8; omega) j

section
open Cert.Reference4Ideal.Read Cert.Reference4Ideal.Sample
variable (c : Dev nD)

theorem same_ckv : val_main_v75 (F := Ideal) (acts m c) (wIn m c) (gKv m c) = arr (ckv m c) :=
  arr_ext _ _ fun r hr j => res_ckv _ _ _ _ _ r hr j
theorem same_kr : val_main_v76 (F := Ideal) (acts m c) (wIn m c) = arr (kr m c) :=
  arr_ext _ _ fun r hr j => res_kr _ _ _ _ r hr j
theorem same_kb : val_main_v77 (F := Ideal) (acts m c) (wIn m c) = arr (kb m c) :=
  arr_ext _ _ fun r hr j => res_kb _ _ _ _ r hr j
theorem same_vb : val_main_v78 (F := Ideal) (acts m c) (wIn m c) = arr (vb m c) :=
  arr_ext _ _ fun r hr j => res_vb _ _ _ _ r hr j
theorem same_ki : val_main_v79 (F := Ideal) (acts m c) (wIn m c) (gKi m c) = arr (ki m c) :=
  arr_ext _ _ fun r hr j => res_ki _ _ _ _ _ r hr j

end

theorem equal : Cert.algebraic_Kernel4Ideal_Reference4Ideal := fun m ρ m' ρ' _ ha => by
  refine ⟨fun c => arr (ckv m c), fun c => arr (kr m c), fun c => arr (kb m c), fun c => arr (vb m c), fun c => arr (ki m c), ?_, ?_⟩
  · refine (θ_run Cert.Kernel4Ideal.defs _ _).mono (fun _ h c => ?_) (Cert.Kernel4Ideal.Value.run_blocks m ρ)
    obtain ⟨h0, h1, h2, h3, h4, -, -, -, -, -, -, hk⟩ := h c
    exact ⟨h0.trans (out6 m c), h1.trans (out7 m c), h2.trans (out8 m c), h3.trans (out9 m c), h4.trans (out10 m c), hk⟩
  · refine (θ_run Cert.Reference4Ideal.defs _ _).mono (fun r h c => ?_) (Cert.Reference4Ideal.Value.run m' ρ')
    obtain rfl : c = 0 := Subsingleton.elim _ _
    obtain ⟨a0, a1, a2, a3⟩ := ha 0
    obtain ⟨h0, h1, h2, h3, h4, hk⟩ := h 0
    refine ⟨h0.trans ?_, h1.trans ?_, h2.trans ?_, h3.trans ?_, h4.trans ?_, hk⟩
    · rw [a0, a1, a2]; exact (Cert.Reference4Ideal.Read.val_main_v75_eq _ _ _).trans (same_ckv m 0)
    · rw [Cert.Reference4Ideal.Read.val_main_v76_eq, a0, a1]; exact same_kr m 0
    · rw [a0, a1]; exact (Cert.Reference4Ideal.Read.val_main_v77_eq _ _).trans (same_kb m 0)
    · rw [a0, a1]; exact (Cert.Reference4Ideal.Read.val_main_v78_eq _ _).trans (same_vb m 0)
    · rw [a0, a1, a3]; exact (Cert.Reference4Ideal.Read.val_main_v79_eq _ _ _).trans (same_ki m 0)

end Cert.Kernel4Ideal.Sample

end
-- ==== Proof.Step.lean ====
/- One trip of the reference's loop over the experts, entry by entry: the trip of expert `e` adds to entry `(r, j)` the
   gate of row `r` for `e` times the feed-forward of row `r` through expert `e`. -/
module

public import proofs.«01_k».proof.Proof.Ffn
public import proofs.«01_k».proof.Proof.Gen.ReferenceIdeal.Run
public import Idealize.ShloMosaic.Lib.IdealHost
public import Idealize.ShloMosaic.Lib.StableHlo.Predicate
public import Idealize.ShloMosaic.Lib.StackMember
public import Idealize.ShloMosaic.Lib.Pointwise.ShapeOpsCore

@[expose] public section

set_option maxRecDepth 16384

noncomputable section

namespace Cert.ReferenceIdeal.Moe

open Cert.ReferenceIdeal.Gen Cert.ReferenceIdeal.Value Cert.Ffn
open Idealize.ShloMosaic hiding ix0 ix1 ix2 ix3 ix4 ix5
open Idealize.ShloMosaic.TcCoe Idealize.ShloMosaic.ValueIdx
open Idealize.SL.Sem

/-- Slab `e` of a stack, cut out at a start that is `e`, without its unit axis. -/
theorem slab_apply {A B C : Nat} (x : (⟨3, ![A, B, C]⟩ : Shape).Idx → EReal) (start : Fin 3 → Int)
    (hs : (⟨3, ![A, B, C]⟩ : Shape).Slices (fun _ => 0) ⟨3, ![1, B, C]⟩) (hc : (⟨3, ![1, B, C]⟩ : Shape).ShapeCasts ⟨2, ![B, C]⟩)
    (e : Fin A) (h0 : start 0 = e.val) (h1 : start 1 = 0) (h2 : start 2 = 0) (b : Fin B) (c : Fin C) :
    shapeCast ⟨2, ![B, C]⟩ (Host.dynamicSlice ⟨3, ![1, B, C]⟩ x start hs) hc (ix2 b c) = x (ix3 e b c) := by
  rw [shapeCast_1ab_ab_apply]
  rw [Host.dynamicSlice_apply]
  refine congrArg x (funext fun a => Fin.ext ?_)
  have he := e.isLt
  match a with
  | ⟨0, _⟩ =>
    show (min (max (start 0) 0) ((A - 1 : Nat) : Int)).toNat + 0 = e.val
    rw [h0]; omega
  | ⟨1, _⟩ =>
    show (min (max (start 1) 0) ((B - B : Nat) : Int)).toNat + b.val = b.val
    rw [h1]; omega
  | ⟨2, _⟩ =>
    show (min (max (start 2) 0) ((C - C : Nat) : Int)).toNat + c.val = c.val
    rw [h2]; omega

/-- Row `e` of a matrix, cut out at a start that is `e`, without its unit axis. -/
theorem line_apply {A B : Nat} (x : (⟨2, ![A, B]⟩ : Shape).Idx → EReal) (start : Fin 2 → Int)
    (hs : (⟨2, ![A, B]⟩ : Shape).Slices (fun _ => 0) ⟨2, ![1, B]⟩) (hc : (⟨2, ![1, B]⟩ : Shape).ShapeCasts ⟨1, ![B]⟩)
    (e : Fin A) (h0 : start 0 = e.val) (h1 : start 1 = 0) (b : Fin B) :
    shapeCast ⟨1, ![B]⟩ (Host.dynamicSlice ⟨2, ![1, B]⟩ x start hs) hc (ix1 b) = x (ix2 e b) := by
  rw [shapeCast_1a_a_apply]
  rw [Host.dynamicSlice_apply]
  refine congrArg x (funext fun a => Fin.ext ?_)
  have he := e.isLt
  match a with
  | ⟨0, _⟩ =>
    show (min (max (start 0) 0) ((A - 1 : Nat) : Int)).toNat + 0 = e.val
    rw [h0]; omega
  | ⟨1, _⟩ =>
    show (min (max (start 1) 0) ((B - B : Nat) : Int)).toNat + b.val = b.val
    rw [h1]; omega

theorem start_eq {c : (⟨S_, .i32⟩ : BufTy).Contents (Elt Ideal)} (e : Fin 32) (hc : c = fun _ => BitVec.ofNat 32 e.val) :
    (c (Shape.Idx.first h_S_) : BitVec 32).toInt = (e.val : Int) := by
  subst hc
  show (BitVec.ofNat 32 e.val).toInt = _
  exact StableHlo.Predicate.toInt_ofNat_small _ (by omega)

theorem zero_eq (i : S_.Idx) : (constantI S_ 32 0#32 i : BitVec 32).toInt = 0 := rfl

variable (W : Valuation τ sig (Elt Ideal))

abbrev wA : Vec Ideal S32x2048x512 .f32 := W (Proc.devRef .tc main_v13_0)
abbrev wB : Vec Ideal S32x2048x512 .f32 := W (Proc.devRef .tc main_v13_1)
abbrev wC : Vec Ideal S32x512x2048 .f32 := W (Proc.devRef .tc main_v13_2)
abbrev gate : Vec Ideal S32x43008 .f32 := W (Proc.devRef .tc main_v13_3)
abbrev rows : Vec Ideal S43008x2048 .f32 := W (Proc.devRef .tc main_v13_4)
abbrev acc : Vec Ideal S43008x2048 .f32 := W (Proc.devRef .tc main_v13_6)

theorem one_apply (i : S43008x512.Idx) :
    broadcastInDim S43008x512 ![] bcast_S_S43008x512 (constant (F := Ideal) S_ .f32 0x3F800000#32) i = (1 : EReal) := by
  rw [broadcastInDim_scalar_apply]
  exact Ideal.ofBits_one_f32

theorem up_apply (x : FVec Ideal S43008x2048 .f32) (A : FVec Ideal S2048x512 .f32) (r : Fin 43008) (d : Fin 512) :
    Host.dotGeneral dot_S43008x2048_S2048x512_S43008x512_1_0_0_1_n_n none x A (ix2 r d) = ∑ k : Fin 2048, x (ix2 r k) * A (ix2 k d) :=
  StackMember.dotGeneral_plain_apply (m := 43008) (k := 2048) (n := 512) none x A r d
theorem down_apply (x : FVec Ideal S43008x512 .f32) (A : FVec Ideal S512x2048 .f32) (r : Fin 43008) (j : Fin 2048) :
    Host.dotGeneral dot_S43008x512_S512x2048_S43008x2048_1_0_0_1_n_n none x A (ix2 r j) = ∑ d : Fin 512, x (ix2 r d) * A (ix2 d j) :=
  StackMember.dotGeneral_plain_apply (m := 43008) (k := 512) (n := 2048) none x A r j

/-- What the trip multiplies: row `r`'s feed-forward through expert `e`. -/
theorem step_apply (e : Fin 32) (hc : W (Proc.devRef .tc main_v13_5) = fun _ => BitVec.ofNat 32 e.val) (r : Fin 43008) (j : Fin 2048) :
    (step_main_v13_6 W : Vec Ideal S43008x2048 .f32) (ix2 r j)
      = acc W (ix2 r j) + gate W (ix2 e r)
          * ffn (fun k => rows W (ix2 r k)) (fun k d => wA W (ix3 e k d)) (fun k d => wB W (ix3 e k d)) (fun d j => wC W (ix3 e d j)) j := by
  have s := start_eq e hc
  unfold step_main_v13_6
  refine congrArg₂ (fun a b : EReal => acc W (ix2 r j) + a * b) (?_ : broadcastInDim (s := S43008x1) (α := EReal) S43008x2048 ![0, 1] bcast_S43008x1_S43008x2048_0_1 _ (ix2 r j) = _)
    (?_ : Host.dotGeneral (F := Ideal) dot_S43008x512_S512x2048_S43008x2048_1_0_0_1_n_n none _ _ (ix2 r j) = _)
  · rw [broadcastInDim_apply _ _ _ (ix2 r j) (ix2 r (0 : Fin 1)) (by intro a; match a with | ⟨0, _⟩ => rfl | ⟨1, _⟩ => rfl),
      broadcastInDim_apply _ _ _ (ix2 r (0 : Fin 1)) (ix1 r) (by intro a; match a with | ⟨0, _⟩ => rfl)]
    exact line_apply (A := 32) (B := 43008) (gate W) _ _ _ e s rfl r
  · refine (down_apply _ _ r j).trans ?_
    unfold ffn hid
    refine Finset.sum_congr rfl fun d _ => ?_
    refine congrArg₂ (fun a b : EReal => a * b) ?_ (slab_apply (A := 32) (B := 512) (C := 2048) (wC W) _ _ _ e s rfl rfl d j)
    have e1 : res_main_while0b_v18 W (ix2 r d) = ∑ k : Fin 2048, rows W (ix2 r k) * wA W (ix3 e k d) := by
      unfold res_main_while0b_v18
      refine (up_apply _ _ r d).trans (Finset.sum_congr rfl fun k _ => ?_)
      exact congrArg (rows W (ix2 r k) * ·) (slab_apply (A := 32) (B := 2048) (C := 512) (wA W) _ _ _ e s rfl rfl k d)
    change ((show EReal from (res_main_while0b_v18 W : Vec Ideal S43008x512 .f32) (ix2 r d)) * Ideal.div (broadcastInDim S43008x512 ![] bcast_S_S43008x512 (constant (F := Ideal) S_ .f32 0x3F800000#32) (ix2 r d))
      (broadcastInDim S43008x512 ![] bcast_S_S43008x512 (constant (F := Ideal) S_ .f32 0x3F800000#32) (ix2 r d) + Ideal.exp (-(show EReal from (res_main_while0b_v18 W : Vec Ideal S43008x512 .f32) (ix2 r d)))) : EReal)
      * Host.dotGeneral (F := Ideal) dot_S43008x2048_S2048x512_S43008x512_1_0_0_1_n_n none _ _ (ix2 r d) = _
    rw [one_apply, e1]
    refine congrArg₂ (fun a b : EReal => a * b) rfl ?_
    refine (up_apply _ _ r d).trans (Finset.sum_congr rfl fun k _ => ?_)
    exact congrArg (rows W (ix2 r k) * ·) (slab_apply (A := 32) (B := 2048) (C := 512) (wB W) _ _ _ e s rfl rfl k d)

end Cert.ReferenceIdeal.Moe
-- ==== Proof.Fold.lean ====
/- The reference's loop over the experts run through: entry `(r, j)` is the sum over the experts of the gate of row `r`
   times the row's feed-forward, and the gates of a row being those of one expert, or all zero, the sum is that expert's
   feed-forward, or zero. -/
module

public import proofs.«01_k».proof.Proof.Step
public import proofs.«01_k».proof.Proof.Value
public import Idealize.ShloMosaic.Lib.Claim
public import Idealize.ShloMosaic.Lib.Pointwise.Reshape

@[expose] public section

set_option maxRecDepth 16384

noncomputable section

namespace Cert.ReferenceIdeal.Moe

open Cert.ReferenceIdeal.Gen Cert.ReferenceIdeal.Value Cert.Ffn
open Idealize.ShloMosaic hiding ix0 ix1 ix2 ix3 ix4 ix5
open Idealize.ShloMosaic.TcCoe Idealize.ShloMosaic.ValueIdx
open Idealize.ShloMosaic.Tactic
open Idealize.ShloMosaic.StableHlo
open Idealize.SL.Sem

/-- What expert `e` adds to entry `(r, j)`. -/
def adds (W : Valuation τ sig (Elt Ideal)) (r : Fin 43008) (j : Fin 2048) (e : Fin 32) : EReal :=
  gate W (ix2 e r)
    * ffn (fun k => rows W (ix2 r k)) (fun k d => wA W (ix3 e k d)) (fun k d => wB W (ix3 e k d)) (fun d j => wC W (ix3 e d j)) j

/-- The loop after `k` trips from contents `W`. -/
theorem after_trips (W : Valuation τ sig (Elt Ideal)) (h0 : W (Proc.devRef .tc main_v13_5) = fun _ => (0#32 : BitVec 32))
    (k : ℕ) (hk : k ≤ 32) :
    (STEP^[k] W) (Proc.devRef .tc main_v13_0) = W (Proc.devRef .tc main_v13_0)
      ∧ (STEP^[k] W) (Proc.devRef .tc main_v13_1) = W (Proc.devRef .tc main_v13_1)
      ∧ (STEP^[k] W) (Proc.devRef .tc main_v13_2) = W (Proc.devRef .tc main_v13_2)
      ∧ (STEP^[k] W) (Proc.devRef .tc main_v13_3) = W (Proc.devRef .tc main_v13_3)
      ∧ (STEP^[k] W) (Proc.devRef .tc main_v13_4) = W (Proc.devRef .tc main_v13_4)
      ∧ (STEP^[k] W) (Proc.devRef .tc main_v13_5) = (fun _ => BitVec.ofNat 32 k)
      ∧ ∀ (r : Fin 43008) (j : Fin 2048), acc (STEP^[k] W) (ix2 r j)
          = acc W (ix2 r j) + ∑ n ∈ Finset.range k, if h : n < 32 then adds W r j ⟨n, h⟩ else 0 := by
  induction k with
  | zero => exact ⟨rfl, rfl, rfl, rfl, rfl, h0, fun r j => by simp⟩
  | succ k ih =>
    obtain ⟨i0, i1, i2, i3, i4, i5, i6⟩ := ih (by omega)
    rw [Function.iterate_succ_apply']
    refine ⟨(STEP_main_v13_0 _).trans i0, (STEP_main_v13_1 _).trans i1, (STEP_main_v13_2 _).trans i2, (STEP_main_v13_3 _).trans i3,
      (STEP_main_v13_4 _).trans i4, (STEP_main_v13_5 _).trans ?_, fun r j => ?_⟩
    · unfold step_main_v13_5
      rw [i5]
      funext i
      show BitVec.ofNat 32 k + 1#32 = BitVec.ofNat 32 (k + 1)
      apply BitVec.eq_of_toNat_eq
      rw [BitVec.toNat_add]
      simp
    · show (STEP (STEP^[k] W) (Proc.devRef .tc main_v13_6) : Vec Ideal S43008x2048 .f32) (ix2 r j) = _
      rw [STEP_main_v13_6]
      refine (step_apply (STEP^[k] W) ⟨k, by omega⟩ i5 r j).trans ?_
      rw [i6 r j, Finset.sum_range_succ, dif_pos (show k < 32 by omega), add_assoc]
      refine congrArg (fun b : EReal => _ + (_ + b)) ?_
      unfold adds
      show gate _ _ * ffn (fun k => rows _ _) (fun k d => wA _ _) (fun k d => wB _ _) (fun d j => wC _ _) j = _
      unfold gate rows wA wB wC
      rw [i0, i1, i2, i3, i4]

theorem total (W : Valuation τ sig (Elt Ideal)) (h0 : W (Proc.devRef .tc main_v13_5) = fun _ => (0#32 : BitVec 32))
    (r : Fin 43008) (j : Fin 2048) (hz : acc W (ix2 r j) = (0 : EReal)) :
    acc (STEP^[32] W) (ix2 r j) = ∑ e : Fin 32, adds W r j e := by
  rw [(after_trips W h0 32 (le_refl _)).2.2.2.2.2.2 r j, hz, zero_add, Finset.sum_range]
  refine Finset.sum_congr rfl fun e _ => ?_
  rw [dif_pos e.isLt]

/-! ## The loop's entry -/

variable (m : (ℓ : Loc nD τ sig) → Buf (Elt Ideal) ℓ)

abbrev E (c : Dev nD) : Valuation τ sig (Elt Ideal) := entryContents preI m c

abbrev argT (c : Dev nD) : IVec S168 32 := m ((c.tc : Thread nD τ).loc main_arg0)
abbrev argN (c : Dev nD) : IVec S1 32 := m ((c.tc : Thread nD τ).loc main_arg1)
abbrev argX (c : Dev nD) : Vec Ideal S43008x2048 .f32 := m ((c.tc : Thread nD τ).loc main_arg2)
abbrev argA (c : Dev nD) : Vec Ideal S1x32x2048x512 .f32 := m ((c.tc : Thread nD τ).loc main_arg3)
abbrev argB (c : Dev nD) : Vec Ideal S1x32x2048x512 .f32 := m ((c.tc : Thread nD τ).loc main_arg4)
abbrev argC (c : Dev nD) : Vec Ideal S1x32x512x2048 .f32 := m ((c.tc : Thread nD τ).loc main_arg5)

/-- The tiles' experts, `-1` at an unused tile. -/
def masked (te : IVec S168 32) (nu : IVec S1 32) : IVec S168 32 :=
  select (cmpi .slt (iotaInDim S168 32 0) (broadcastInDim S168 ![] bcast_S_S168 (shapeCast S_ nu shapeCasts_S1_S_)))
    te (broadcastInDim S168 ![] bcast_S_S168 (constantI S_ 32 4294967295#32))

/-- The gates, per tile and expert. -/
def gates (te : IVec S168 32) (nu : IVec S1 32) : FVec Ideal S168x32 .f32 :=
  uitofp .f32 (cmpi .eq (broadcastInDim S168x32 ![0, 1] bcast_S168x1_S168x32_0_1 (broadcastInDim S168x1 ![0] bcast_S168_S168x1_0 (masked te nu)))
    (broadcastInDim S168x32 ![0, 1] bcast_S1x32_S168x32_0_1 (iotaInDim S1x32 32 1)))

theorem entry_wA (c : Dev nD) : wA (E m c) = shapeCast S32x2048x512 (argA m c) shapeCasts_S1x32x2048x512_S32x2048x512 := by
  unfold wA E; simp only [entryContents, afterL_cons, afterL_nil]; after_reads_simp; rfl
theorem entry_wB (c : Dev nD) : wB (E m c) = shapeCast S32x2048x512 (argB m c) shapeCasts_S1x32x2048x512_S32x2048x512 := by
  unfold wB E; simp only [entryContents, afterL_cons, afterL_nil]; after_reads_simp; rfl
theorem entry_wC (c : Dev nD) : wC (E m c) = shapeCast S32x512x2048 (argC m c) shapeCasts_S1x32x512x2048_S32x512x2048 := by
  unfold wC E; simp only [entryContents, afterL_cons, afterL_nil]; after_reads_simp; rfl
theorem entry_rows (c : Dev nD) : rows (E m c) = argX m c := by
  unfold rows E; simp only [entryContents, afterL_cons, afterL_nil]; after_reads_simp; rfl
theorem entry_acc (c : Dev nD) : acc (E m c) = broadcastInDim S43008x2048 ![] bcast_S_S43008x2048 (constant (F := Ideal) S_ .f32 0x00000000#32) := by
  unfold acc E; simp only [entryContents, afterL_cons, afterL_nil]; after_reads_simp; rfl
theorem entry_gate (c : Dev nD) : gate (E m c)
    = transpose S32x43008 [1, 0] (shapeCast S43008x32 (broadcastInDim S168x256x32 ![0, 2] bcast_S168x32_S168x256x32_0_2 (gates (argT m c) (argN m c)))
        shapeCasts_S168x256x32_S43008x32) transposes_S43008x32_S32x43008_1_0 := by
  unfold gate E; simp only [entryContents, afterL_cons, afterL_nil]; after_reads_simp; rfl

/-! ## The loop's result -/

/-- The one index of a one-entry array. -/
abbrev one : S1.Idx := Shape.Idx.first (by decide)

theorem all_one (i : S1.Idx) : i = one := funext fun a => by
  match a with
  | ⟨0, _⟩ => exact Subsingleton.elim (α := Fin 1) _ _

theorem masked_apply (te : IVec S168 32) (nu : IVec S1 32) (t : Fin 168) :
    masked te nu (ix1 t) = if (BitVec.ofNat 32 t.val).slt (nu one) = true then te (ix1 t) else 4294967295#32 := by
  have e : masked te nu (ix1 t)
      = Scalar.select (BitVec.ofBool ((BitVec.ofNat 32 t.val).slt (nu (Shape.reshapeEquiv shapeCasts_S1_S_ ix0)))) (te (ix1 t)) 4294967295#32 := by
    unfold masked
    rw [select_apply, broadcastInDim_scalar_apply]
    show Scalar.select (IntOp.cmpi .slt (BitVec.ofNat 32 t.val) (broadcastInDim S168 ![] bcast_S_S168 (shapeCast S_ nu shapeCasts_S1_S_) (ix1 t))) _ _ = _
    rw [broadcastInDim_scalar_apply]
    rfl
  rw [e, all_one (Shape.reshapeEquiv shapeCasts_S1_S_ ix0)]
  cases (BitVec.ofNat 32 t.val).slt (nu one)
  · rfl
  · rfl

theorem across (x : IVec S168 32) (t : Fin 168) (e : Fin 32) :
    broadcastInDim S168x32 ![0, 1] bcast_S168x1_S168x32_0_1 (broadcastInDim S168x1 ![0] bcast_S168_S168x1_0 x) (ix2 t e) = x (ix1 t) :=
  (broadcastInDim_apply _ _ _ (ix2 t e) (ix2 t (0 : Fin 1)) (by intro a; match a with | ⟨0, _⟩ => rfl | ⟨1, _⟩ => rfl)).trans
    (broadcastInDim_apply _ _ _ (ix2 t (0 : Fin 1)) (ix1 t) (by intro a; match a with | ⟨0, _⟩ => rfl))

theorem down (x : IVec S1x32 32) (t : Fin 168) (e : Fin 32) :
    broadcastInDim S168x32 ![0, 1] bcast_S1x32_S168x32_0_1 x (ix2 t e) = x (ix2 (0 : Fin 1) e) :=
  broadcastInDim_apply _ _ _ (ix2 t e) (ix2 (0 : Fin 1) e) (by intro a; match a with | ⟨0, _⟩ => rfl | ⟨1, _⟩ => rfl)

theorem gates_apply (te : IVec S168 32) (nu : IVec S1 32) (t : Fin 168) (e : Fin 32) :
    gates te nu (ix2 t e) = if masked te nu (ix1 t) = BitVec.ofNat 32 e.val then (1 : EReal) else 0 := by
  have e1 : gates te nu (ix2 t e) = FloatOps.uitofp (F := Ideal) .f32 (IntOp.cmpi .eq (masked te nu (ix1 t)) (BitVec.ofNat 32 e.val)) := by
    unfold gates
    exact congrArg₂ (fun a b => FloatOps.uitofp (F := Ideal) .f32 (IntOp.cmpi .eq a b)) (across _ t e) (down _ t e)
  rw [e1]
  generalize masked te nu (ix1 t) = w
  by_cases hw : w = BitVec.ofNat 32 e.val
  · rw [if_pos hw, Predicate.cmpi_eq_iff.mpr hw]
    show ((((1#1 : BitVec 1).toNat : ℝ)) : EReal) = 1
    simp
  · rw [if_neg hw, eq_zero_of_ne_one (fun h => hw (Predicate.cmpi_eq_iff.mp h))]
    show ((((0#1 : BitVec 1).toNat : ℝ)) : EReal) = 0
    simp

theorem gate_apply (c : Dev nD) (e : Fin 32) (r : Fin 43008) :
    gate (E m c) (ix2 e r) = gates (argT m c) (argN m c) (ix2 (tileOf r) e) := by
  rw [entry_gate, transpose_ix2_apply]
  show broadcastInDim (s := S168x32) (α := EReal) S168x256x32 ![0, 2] bcast_S168x32_S168x256x32_0_2 _ (Shape.reshapeEquiv shapeCasts_S168x256x32_S43008x32 (ix2 r e)) = _
  rw [Shape.reshapeEquiv_eq_of_vals shapeCasts_S168x256x32_S43008x32 (ix2 r e) (ix3 (tileOf r) (⟨r.val % 256, by omega⟩ : Fin 256) e)
    _ _ (rowMajor_val3 _ (256 * 32) 32 rfl rfl) (rowMajor_val2 _ 32 rfl)
    (by show r.val / 256 * (256 * 32) + r.val % 256 * 32 + e.val = r.val * 32 + e.val; omega)]
  exact broadcastInDim_apply _ _ _ _ (ix2 (tileOf r) e) (by intro a; match a with | ⟨0, _⟩ => rfl | ⟨1, _⟩ => rfl)

theorem value (c : Dev nD) (h : ∀ i, (argT m c i).toNat < 32) (r : Fin 43008) (j : Fin 2048) :
    acc (STEP^[32] (E m c)) (ix2 r j)
      = moe (argT m c) h (argN m c one) (argX m c) (argA m c) (argB m c) (argC m c) (tileOf r) r j := by
  rw [total (E m c) (ctr_entry m c) r j (by rw [entry_acc, broadcastInDim_scalar_apply]; exact Ideal.ofBits_zero_f32)]
  have ha : ∀ e : Fin 32, adds (E m c) r j e
      = (if masked (argT m c) (argN m c) (ix1 (tileOf r)) = BitVec.ofNat 32 e.val then (1 : EReal) else 0)
        * ffn (fun k => argX m c (ix2 r k)) (fun k d => argA m c (ix4 (0 : Fin 1) e k d)) (fun k d => argB m c (ix4 (0 : Fin 1) e k d))
            (fun d j => argC m c (ix4 (0 : Fin 1) e d j)) j := fun e => by
    unfold adds
    rw [gate_apply, gates_apply, entry_rows, entry_wA, entry_wB, entry_wC]
    have a1 : ∀ k d, shapeCast S32x2048x512 (argA m c) shapeCasts_S1x32x2048x512_S32x2048x512 (ix3 e k d) = argA m c (ix4 (0 : Fin 1) e k d) :=
      fun k d => shapeCast_1abc_abc_apply (argA m c) _ e k d
    have a2 : ∀ k d, shapeCast S32x2048x512 (argB m c) shapeCasts_S1x32x2048x512_S32x2048x512 (ix3 e k d) = argB m c (ix4 (0 : Fin 1) e k d) :=
      fun k d => shapeCast_1abc_abc_apply (argB m c) _ e k d
    have a3 : ∀ d k, shapeCast S32x512x2048 (argC m c) shapeCasts_S1x32x512x2048_S32x512x2048 (ix3 e d k) = argC m c (ix4 (0 : Fin 1) e d k) :=
      fun d k => shapeCast_1abc_abc_apply (argC m c) _ e d k
    simp only [a1, a2, a3]
  rw [Finset.sum_congr rfl fun e _ => ha e, masked_apply]
  unfold moe
  by_cases hu : (BitVec.ofNat 32 (tileOf r).val).slt (argN m c one) = true
  · rw [if_pos hu, if_pos hu]
    have hlt := h (ix1 (tileOf r))
    rw [Finset.sum_eq_single (⟨(argT m c (ix1 (tileOf r))).toNat, hlt⟩ : Fin 32)]
    · rw [if_pos (by simp), one_mul]
    · intro e _ hne
      rw [if_neg, zero_mul]
      intro heq
      apply hne; apply Fin.ext
      show e.val = (argT m c (ix1 (tileOf r))).toNat
      rw [heq, BitVec.toNat_ofNat]; omega
    · intro hn; exact absurd (Finset.mem_univ _) hn
  · rw [if_neg hu, if_neg hu]
    refine Finset.sum_eq_zero fun e _ => ?_
    rw [if_neg, zero_mul]
    intro heq
    have := congrArg BitVec.toNat heq
    rw [BitVec.toNat_ofNat] at this
    have he := e.isLt
    have h2 : 4294967295 = e.val % 2 ^ 32 := this
    omega

end Cert.ReferenceIdeal.Moe
-- ==== Proof.lean ====
/- The claims. For the experts: the program's and its idealization's frames from one run for any values, the reference's
   frame from its run, and the algebraic claim, both programs end holding `Ffn.moe` of the argument arrays. For the small
   projection, and for the gated sum of the branches: the frames, and the algebraic claim, both programs end holding the
   same arrays. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.Pre_te_ok
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal.Run
public import proofs.«01_k».proof.Proof.Gen.Reference7Ideal.Read
public import proofs.«01_k».proof.Proof.Value
public import proofs.«01_k».proof.Proof.KvUp
public import proofs.«01_k».proof.Proof.OutProj
public import proofs.«01_k».proof.Proof.Query
public import proofs.«01_k».proof.Proof.Sample
public import proofs.«01_k».proof.Proof.Fold
public import proofs.«01_k».proof.Proof.SmallEqual
public import proofs.«01_k».proof.Proof.Merge
public import Idealize.ShloMosaic.Adequacy
public import Idealize.ShloMosaic.Init

@[expose] public section

noncomputable section

namespace Cert.Proof

open Idealize.ShloMosaic hiding ix0 ix1 ix2 ix3 ix4 ix5
open Idealize.ShloMosaic.TcCoe Idealize.ShloMosaic.ValueIdx Idealize.SL.Sem

/-- The program's and its idealization's calls have the same bodies. -/
theorem same_bodies : (@Cert.Kernel.defs₀ Bits _ _) = (@Cert.KernelIdeal.defs₀ Bits _ _) := by
  unfold Cert.Kernel.defs₀ Cert.KernelIdeal.defs₀
  refine congrArg Defs.onTc (funext fun l => funext fun ts => ?_)
  match l, ts with
  | 0, (t, s) => exact rfl

theorem same_calls : (@Cert.Kernel.defs Bits _ _) = (@Cert.KernelIdeal.defs Bits _ _) :=
  congrArg (Pipeline.defs (Cert.KernelIdeal.pcfgs (F := Bits))) same_bodies

theorem same_main : (@Cert.Kernel.main Bits _ _) = (@Cert.KernelIdeal.main Bits _ _) := rfl

/-- The program runs, keeps its arguments and leaves every counter at zero. -/
theorem frame_kernel : Cert.quiescent_Kernel := by
  intro m ρ hp
  rw [same_calls, same_main]
  exact (θ_run Cert.KernelIdeal.defs _ _).mono (fun _ h => ⟨fun c => (h.1 c).2, h.2⟩)
    (Cert.KernelIdeal.Moe.run_main (F := Bits) m ρ (Cert.KernelIdeal.Moe.fits_of_pre (F := Bits) m 0 (hp 0)))

theorem frame_ideal : Cert.quiescent_KernelIdeal := fun m ρ hp =>
  (θ_run Cert.KernelIdeal.defs _ _).mono (fun _ h => ⟨fun c => (h.1 c).2, h.2⟩)
    (Cert.KernelIdeal.Moe.run_main m ρ (Cert.KernelIdeal.Moe.fits_of_pre m 0 (hp 0)))

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

theorem moe_congr {te te' : (⟨1, ![168]⟩ : Shape).Idx → BitVec 32} (hte : ∀ i, (te i).toNat < 32) (hte' : ∀ i, (te' i).toNat < 32)
    {nu nu' : BitVec 32} {x x' : (⟨2, ![43008, 2048]⟩ : Shape).Idx → EReal} {w1 w1' w3 w3' : (⟨4, ![1, 32, 2048, 512]⟩ : Shape).Idx → EReal}
    {w2 w2' : (⟨4, ![1, 32, 512, 2048]⟩ : Shape).Idx → EReal} (e0 : te' = te) (e1 : nu' = nu) (e2 : x' = x) (e3 : w1' = w1)
    (e4 : w3' = w3) (e5 : w2' = w2) (t : Fin 168) (r : Fin 43008) (j : Fin 2048) :
    Ffn.moe te' hte' nu' x' w1' w3' w2' t r j = Ffn.moe te hte nu x w1 w3 w2 t r j := by
  subst e0 e1 e2 e3 e4 e5; rfl

theorem equal : Cert.algebraic_KernelIdeal_ReferenceIdeal := fun m ρ m' ρ' hp ha => by
  have hs : ∀ i, (Cert.KernelIdeal.Moe.experts m i).toNat < 32 := Cert.KernelIdeal.Moe.small_of_pre _ _ _ _ _ _ (hp 0)
  have hO := Cert.KernelIdeal.Moe.fits m hs
  refine ⟨fun c => Cert.KernelIdeal.Moe.result m hs c, ?_, ?_⟩
  · exact (θ_run Cert.KernelIdeal.defs _ _).mono
      (fun _ h c => ⟨(h.1 c).1.trans (Cert.KernelIdeal.Moe.out_eq m hO hs c), (h.1 c).2⟩) (Cert.KernelIdeal.Moe.run_main m ρ hO)
  · refine (θ_run Cert.ReferenceIdeal.defs _ _).mono (fun r h c => ⟨(h c).1.trans ?_, (h c).2⟩) (Cert.ReferenceIdeal.Value.run m' ρ')
    obtain rfl : c = 0 := Subsingleton.elim _ _
    obtain ⟨a0, a1, a2, a3, a4, a5⟩ := ha 0
    have a0' : Cert.ReferenceIdeal.Moe.argT m' 0 = Cert.KernelIdeal.Moe.experts m := a0
    have hs' : ∀ i, (Cert.ReferenceIdeal.Moe.argT m' 0 i).toNat < 32 := fun i => by rw [a0']; exact hs i
    have key : ∀ (r : Fin 43008) (j : Fin 2048), Cert.ReferenceIdeal.Moe.acc (Cert.ReferenceIdeal.Value.STEP^[32] (Cert.ReferenceIdeal.Moe.E m' 0)) (ix2 r j)
        = Cert.KernelIdeal.Moe.result m hs 0 (ix2 r j) := fun r j =>
      (Cert.ReferenceIdeal.Moe.value m' 0 hs' r j).trans
        (moe_congr hs hs' a0' ((congrFun a1 _).trans (congrFun (Cert.KernelIdeal.Moe.tab_1 m).symm _)) a2 a3 a4 a5 _ r j)
    funext i
    obtain ⟨r, j, e⟩ := Cert.KernelIdeal.Moe.ix2_of' i
    obtain rfl : i = (ix2 r j : Cert.KernelIdeal.S43008x2048.Idx) := e
    exact key r j

theorem frame_kernel2 : Cert.quiescent_Kernel2 := fun m ρ _ => Cert.Kernel2.Gen.frame m ρ

theorem frame_ideal2 : Cert.quiescent_Kernel2Ideal := fun m ρ _ => Cert.Kernel2Ideal.Gen.frame m ρ

theorem frame_reference2 : Cert.quiescent_Reference2Ideal := fun m ρ _ =>
  (θ_run Cert.Reference2Ideal.defs _ _).mono
    (fun r h => ⟨fun c => (h c).2.2.2.2.2, sem_eq_zero_of_no_sems (by decide) r.2⟩) (Cert.Reference2Ideal.Value.run m ρ)

theorem frame_kernel3 : Cert.quiescent_Kernel3 := fun m ρ _ => Cert.Kernel3.Gen.frame m ρ

theorem frame_ideal3 : Cert.quiescent_Kernel3Ideal := fun m ρ _ => Cert.Kernel3Ideal.Gen.frame m ρ

theorem frame_reference3 : Cert.quiescent_Reference3Ideal := fun m ρ _ =>
  (θ_run Cert.Reference3Ideal.defs _ _).mono
    (fun r h => ⟨fun c => (h c).2, sem_eq_zero_of_no_sems (by decide) r.2⟩) (Cert.Reference3Ideal.Value.run m ρ)

theorem frame_kernel4 : Cert.quiescent_Kernel4 := fun m ρ _ => Cert.Kernel4.Gen.frame m ρ

theorem frame_ideal4 : Cert.quiescent_Kernel4Ideal := fun m ρ _ => Cert.Kernel4Ideal.Gen.frame m ρ

theorem frame_reference4 : Cert.quiescent_Reference4Ideal := fun m ρ _ =>
  (θ_run Cert.Reference4Ideal.defs _ _).mono
    (fun r h => ⟨fun c => (h c).2.2.2.2.2, sem_eq_zero_of_no_sems (by decide) r.2⟩) (Cert.Reference4Ideal.Value.run m ρ)

theorem frame_kernel5 : Cert.quiescent_Kernel5 := fun m ρ _ => Cert.Kernel5.Gen.frame m ρ

theorem frame_ideal5 : Cert.quiescent_Kernel5Ideal := fun m ρ _ => Cert.Kernel5Ideal.Gen.frame m ρ

theorem frame_reference5 : Cert.quiescent_Reference5Ideal := fun m ρ _ =>
  (θ_run Cert.Reference5Ideal.defs _ _).mono
    (fun r h => ⟨fun c => (h c).2, sem_eq_zero_of_no_sems (by decide) r.2⟩) (Cert.Reference5Ideal.Value.run m ρ)

theorem frame_kernel6 : Cert.quiescent_Kernel6 := fun m ρ _ => Cert.Kernel6.Gen.frame m ρ

theorem frame_ideal6 : Cert.quiescent_Kernel6Ideal := fun m ρ _ => Cert.Kernel6Ideal.Gen.frame m ρ

theorem frame_reference6 : Cert.quiescent_Reference6Ideal := fun m ρ _ =>
  (θ_run Cert.Reference6Ideal.defs _ _).mono
    (fun r h => ⟨fun c => (h c).2.2, sem_eq_zero_of_no_sems (by decide) r.2⟩) (Cert.Reference6Ideal.Value.run m ρ)

theorem frame_kernel7 : Cert.quiescent_Kernel7 := fun m ρ _ => Cert.Kernel7.Gen.frame m ρ

theorem frame_ideal7 : Cert.quiescent_Kernel7Ideal := fun m ρ _ => Cert.Kernel7Ideal.Gen.frame m ρ

theorem frame_reference7 : Cert.quiescent_Reference7Ideal := fun m ρ _ =>
  (θ_run Cert.Reference7Ideal.defs _ _).mono
    (fun r h => ⟨fun c => (h c).2, sem_eq_zero_of_no_sems (by decide) r.2⟩) (Cert.Reference7Ideal.Value.run m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts, Cert.Pre_te_ok.Gen.facts,
  frame_kernel, frame_ideal, frame_reference, frame_kernel2, frame_ideal2, frame_reference2,
  frame_kernel3, frame_ideal3, frame_reference3, frame_kernel4, frame_ideal4, frame_reference4,
  frame_kernel5, frame_ideal5, frame_reference5,
  frame_kernel6, frame_ideal6, frame_reference6,
  frame_kernel7, frame_ideal7, frame_reference7, trivial, equal, trivial,
  Cert.Small.equal, trivial, Cert.Merge.equal, trivial, Cert.Kernel4Ideal.Sample.equal, trivial, Cert.Query.equal, trivial, Cert.OutProj.equal, trivial, Cert.KvUp.equal⟩

end Cert.Proof

end
